-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Backward (m : (ℓ : Loc Cert.Backward.nD Cert.Backward.τ Cert.Backward.sig) → Buf (Elt Bits) ℓ) : Prop :=
  True

def Pre_BackwardIdeal (m : (ℓ : Loc Cert.BackwardIdeal.nD Cert.BackwardIdeal.τ Cert.BackwardIdeal.sig) → Buf (Elt Ideal) ℓ) : Prop :=
  True

def Pre_BackwardIdeal_finite [hPre_finite : Cert.Pre_finite.Facts] (m : (ℓ : Loc Cert.BackwardIdeal.nD Cert.BackwardIdeal.τ Cert.BackwardIdeal.sig) → Buf (Elt Ideal) ℓ) : Prop :=
  ∀ c : Dev Cert.BackwardIdeal.nD,
    (Cert.Pre_finite.fn (F := Ideal) (m ((c.tc : Thread Cert.BackwardIdeal.nD Cert.BackwardIdeal.τ).loc Cert.BackwardIdeal.main_arg0)) (m ((c.tc : Thread Cert.BackwardIdeal.nD Cert.BackwardIdeal.τ).loc Cert.BackwardIdeal.main_arg1)) (m ((c.tc : Thread Cert.BackwardIdeal.nD Cert.BackwardIdeal.τ).loc Cert.BackwardIdeal.main_arg2)) (m ((c.tc : Thread Cert.BackwardIdeal.nD Cert.BackwardIdeal.τ).loc Cert.BackwardIdeal.main_arg3)) (m ((c.tc : Thread Cert.BackwardIdeal.nD Cert.BackwardIdeal.τ).loc Cert.BackwardIdeal.main_arg4)) (m ((c.tc : Thread Cert.BackwardIdeal.nD Cert.BackwardIdeal.τ).loc Cert.BackwardIdeal.main_arg5)) (m ((c.tc : Thread Cert.BackwardIdeal.nD Cert.BackwardIdeal.τ).loc Cert.BackwardIdeal.main_arg6)) (m ((c.tc : Thread Cert.BackwardIdeal.nD Cert.BackwardIdeal.τ).loc Cert.BackwardIdeal.main_arg7))).1 = (fun _ => 1#1)
    ∧ (Cert.Pre_finite.fn (F := Ideal) (m ((c.tc : Thread Cert.BackwardIdeal.nD Cert.BackwardIdeal.τ).loc Cert.BackwardIdeal.main_arg0)) (m ((c.tc : Thread Cert.BackwardIdeal.nD Cert.BackwardIdeal.τ).loc Cert.BackwardIdeal.main_arg1)) (m ((c.tc : Thread Cert.BackwardIdeal.nD Cert.BackwardIdeal.τ).loc Cert.BackwardIdeal.main_arg2)) (m ((c.tc : Thread Cert.BackwardIdeal.nD Cert.BackwardIdeal.τ).loc Cert.BackwardIdeal.main_arg3)) (m ((c.tc : Thread Cert.BackwardIdeal.nD Cert.BackwardIdeal.τ).loc Cert.BackwardIdeal.main_arg4)) (m ((c.tc : Thread Cert.BackwardIdeal.nD Cert.BackwardIdeal.τ).loc Cert.BackwardIdeal.main_arg5)) (m ((c.tc : Thread Cert.BackwardIdeal.nD Cert.BackwardIdeal.τ).loc Cert.BackwardIdeal.main_arg6)) (m ((c.tc : Thread Cert.BackwardIdeal.nD Cert.BackwardIdeal.τ).loc Cert.BackwardIdeal.main_arg7))).2 = (fun _ => 1#1)

def Pre_BackwardReferenceIdeal (m : (ℓ : Loc Cert.BackwardReferenceIdeal.nD Cert.BackwardReferenceIdeal.τ Cert.BackwardReferenceIdeal.sig) → Buf (Elt Ideal) ℓ) : Prop :=
  True

def Pre_BackwardReferenceIdeal_finite [hPre_finite : Cert.Pre_finite.Facts] (m : (ℓ : Loc Cert.BackwardReferenceIdeal.nD Cert.BackwardReferenceIdeal.τ Cert.BackwardReferenceIdeal.sig) → Buf (Elt Ideal) ℓ) : Prop :=
  ∀ c : Dev Cert.BackwardReferenceIdeal.nD,
    (Cert.Pre_finite.fn (F := Ideal) (m ((c.tc : Thread Cert.BackwardReferenceIdeal.nD Cert.BackwardReferenceIdeal.τ).loc Cert.BackwardReferenceIdeal.main_arg0)) (m ((c.tc : Thread Cert.BackwardReferenceIdeal.nD Cert.BackwardReferenceIdeal.τ).loc Cert.BackwardReferenceIdeal.main_arg1)) (m ((c.tc : Thread Cert.BackwardReferenceIdeal.nD Cert.BackwardReferenceIdeal.τ).loc Cert.BackwardReferenceIdeal.main_arg2)) (m ((c.tc : Thread Cert.BackwardReferenceIdeal.nD Cert.BackwardReferenceIdeal.τ).loc Cert.BackwardReferenceIdeal.main_arg3)) (m ((c.tc : Thread Cert.BackwardReferenceIdeal.nD Cert.BackwardReferenceIdeal.τ).loc Cert.BackwardReferenceIdeal.main_arg4)) (m ((c.tc : Thread Cert.BackwardReferenceIdeal.nD Cert.BackwardReferenceIdeal.τ).loc Cert.BackwardReferenceIdeal.main_arg5)) (m ((c.tc : Thread Cert.BackwardReferenceIdeal.nD Cert.BackwardReferenceIdeal.τ).loc Cert.BackwardReferenceIdeal.main_arg6)) (m ((c.tc : Thread Cert.BackwardReferenceIdeal.nD Cert.BackwardReferenceIdeal.τ).loc Cert.BackwardReferenceIdeal.main_arg7))).1 = (fun _ => 1#1)
    ∧ (Cert.Pre_finite.fn (F := Ideal) (m ((c.tc : Thread Cert.BackwardReferenceIdeal.nD Cert.BackwardReferenceIdeal.τ).loc Cert.BackwardReferenceIdeal.main_arg0)) (m ((c.tc : Thread Cert.BackwardReferenceIdeal.nD Cert.BackwardReferenceIdeal.τ).loc Cert.BackwardReferenceIdeal.main_arg1)) (m ((c.tc : Thread Cert.BackwardReferenceIdeal.nD Cert.BackwardReferenceIdeal.τ).loc Cert.BackwardReferenceIdeal.main_arg2)) (m ((c.tc : Thread Cert.BackwardReferenceIdeal.nD Cert.BackwardReferenceIdeal.τ).loc Cert.BackwardReferenceIdeal.main_arg3)) (m ((c.tc : Thread Cert.BackwardReferenceIdeal.nD Cert.BackwardReferenceIdeal.τ).loc Cert.BackwardReferenceIdeal.main_arg4)) (m ((c.tc : Thread Cert.BackwardReferenceIdeal.nD Cert.BackwardReferenceIdeal.τ).loc Cert.BackwardReferenceIdeal.main_arg5)) (m ((c.tc : Thread Cert.BackwardReferenceIdeal.nD Cert.BackwardReferenceIdeal.τ).loc Cert.BackwardReferenceIdeal.main_arg6)) (m ((c.tc : Thread Cert.BackwardReferenceIdeal.nD Cert.BackwardReferenceIdeal.τ).loc Cert.BackwardReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Backward [hBackward : Cert.Backward.Facts] : Prop :=
  ∀ (m : (ℓ : Loc Cert.Backward.nD Cert.Backward.τ Cert.Backward.sig) → Buf (Elt Bits) ℓ) (g : Dev Cert.Backward.nD → PrngReg), Pre_Backward m →
    θ_run (Cert.Backward.defs (F := Bits)) (onTc (τ := Cert.Backward.τ) (Cert.Backward.main (F := Bits))) ⟨m, fun _ => 0, g⟩ (fun r => (∀ c : Dev Cert.Backward.nD,
      r.2.mem ((c.tc : Thread Cert.Backward.nD Cert.Backward.τ).loc Cert.Backward.main_arg0) = m ((c.tc : Thread Cert.Backward.nD Cert.Backward.τ).loc Cert.Backward.main_arg0)
      ∧ r.2.mem ((c.tc : Thread Cert.Backward.nD Cert.Backward.τ).loc Cert.Backward.main_arg1) = m ((c.tc : Thread Cert.Backward.nD Cert.Backward.τ).loc Cert.Backward.main_arg1)
      ∧ r.2.mem ((c.tc : Thread Cert.Backward.nD Cert.Backward.τ).loc Cert.Backward.main_arg2) = m ((c.tc : Thread Cert.Backward.nD Cert.Backward.τ).loc Cert.Backward.main_arg2)
      ∧ r.2.mem ((c.tc : Thread Cert.Backward.nD Cert.Backward.τ).loc Cert.Backward.main_arg3) = m ((c.tc : Thread Cert.Backward.nD Cert.Backward.τ).loc Cert.Backward.main_arg3)
      ∧ r.2.mem ((c.tc : Thread Cert.Backward.nD Cert.Backward.τ).loc Cert.Backward.main_arg4) = m ((c.tc : Thread Cert.Backward.nD Cert.Backward.τ).loc Cert.Backward.main_arg4)
      ∧ r.2.mem ((c.tc : Thread Cert.Backward.nD Cert.Backward.τ).loc Cert.Backward.main_arg5) = m ((c.tc : Thread Cert.Backward.nD Cert.Backward.τ).loc Cert.Backward.main_arg5)
      ∧ r.2.mem ((c.tc : Thread Cert.Backward.nD Cert.Backward.τ).loc Cert.Backward.main_arg6) = m ((c.tc : Thread Cert.Backward.nD Cert.Backward.τ).loc Cert.Backward.main_arg6)
      ∧ r.2.mem ((c.tc : Thread Cert.Backward.nD Cert.Backward.τ).loc Cert.Backward.main_arg7) = m ((c.tc : Thread Cert.Backward.nD Cert.Backward.τ).loc Cert.Backward.main_arg7))
      ∧ r.2.sem = fun _ => 0)

def quiescent_BackwardIdeal [hBackwardIdeal : Cert.BackwardIdeal.Facts] : Prop :=
  ∀ (m : (ℓ : Loc Cert.BackwardIdeal.nD Cert.BackwardIdeal.τ Cert.BackwardIdeal.sig) → Buf (Elt Ideal) ℓ) (g : Dev Cert.BackwardIdeal.nD → PrngReg), Pre_BackwardIdeal m →
    θ_run (Cert.BackwardIdeal.defs (F := Ideal)) (onTc (τ := Cert.BackwardIdeal.τ) (Cert.BackwardIdeal.main (F := Ideal))) ⟨m, fun _ => 0, g⟩ (fun r => (∀ c : Dev Cert.BackwardIdeal.nD,
      r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
      ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
      ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
      ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3)
      ∧ r.2.mem ((c.tc : Thread Cert.BackwardIdeal.nD Cert.BackwardIdeal.τ).loc Cert.BackwardIdeal.main_arg4) = m ((c.tc : Thread Cert.BackwardIdeal.nD Cert.BackwardIdeal.τ).loc Cert.BackwardIdeal.main_arg4)
      ∧ r.2.mem ((c.tc : Thread Cert.BackwardIdeal.nD Cert.BackwardIdeal.τ).loc Cert.BackwardIdeal.main_arg5) = m ((c.tc : Thread Cert.BackwardIdeal.nD Cert.BackwardIdeal.τ).loc Cert.BackwardIdeal.main_arg5)
      ∧ r.2.mem ((c.tc : Thread Cert.BackwardIdeal.nD Cert.BackwardIdeal.τ).loc Cert.BackwardIdeal.main_arg6) = m ((c.tc : Thread Cert.BackwardIdeal.nD Cert.BackwardIdeal.τ).loc Cert.BackwardIdeal.main_arg6)
      ∧ r.2.mem ((c.tc : Thread Cert.BackwardIdeal.nD Cert.BackwardIdeal.τ).loc Cert.BackwardIdeal.main_arg7) = m ((c.tc : Thread Cert.BackwardIdeal.nD Cert.BackwardIdeal.τ).loc Cert.BackwardIdeal.main_arg7))
      ∧ r.2.sem = fun _ => 0)

def quiescent_BackwardIdeal_pre_finite [hBackwardIdeal : Cert.BackwardIdeal.Facts] [hPre_finite : Cert.Pre_finite.Facts] : Prop :=
  ∀ (m : (ℓ : Loc Cert.BackwardIdeal.nD Cert.BackwardIdeal.τ Cert.BackwardIdeal.sig) → Buf (Elt Ideal) ℓ) (g : Dev Cert.BackwardIdeal.nD → PrngReg), Pre_BackwardIdeal_finite m →
    θ_run (Cert.BackwardIdeal.defs (F := Ideal)) (onTc (τ := Cert.BackwardIdeal.τ) (Cert.BackwardIdeal.main (F := Ideal))) ⟨m, fun _ => 0, g⟩ (fun r => (∀ c : Dev Cert.BackwardIdeal.nD,
      r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
      ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
      ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
      ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3)
      ∧ r.2.mem ((c.tc : Thread Cert.BackwardIdeal.nD Cert.BackwardIdeal.τ).loc Cert.BackwardIdeal.main_arg4) = m ((c.tc : Thread Cert.BackwardIdeal.nD Cert.BackwardIdeal.τ).loc Cert.BackwardIdeal.main_arg4)
      ∧ r.2.mem ((c.tc : Thread Cert.BackwardIdeal.nD Cert.BackwardIdeal.τ).loc Cert.BackwardIdeal.main_arg5) = m ((c.tc : Thread Cert.BackwardIdeal.nD Cert.BackwardIdeal.τ).loc Cert.BackwardIdeal.main_arg5)
      ∧ r.2.mem ((c.tc : Thread Cert.BackwardIdeal.nD Cert.BackwardIdeal.τ).loc Cert.BackwardIdeal.main_arg6) = m ((c.tc : Thread Cert.BackwardIdeal.nD Cert.BackwardIdeal.τ).loc Cert.BackwardIdeal.main_arg6)
      ∧ r.2.mem ((c.tc : Thread Cert.BackwardIdeal.nD Cert.BackwardIdeal.τ).loc Cert.BackwardIdeal.main_arg7) = m ((c.tc : Thread Cert.BackwardIdeal.nD Cert.BackwardIdeal.τ).loc Cert.BackwardIdeal.main_arg7))
      ∧ r.2.sem = fun _ => 0)

def quiescent_BackwardReferenceIdeal [hBackwardReferenceIdeal : Cert.BackwardReferenceIdeal.Facts] : Prop :=
  ∀ (m : (ℓ : Loc Cert.BackwardReferenceIdeal.nD Cert.BackwardReferenceIdeal.τ Cert.BackwardReferenceIdeal.sig) → Buf (Elt Ideal) ℓ) (g : Dev Cert.BackwardReferenceIdeal.nD → PrngReg), Pre_BackwardReferenceIdeal m →
    θ_run (Cert.BackwardReferenceIdeal.defs (F := Ideal)) (onTc (τ := Cert.BackwardReferenceIdeal.τ) (Cert.BackwardReferenceIdeal.main (F := Ideal))) ⟨m, fun _ => 0, g⟩ (fun r => (∀ c : Dev Cert.BackwardReferenceIdeal.nD,
      r.2.mem ((c.tc : Thread Cert.BackwardReferenceIdeal.nD Cert.BackwardReferenceIdeal.τ).loc Cert.BackwardReferenceIdeal.main_arg0) = m ((c.tc : Thread Cert.BackwardReferenceIdeal.nD Cert.BackwardReferenceIdeal.τ).loc Cert.BackwardReferenceIdeal.main_arg0)
      ∧ r.2.mem ((c.tc : Thread Cert.BackwardReferenceIdeal.nD Cert.BackwardReferenceIdeal.τ).loc Cert.BackwardReferenceIdeal.main_arg1) = m ((c.tc : Thread Cert.BackwardReferenceIdeal.nD Cert.BackwardReferenceIdeal.τ).loc Cert.BackwardReferenceIdeal.main_arg1)
      ∧ r.2.mem ((c.tc : Thread Cert.BackwardReferenceIdeal.nD Cert.BackwardReferenceIdeal.τ).loc Cert.BackwardReferenceIdeal.main_arg2) = m ((c.tc : Thread Cert.BackwardReferenceIdeal.nD Cert.BackwardReferenceIdeal.τ).loc Cert.BackwardReferenceIdeal.main_arg2)
      ∧ r.2.mem ((c.tc : Thread Cert.BackwardReferenceIdeal.nD Cert.BackwardReferenceIdeal.τ).loc Cert.BackwardReferenceIdeal.main_arg3) = m ((c.tc : Thread Cert.BackwardReferenceIdeal.nD Cert.BackwardReferenceIdeal.τ).loc Cert.BackwardReferenceIdeal.main_arg3)
      ∧ r.2.mem ((c.tc : Thread Cert.BackwardReferenceIdeal.nD Cert.BackwardReferenceIdeal.τ).loc Cert.BackwardReferenceIdeal.main_arg4) = m ((c.tc : Thread Cert.BackwardReferenceIdeal.nD Cert.BackwardReferenceIdeal.τ).loc Cert.BackwardReferenceIdeal.main_arg4)
      ∧ r.2.mem ((c.tc : Thread Cert.BackwardReferenceIdeal.nD Cert.BackwardReferenceIdeal.τ).loc Cert.BackwardReferenceIdeal.main_arg5) = m ((c.tc : Thread Cert.BackwardReferenceIdeal.nD Cert.BackwardReferenceIdeal.τ).loc Cert.BackwardReferenceIdeal.main_arg5)
      ∧ r.2.mem ((c.tc : Thread Cert.BackwardReferenceIdeal.nD Cert.BackwardReferenceIdeal.τ).loc Cert.BackwardReferenceIdeal.main_arg6) = m ((c.tc : Thread Cert.BackwardReferenceIdeal.nD Cert.BackwardReferenceIdeal.τ).loc Cert.BackwardReferenceIdeal.main_arg6)
      ∧ r.2.mem ((c.tc : Thread Cert.BackwardReferenceIdeal.nD Cert.BackwardReferenceIdeal.τ).loc Cert.BackwardReferenceIdeal.main_arg7) = m ((c.tc : Thread Cert.BackwardReferenceIdeal.nD Cert.BackwardReferenceIdeal.τ).loc Cert.BackwardReferenceIdeal.main_arg7))
      ∧ r.2.sem = fun _ => 0)

def quiescent_BackwardReferenceIdeal_pre_finite [hBackwardReferenceIdeal : Cert.BackwardReferenceIdeal.Facts] [hPre_finite : Cert.Pre_finite.Facts] : Prop :=
  ∀ (m : (ℓ : Loc Cert.BackwardReferenceIdeal.nD Cert.BackwardReferenceIdeal.τ Cert.BackwardReferenceIdeal.sig) → Buf (Elt Ideal) ℓ) (g : Dev Cert.BackwardReferenceIdeal.nD → PrngReg), Pre_BackwardReferenceIdeal_finite m →
    θ_run (Cert.BackwardReferenceIdeal.defs (F := Ideal)) (onTc (τ := Cert.BackwardReferenceIdeal.τ) (Cert.BackwardReferenceIdeal.main (F := Ideal))) ⟨m, fun _ => 0, g⟩ (fun r => (∀ c : Dev Cert.BackwardReferenceIdeal.nD,
      r.2.mem ((c.tc : Thread Cert.BackwardReferenceIdeal.nD Cert.BackwardReferenceIdeal.τ).loc Cert.BackwardReferenceIdeal.main_arg0) = m ((c.tc : Thread Cert.BackwardReferenceIdeal.nD Cert.BackwardReferenceIdeal.τ).loc Cert.BackwardReferenceIdeal.main_arg0)
      ∧ r.2.mem ((c.tc : Thread Cert.BackwardReferenceIdeal.nD Cert.BackwardReferenceIdeal.τ).loc Cert.BackwardReferenceIdeal.main_arg1) = m ((c.tc : Thread Cert.BackwardReferenceIdeal.nD Cert.BackwardReferenceIdeal.τ).loc Cert.BackwardReferenceIdeal.main_arg1)
      ∧ r.2.mem ((c.tc : Thread Cert.BackwardReferenceIdeal.nD Cert.BackwardReferenceIdeal.τ).loc Cert.BackwardReferenceIdeal.main_arg2) = m ((c.tc : Thread Cert.BackwardReferenceIdeal.nD Cert.BackwardReferenceIdeal.τ).loc Cert.BackwardReferenceIdeal.main_arg2)
      ∧ r.2.mem ((c.tc : Thread Cert.BackwardReferenceIdeal.nD Cert.BackwardReferenceIdeal.τ).loc Cert.BackwardReferenceIdeal.main_arg3) = m ((c.tc : Thread Cert.BackwardReferenceIdeal.nD Cert.BackwardReferenceIdeal.τ).loc Cert.BackwardReferenceIdeal.main_arg3)
      ∧ r.2.mem ((c.tc : Thread Cert.BackwardReferenceIdeal.nD Cert.BackwardReferenceIdeal.τ).loc Cert.BackwardReferenceIdeal.main_arg4) = m ((c.tc : Thread Cert.BackwardReferenceIdeal.nD Cert.BackwardReferenceIdeal.τ).loc Cert.BackwardReferenceIdeal.main_arg4)
      ∧ r.2.mem ((c.tc : Thread Cert.BackwardReferenceIdeal.nD Cert.BackwardReferenceIdeal.τ).loc Cert.BackwardReferenceIdeal.main_arg5) = m ((c.tc : Thread Cert.BackwardReferenceIdeal.nD Cert.BackwardReferenceIdeal.τ).loc Cert.BackwardReferenceIdeal.main_arg5)
      ∧ r.2.mem ((c.tc : Thread Cert.BackwardReferenceIdeal.nD Cert.BackwardReferenceIdeal.τ).loc Cert.BackwardReferenceIdeal.main_arg6) = m ((c.tc : Thread Cert.BackwardReferenceIdeal.nD Cert.BackwardReferenceIdeal.τ).loc Cert.BackwardReferenceIdeal.main_arg6)
      ∧ r.2.mem ((c.tc : Thread Cert.BackwardReferenceIdeal.nD Cert.BackwardReferenceIdeal.τ).loc Cert.BackwardReferenceIdeal.main_arg7) = m ((c.tc : Thread Cert.BackwardReferenceIdeal.nD Cert.BackwardReferenceIdeal.τ).loc Cert.BackwardReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Backward_BackwardIdeal : Prop :=
  True

def algebraic_BackwardIdeal_BackwardReferenceIdeal_on_unconditional [hBackwardIdeal : Cert.BackwardIdeal.Facts] [hBackwardReferenceIdeal : Cert.BackwardReferenceIdeal.Facts] [hOn_unconditional : Cert.On_unconditional.Facts] : Prop :=
  ∀ (m : (ℓ : Loc Cert.BackwardIdeal.nD Cert.BackwardIdeal.τ Cert.BackwardIdeal.sig) → Buf (Elt Ideal) ℓ) (g : Dev Cert.BackwardIdeal.nD → PrngReg)
    (m' : (ℓ : Loc Cert.BackwardReferenceIdeal.nD Cert.BackwardReferenceIdeal.τ Cert.BackwardReferenceIdeal.sig) → Buf (Elt Ideal) ℓ) (g' : Dev Cert.BackwardReferenceIdeal.nD → PrngReg), Pre_BackwardIdeal m →
    (∀ c : Dev Cert.BackwardIdeal.nD,
      m' ((c.tc : Thread Cert.BackwardReferenceIdeal.nD Cert.BackwardReferenceIdeal.τ).loc Cert.BackwardReferenceIdeal.main_arg0) = m ((c.tc : Thread Cert.BackwardIdeal.nD Cert.BackwardIdeal.τ).loc Cert.BackwardIdeal.main_arg0)
      ∧ m' ((c.tc : Thread Cert.BackwardReferenceIdeal.nD Cert.BackwardReferenceIdeal.τ).loc Cert.BackwardReferenceIdeal.main_arg1) = m ((c.tc : Thread Cert.BackwardIdeal.nD Cert.BackwardIdeal.τ).loc Cert.BackwardIdeal.main_arg1)
      ∧ m' ((c.tc : Thread Cert.BackwardReferenceIdeal.nD Cert.BackwardReferenceIdeal.τ).loc Cert.BackwardReferenceIdeal.main_arg2) = m ((c.tc : Thread Cert.BackwardIdeal.nD Cert.BackwardIdeal.τ).loc Cert.BackwardIdeal.main_arg2)
      ∧ m' ((c.tc : Thread Cert.BackwardReferenceIdeal.nD Cert.BackwardReferenceIdeal.τ).loc Cert.BackwardReferenceIdeal.main_arg3) = m ((c.tc : Thread Cert.BackwardIdeal.nD Cert.BackwardIdeal.τ).loc Cert.BackwardIdeal.main_arg3)
      ∧ m' ((c.tc : Thread Cert.BackwardReferenceIdeal.nD Cert.BackwardReferenceIdeal.τ).loc Cert.BackwardReferenceIdeal.main_arg4) = m ((c.tc : Thread Cert.BackwardIdeal.nD Cert.BackwardIdeal.τ).loc Cert.BackwardIdeal.main_arg4)
      ∧ m' ((c.tc : Thread Cert.BackwardReferenceIdeal.nD Cert.BackwardReferenceIdeal.τ).loc Cert.BackwardReferenceIdeal.main_arg5) = m ((c.tc : Thread Cert.BackwardIdeal.nD Cert.BackwardIdeal.τ).loc Cert.BackwardIdeal.main_arg5)
      ∧ m' ((c.tc : Thread Cert.BackwardReferenceIdeal.nD Cert.BackwardReferenceIdeal.τ).loc Cert.BackwardReferenceIdeal.main_arg6) = m ((c.tc : Thread Cert.BackwardIdeal.nD Cert.BackwardIdeal.τ).loc Cert.BackwardIdeal.main_arg6)
      ∧ m' ((c.tc : Thread Cert.BackwardReferenceIdeal.nD Cert.BackwardReferenceIdeal.τ).loc Cert.BackwardReferenceIdeal.main_arg7) = m ((c.tc : Thread Cert.BackwardIdeal.nD Cert.BackwardIdeal.τ).loc Cert.BackwardIdeal.main_arg7)) →
    ∃ (v0 : (c : Dev Cert.BackwardIdeal.nD) → Buf (Elt Ideal) ((c.tc : Thread Cert.BackwardIdeal.nD Cert.BackwardIdeal.τ).loc Cert.BackwardIdeal.main_v4_0)) (v1 : (c : Dev Cert.BackwardIdeal.nD) → Buf (Elt Ideal) ((c.tc : Thread Cert.BackwardIdeal.nD Cert.BackwardIdeal.τ).loc Cert.BackwardIdeal.main_v4_1)) (v2 : (c : Dev Cert.BackwardIdeal.nD) → Buf (Elt Ideal) ((c.tc : Thread Cert.BackwardIdeal.nD Cert.BackwardIdeal.τ).loc Cert.BackwardIdeal.main_v4_2)) (v3 : (c : Dev Cert.BackwardIdeal.nD) → Buf (Elt Ideal) ((c.tc : Thread Cert.BackwardIdeal.nD Cert.BackwardIdeal.τ).loc Cert.BackwardIdeal.main_v4_3)),
      θ_run (Cert.BackwardIdeal.defs (F := Ideal)) (onTc (τ := Cert.BackwardIdeal.τ) (Cert.BackwardIdeal.main (F := Ideal))) ⟨m, fun _ => 0, g⟩ (fun r => ∀ c : Dev Cert.BackwardIdeal.nD,
          (∀ i : (⟨2, ![8, 18944]⟩ : Shape).Idx, (Cert.On_unconditional.fn (F := Ideal) (m ((c.tc : Thread Cert.BackwardIdeal.nD Cert.BackwardIdeal.τ).loc Cert.BackwardIdeal.main_arg0)) (m ((c.tc : Thread Cert.BackwardIdeal.nD Cert.BackwardIdeal.τ).loc Cert.BackwardIdeal.main_arg1)) (m ((c.tc : Thread Cert.BackwardIdeal.nD Cert.BackwardIdeal.τ).loc Cert.BackwardIdeal.main_arg2)) (m ((c.tc : Thread Cert.BackwardIdeal.nD Cert.BackwardIdeal.τ).loc Cert.BackwardIdeal.main_arg3)) (m ((c.tc : Thread Cert.BackwardIdeal.nD Cert.BackwardIdeal.τ).loc Cert.BackwardIdeal.main_arg4)) (m ((c.tc : Thread Cert.BackwardIdeal.nD Cert.BackwardIdeal.τ).loc Cert.BackwardIdeal.main_arg5)) (m ((c.tc : Thread Cert.BackwardIdeal.nD Cert.BackwardIdeal.τ).loc Cert.BackwardIdeal.main_arg6)) (m ((c.tc : Thread Cert.BackwardIdeal.nD Cert.BackwardIdeal.τ).loc Cert.BackwardIdeal.main_arg7))).1 i = 1#1 → r.2.mem ((c.tc : Thread Cert.BackwardIdeal.nD Cert.BackwardIdeal.τ).loc Cert.BackwardIdeal.main_v4_0) i = v0 c i)
          ∧ (∀ i : (⟨2, ![8, 18944]⟩ : Shape).Idx, (Cert.On_unconditional.fn (F := Ideal) (m ((c.tc : Thread Cert.BackwardIdeal.nD Cert.BackwardIdeal.τ).loc Cert.BackwardIdeal.main_arg0)) (m ((c.tc : Thread Cert.BackwardIdeal.nD Cert.BackwardIdeal.τ).loc Cert.BackwardIdeal.main_arg1)) (m ((c.tc : Thread Cert.BackwardIdeal.nD Cert.BackwardIdeal.τ).loc Cert.BackwardIdeal.main_arg2)) (m ((c.tc : Thread Cert.BackwardIdeal.nD Cert.BackwardIdeal.τ).loc Cert.BackwardIdeal.main_arg3)) (m ((c.tc : Thread Cert.BackwardIdeal.nD Cert.BackwardIdeal.τ).loc Cert.BackwardIdeal.main_arg4)) (m ((c.tc : Thread Cert.BackwardIdeal.nD Cert.BackwardIdeal.τ).loc Cert.BackwardIdeal.main_arg5)) (m ((c.tc : Thread Cert.BackwardIdeal.nD Cert.BackwardIdeal.τ).loc Cert.BackwardIdeal.main_arg6)) (m ((c.tc : Thread Cert.BackwardIdeal.nD Cert.BackwardIdeal.τ).loc Cert.BackwardIdeal.main_arg7))).2.1 i = 1#1 → r.2.mem ((c.tc : Thread Cert.BackwardIdeal.nD Cert.BackwardIdeal.τ).loc Cert.BackwardIdeal.main_v4_1) i = v1 c i)
          ∧ (∀ i : (⟨2, ![8, 18944]⟩ : Shape).Idx, (Cert.On_unconditional.fn (F := Ideal) (m ((c.tc : Thread Cert.BackwardIdeal.nD Cert.BackwardIdeal.τ).loc Cert.BackwardIdeal.main_arg0)) (m ((c.tc : Thread Cert.BackwardIdeal.nD Cert.BackwardIdeal.τ).loc Cert.BackwardIdeal.main_arg1)) (m ((c.tc : Thread Cert.BackwardIdeal.nD Cert.BackwardIdeal.τ).loc Cert.BackwardIdeal.main_arg2)) (m ((c.tc : Thread Cert.BackwardIdeal.nD Cert.BackwardIdeal.τ).loc Cert.BackwardIdeal.main_arg3)) (m ((c.tc : Thread Cert.BackwardIdeal.nD Cert.BackwardIdeal.τ).loc Cert.BackwardIdeal.main_arg4)) (m ((c.tc : Thread Cert.BackwardIdeal.nD Cert.BackwardIdeal.τ).loc Cert.BackwardIdeal.main_arg5)) (m ((c.tc : Thread Cert.BackwardIdeal.nD Cert.BackwardIdeal.τ).loc Cert.BackwardIdeal.main_arg6)) (m ((c.tc : Thread Cert.BackwardIdeal.nD Cert.BackwardIdeal.τ).loc Cert.BackwardIdeal.main_arg7))).2.2.1 i = 1#1 → r.2.mem ((c.tc : Thread Cert.BackwardIdeal.nD Cert.BackwardIdeal.τ).loc Cert.BackwardIdeal.main_v4_2) i = v2 c i)
          ∧ (∀ i : (⟨2, ![8, 18944]⟩ : Shape).Idx, (Cert.On_unconditional.fn (F := Ideal) (m ((c.tc : Thread Cert.BackwardIdeal.nD Cert.BackwardIdeal.τ).loc Cert.BackwardIdeal.main_arg0)) (m ((c.tc : Thread Cert.BackwardIdeal.nD Cert.BackwardIdeal.τ).loc Cert.BackwardIdeal.main_arg1)) (m ((c.tc : Thread Cert.BackwardIdeal.nD Cert.BackwardIdeal.τ).loc Cert.BackwardIdeal.main_arg2)) (m ((c.tc : Thread Cert.BackwardIdeal.nD Cert.BackwardIdeal.τ).loc Cert.BackwardIdeal.main_arg3)) (m ((c.tc : Thread Cert.BackwardIdeal.nD Cert.BackwardIdeal.τ).loc Cert.BackwardIdeal.main_arg4)) (m ((c.tc : Thread Cert.BackwardIdeal.nD Cert.BackwardIdeal.τ).loc Cert.BackwardIdeal.main_arg5)) (m ((c.tc : Thread Cert.BackwardIdeal.nD Cert.BackwardIdeal.τ).loc Cert.BackwardIdeal.main_arg6)) (m ((c.tc : Thread Cert.BackwardIdeal.nD Cert.BackwardIdeal.τ).loc Cert.BackwardIdeal.main_arg7))).2.2.2 i = 1#1 → r.2.mem ((c.tc : Thread Cert.BackwardIdeal.nD Cert.BackwardIdeal.τ).loc Cert.BackwardIdeal.main_v4_3) i = v3 c i)
          ∧ r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
          ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
          ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
          ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3)
          ∧ r.2.mem ((c.tc : Thread Cert.BackwardIdeal.nD Cert.BackwardIdeal.τ).loc Cert.BackwardIdeal.main_arg4) = m ((c.tc : Thread Cert.BackwardIdeal.nD Cert.BackwardIdeal.τ).loc Cert.BackwardIdeal.main_arg4)
          ∧ r.2.mem ((c.tc : Thread Cert.BackwardIdeal.nD Cert.BackwardIdeal.τ).loc Cert.BackwardIdeal.main_arg5) = m ((c.tc : Thread Cert.BackwardIdeal.nD Cert.BackwardIdeal.τ).loc Cert.BackwardIdeal.main_arg5)
          ∧ r.2.mem ((c.tc : Thread Cert.BackwardIdeal.nD Cert.BackwardIdeal.τ).loc Cert.BackwardIdeal.main_arg6) = m ((c.tc : Thread Cert.BackwardIdeal.nD Cert.BackwardIdeal.τ).loc Cert.BackwardIdeal.main_arg6)
          ∧ r.2.mem ((c.tc : Thread Cert.BackwardIdeal.nD Cert.BackwardIdeal.τ).loc Cert.BackwardIdeal.main_arg7) = m ((c.tc : Thread Cert.BackwardIdeal.nD Cert.BackwardIdeal.τ).loc Cert.BackwardIdeal.main_arg7))
      ∧ θ_run (Cert.BackwardReferenceIdeal.defs (F := Ideal)) (onTc (τ := Cert.BackwardReferenceIdeal.τ) (Cert.BackwardReferenceIdeal.main (F := Ideal))) ⟨m', fun _ => 0, g'⟩ (fun r => ∀ c : Dev Cert.BackwardReferenceIdeal.nD,
          (∀ i : (⟨2, ![8, 18944]⟩ : Shape).Idx, (Cert.On_unconditional.fn (F := Ideal) (m ((c.tc : Thread Cert.BackwardIdeal.nD Cert.BackwardIdeal.τ).loc Cert.BackwardIdeal.main_arg0)) (m ((c.tc : Thread Cert.BackwardIdeal.nD Cert.BackwardIdeal.τ).loc Cert.BackwardIdeal.main_arg1)) (m ((c.tc : Thread Cert.BackwardIdeal.nD Cert.BackwardIdeal.τ).loc Cert.BackwardIdeal.main_arg2)) (m ((c.tc : Thread Cert.BackwardIdeal.nD Cert.BackwardIdeal.τ).loc Cert.BackwardIdeal.main_arg3)) (m ((c.tc : Thread Cert.BackwardIdeal.nD Cert.BackwardIdeal.τ).loc Cert.BackwardIdeal.main_arg4)) (m ((c.tc : Thread Cert.BackwardIdeal.nD Cert.BackwardIdeal.τ).loc Cert.BackwardIdeal.main_arg5)) (m ((c.tc : Thread Cert.BackwardIdeal.nD Cert.BackwardIdeal.τ).loc Cert.BackwardIdeal.main_arg6)) (m ((c.tc : Thread Cert.BackwardIdeal.nD Cert.BackwardIdeal.τ).loc Cert.BackwardIdeal.main_arg7))).1 i = 1#1 → r.2.mem ((c.tc : Thread Cert.BackwardReferenceIdeal.nD Cert.BackwardReferenceIdeal.τ).loc Cert.BackwardReferenceIdeal.main_v3_0) i = v0 c i)
          ∧ (∀ i : (⟨2, ![8, 18944]⟩ : Shape).Idx, (Cert.On_unconditional.fn (F := Ideal) (m ((c.tc : Thread Cert.BackwardIdeal.nD Cert.BackwardIdeal.τ).loc Cert.BackwardIdeal.main_arg0)) (m ((c.tc : Thread Cert.BackwardIdeal.nD Cert.BackwardIdeal.τ).loc Cert.BackwardIdeal.main_arg1)) (m ((c.tc : Thread Cert.BackwardIdeal.nD Cert.BackwardIdeal.τ).loc Cert.BackwardIdeal.main_arg2)) (m ((c.tc : Thread Cert.BackwardIdeal.nD Cert.BackwardIdeal.τ).loc Cert.BackwardIdeal.main_arg3)) (m ((c.tc : Thread Cert.BackwardIdeal.nD Cert.BackwardIdeal.τ).loc Cert.BackwardIdeal.main_arg4)) (m ((c.tc : Thread Cert.BackwardIdeal.nD Cert.BackwardIdeal.τ).loc Cert.BackwardIdeal.main_arg5)) (m ((c.tc : Thread Cert.BackwardIdeal.nD Cert.BackwardIdeal.τ).loc Cert.BackwardIdeal.main_arg6)) (m ((c.tc : Thread Cert.BackwardIdeal.nD Cert.BackwardIdeal.τ).loc Cert.BackwardIdeal.main_arg7))).2.1 i = 1#1 → r.2.mem ((c.tc : Thread Cert.BackwardReferenceIdeal.nD Cert.BackwardReferenceIdeal.τ).loc Cert.BackwardReferenceIdeal.main_v3_1) i = v1 c i)
          ∧ (∀ i : (⟨2, ![8, 18944]⟩ : Shape).Idx, (Cert.On_unconditional.fn (F := Ideal) (m ((c.tc : Thread Cert.BackwardIdeal.nD Cert.BackwardIdeal.τ).loc Cert.BackwardIdeal.main_arg0)) (m ((c.tc : Thread Cert.BackwardIdeal.nD Cert.BackwardIdeal.τ).loc Cert.BackwardIdeal.main_arg1)) (m ((c.tc : Thread Cert.BackwardIdeal.nD Cert.BackwardIdeal.τ).loc Cert.BackwardIdeal.main_arg2)) (m ((c.tc : Thread Cert.BackwardIdeal.nD Cert.BackwardIdeal.τ).loc Cert.BackwardIdeal.main_arg3)) (m ((c.tc : Thread Cert.BackwardIdeal.nD Cert.BackwardIdeal.τ).loc Cert.BackwardIdeal.main_arg4)) (m ((c.tc : Thread Cert.BackwardIdeal.nD Cert.BackwardIdeal.τ).loc Cert.BackwardIdeal.main_arg5)) (m ((c.tc : Thread Cert.BackwardIdeal.nD Cert.BackwardIdeal.τ).loc Cert.BackwardIdeal.main_arg6)) (m ((c.tc : Thread Cert.BackwardIdeal.nD Cert.BackwardIdeal.τ).loc Cert.BackwardIdeal.main_arg7))).2.2.1 i = 1#1 → r.2.mem ((c.tc : Thread Cert.BackwardReferenceIdeal.nD Cert.BackwardReferenceIdeal.τ).loc Cert.BackwardReferenceIdeal.main_v3_2) i = v2 c i)
          ∧ (∀ i : (⟨2, ![8, 18944]⟩ : Shape).Idx, (Cert.On_unconditional.fn (F := Ideal) (m ((c.tc : Thread Cert.BackwardIdeal.nD Cert.BackwardIdeal.τ).loc Cert.BackwardIdeal.main_arg0)) (m ((c.tc : Thread Cert.BackwardIdeal.nD Cert.BackwardIdeal.τ).loc Cert.BackwardIdeal.main_arg1)) (m ((c.tc : Thread Cert.BackwardIdeal.nD Cert.BackwardIdeal.τ).loc Cert.BackwardIdeal.main_arg2)) (m ((c.tc : Thread Cert.BackwardIdeal.nD Cert.BackwardIdeal.τ).loc Cert.BackwardIdeal.main_arg3)) (m ((c.tc : Thread Cert.BackwardIdeal.nD Cert.BackwardIdeal.τ).loc Cert.BackwardIdeal.main_arg4)) (m ((c.tc : Thread Cert.BackwardIdeal.nD Cert.BackwardIdeal.τ).loc Cert.BackwardIdeal.main_arg5)) (m ((c.tc : Thread Cert.BackwardIdeal.nD Cert.BackwardIdeal.τ).loc Cert.BackwardIdeal.main_arg6)) (m ((c.tc : Thread Cert.BackwardIdeal.nD Cert.BackwardIdeal.τ).loc Cert.BackwardIdeal.main_arg7))).2.2.2 i = 1#1 → r.2.mem ((c.tc : Thread Cert.BackwardReferenceIdeal.nD Cert.BackwardReferenceIdeal.τ).loc Cert.BackwardReferenceIdeal.main_v3_3) i = v3 c i)
          ∧ r.2.mem ((c.tc : Thread Cert.BackwardReferenceIdeal.nD Cert.BackwardReferenceIdeal.τ).loc Cert.BackwardReferenceIdeal.main_arg0) = m' ((c.tc : Thread Cert.BackwardReferenceIdeal.nD Cert.BackwardReferenceIdeal.τ).loc Cert.BackwardReferenceIdeal.main_arg0)
          ∧ r.2.mem ((c.tc : Thread Cert.BackwardReferenceIdeal.nD Cert.BackwardReferenceIdeal.τ).loc Cert.BackwardReferenceIdeal.main_arg1) = m' ((c.tc : Thread Cert.BackwardReferenceIdeal.nD Cert.BackwardReferenceIdeal.τ).loc Cert.BackwardReferenceIdeal.main_arg1)
          ∧ r.2.mem ((c.tc : Thread Cert.BackwardReferenceIdeal.nD Cert.BackwardReferenceIdeal.τ).loc Cert.BackwardReferenceIdeal.main_arg2) = m' ((c.tc : Thread Cert.BackwardReferenceIdeal.nD Cert.BackwardReferenceIdeal.τ).loc Cert.BackwardReferenceIdeal.main_arg2)
          ∧ r.2.mem ((c.tc : Thread Cert.BackwardReferenceIdeal.nD Cert.BackwardReferenceIdeal.τ).loc Cert.BackwardReferenceIdeal.main_arg3) = m' ((c.tc : Thread Cert.BackwardReferenceIdeal.nD Cert.BackwardReferenceIdeal.τ).loc Cert.BackwardReferenceIdeal.main_arg3)
          ∧ r.2.mem ((c.tc : Thread Cert.BackwardReferenceIdeal.nD Cert.BackwardReferenceIdeal.τ).loc Cert.BackwardReferenceIdeal.main_arg4) = m' ((c.tc : Thread Cert.BackwardReferenceIdeal.nD Cert.BackwardReferenceIdeal.τ).loc Cert.BackwardReferenceIdeal.main_arg4)
          ∧ r.2.mem ((c.tc : Thread Cert.BackwardReferenceIdeal.nD Cert.BackwardReferenceIdeal.τ).loc Cert.BackwardReferenceIdeal.main_arg5) = m' ((c.tc : Thread Cert.BackwardReferenceIdeal.nD Cert.BackwardReferenceIdeal.τ).loc Cert.BackwardReferenceIdeal.main_arg5)
          ∧ r.2.mem ((c.tc : Thread Cert.BackwardReferenceIdeal.nD Cert.BackwardReferenceIdeal.τ).loc Cert.BackwardReferenceIdeal.main_arg6) = m' ((c.tc : Thread Cert.BackwardReferenceIdeal.nD Cert.BackwardReferenceIdeal.τ).loc Cert.BackwardReferenceIdeal.main_arg6)
          ∧ r.2.mem ((c.tc : Thread Cert.BackwardReferenceIdeal.nD Cert.BackwardReferenceIdeal.τ).loc Cert.BackwardReferenceIdeal.main_arg7) = m' ((c.tc : Thread Cert.BackwardReferenceIdeal.nD Cert.BackwardReferenceIdeal.τ).loc Cert.BackwardReferenceIdeal.main_arg7))

def algebraic_BackwardIdeal_BackwardReferenceIdeal_pre_finite [hBackwardIdeal : Cert.BackwardIdeal.Facts] [hBackwardReferenceIdeal : Cert.BackwardReferenceIdeal.Facts] [hPre_finite : Cert.Pre_finite.Facts] : Prop :=
  ∀ (m : (ℓ : Loc Cert.BackwardIdeal.nD Cert.BackwardIdeal.τ Cert.BackwardIdeal.sig) → Buf (Elt Ideal) ℓ) (g : Dev Cert.BackwardIdeal.nD → PrngReg)
    (m' : (ℓ : Loc Cert.BackwardReferenceIdeal.nD Cert.BackwardReferenceIdeal.τ Cert.BackwardReferenceIdeal.sig) → Buf (Elt Ideal) ℓ) (g' : Dev Cert.BackwardReferenceIdeal.nD → PrngReg), Pre_BackwardIdeal_finite m →
    (∀ c : Dev Cert.BackwardIdeal.nD,
      m' ((c.tc : Thread Cert.BackwardReferenceIdeal.nD Cert.BackwardReferenceIdeal.τ).loc Cert.BackwardReferenceIdeal.main_arg0) = m ((c.tc : Thread Cert.BackwardIdeal.nD Cert.BackwardIdeal.τ).loc Cert.BackwardIdeal.main_arg0)
      ∧ m' ((c.tc : Thread Cert.BackwardReferenceIdeal.nD Cert.BackwardReferenceIdeal.τ).loc Cert.BackwardReferenceIdeal.main_arg1) = m ((c.tc : Thread Cert.BackwardIdeal.nD Cert.BackwardIdeal.τ).loc Cert.BackwardIdeal.main_arg1)
      ∧ m' ((c.tc : Thread Cert.BackwardReferenceIdeal.nD Cert.BackwardReferenceIdeal.τ).loc Cert.BackwardReferenceIdeal.main_arg2) = m ((c.tc : Thread Cert.BackwardIdeal.nD Cert.BackwardIdeal.τ).loc Cert.BackwardIdeal.main_arg2)
      ∧ m' ((c.tc : Thread Cert.BackwardReferenceIdeal.nD Cert.BackwardReferenceIdeal.τ).loc Cert.BackwardReferenceIdeal.main_arg3) = m ((c.tc : Thread Cert.BackwardIdeal.nD Cert.BackwardIdeal.τ).loc Cert.BackwardIdeal.main_arg3)
      ∧ m' ((c.tc : Thread Cert.BackwardReferenceIdeal.nD Cert.BackwardReferenceIdeal.τ).loc Cert.BackwardReferenceIdeal.main_arg4) = m ((c.tc : Thread Cert.BackwardIdeal.nD Cert.BackwardIdeal.τ).loc Cert.BackwardIdeal.main_arg4)
      ∧ m' ((c.tc : Thread Cert.BackwardReferenceIdeal.nD Cert.BackwardReferenceIdeal.τ).loc Cert.BackwardReferenceIdeal.main_arg5) = m ((c.tc : Thread Cert.BackwardIdeal.nD Cert.BackwardIdeal.τ).loc Cert.BackwardIdeal.main_arg5)
      ∧ m' ((c.tc : Thread Cert.BackwardReferenceIdeal.nD Cert.BackwardReferenceIdeal.τ).loc Cert.BackwardReferenceIdeal.main_arg6) = m ((c.tc : Thread Cert.BackwardIdeal.nD Cert.BackwardIdeal.τ).loc Cert.BackwardIdeal.main_arg6)
      ∧ m' ((c.tc : Thread Cert.BackwardReferenceIdeal.nD Cert.BackwardReferenceIdeal.τ).loc Cert.BackwardReferenceIdeal.main_arg7) = m ((c.tc : Thread Cert.BackwardIdeal.nD Cert.BackwardIdeal.τ).loc Cert.BackwardIdeal.main_arg7)) →
    ∃ (v0 : (c : Dev Cert.BackwardIdeal.nD) → Buf (Elt Ideal) ((c.tc : Thread Cert.BackwardIdeal.nD Cert.BackwardIdeal.τ).loc Cert.BackwardIdeal.main_v4_0)) (v1 : (c : Dev Cert.BackwardIdeal.nD) → Buf (Elt Ideal) ((c.tc : Thread Cert.BackwardIdeal.nD Cert.BackwardIdeal.τ).loc Cert.BackwardIdeal.main_v4_1)) (v2 : (c : Dev Cert.BackwardIdeal.nD) → Buf (Elt Ideal) ((c.tc : Thread Cert.BackwardIdeal.nD Cert.BackwardIdeal.τ).loc Cert.BackwardIdeal.main_v4_2)) (v3 : (c : Dev Cert.BackwardIdeal.nD) → Buf (Elt Ideal) ((c.tc : Thread Cert.BackwardIdeal.nD Cert.BackwardIdeal.τ).loc Cert.BackwardIdeal.main_v4_3)),
      θ_run (Cert.BackwardIdeal.defs (F := Ideal)) (onTc (τ := Cert.BackwardIdeal.τ) (Cert.BackwardIdeal.main (F := Ideal))) ⟨m, fun _ => 0, g⟩ (fun r => ∀ c : Dev Cert.BackwardIdeal.nD,
          r.2.mem ((c.tc : Thread Cert.BackwardIdeal.nD Cert.BackwardIdeal.τ).loc Cert.BackwardIdeal.main_v4_0) = v0 c
          ∧ r.2.mem ((c.tc : Thread Cert.BackwardIdeal.nD Cert.BackwardIdeal.τ).loc Cert.BackwardIdeal.main_v4_1) = v1 c
          ∧ r.2.mem ((c.tc : Thread Cert.BackwardIdeal.nD Cert.BackwardIdeal.τ).loc Cert.BackwardIdeal.main_v4_2) = v2 c
          ∧ r.2.mem ((c.tc : Thread Cert.BackwardIdeal.nD Cert.BackwardIdeal.τ).loc Cert.BackwardIdeal.main_v4_3) = v3 c
          ∧ r.2.mem ((c.tc : Thread Cert.BackwardIdeal.nD Cert.BackwardIdeal.τ).loc Cert.BackwardIdeal.main_arg0) = m ((c.tc : Thread Cert.BackwardIdeal.nD Cert.BackwardIdeal.τ).loc Cert.BackwardIdeal.main_arg0)
          ∧ r.2.mem ((c.tc : Thread Cert.BackwardIdeal.nD Cert.BackwardIdeal.τ).loc Cert.BackwardIdeal.main_arg1) = m ((c.tc : Thread Cert.BackwardIdeal.nD Cert.BackwardIdeal.τ).loc Cert.BackwardIdeal.main_arg1)
          ∧ r.2.mem ((c.tc : Thread Cert.BackwardIdeal.nD Cert.BackwardIdeal.τ).loc Cert.BackwardIdeal.main_arg2) = m ((c.tc : Thread Cert.BackwardIdeal.nD Cert.BackwardIdeal.τ).loc Cert.BackwardIdeal.main_arg2)
          ∧ r.2.mem ((c.tc : Thread Cert.BackwardIdeal.nD Cert.BackwardIdeal.τ).loc Cert.BackwardIdeal.main_arg3) = m ((c.tc : Thread Cert.BackwardIdeal.nD Cert.BackwardIdeal.τ).loc Cert.BackwardIdeal.main_arg3)
          ∧ r.2.mem ((c.tc : Thread Cert.BackwardIdeal.nD Cert.BackwardIdeal.τ).loc Cert.BackwardIdeal.main_arg4) = m ((c.tc : Thread Cert.BackwardIdeal.nD Cert.BackwardIdeal.τ).loc Cert.BackwardIdeal.main_arg4)
          ∧ r.2.mem ((c.tc : Thread Cert.BackwardIdeal.nD Cert.BackwardIdeal.τ).loc Cert.BackwardIdeal.main_arg5) = m ((c.tc : Thread Cert.BackwardIdeal.nD Cert.BackwardIdeal.τ).loc Cert.BackwardIdeal.main_arg5)
          ∧ r.2.mem ((c.tc : Thread Cert.BackwardIdeal.nD Cert.BackwardIdeal.τ).loc Cert.BackwardIdeal.main_arg6) = m ((c.tc : Thread Cert.BackwardIdeal.nD Cert.BackwardIdeal.τ).loc Cert.BackwardIdeal.main_arg6)
          ∧ r.2.mem ((c.tc : Thread Cert.BackwardIdeal.nD Cert.BackwardIdeal.τ).loc Cert.BackwardIdeal.main_arg7) = m ((c.tc : Thread Cert.BackwardIdeal.nD Cert.BackwardIdeal.τ).loc Cert.BackwardIdeal.main_arg7))
      ∧ θ_run (Cert.BackwardReferenceIdeal.defs (F := Ideal)) (onTc (τ := Cert.BackwardReferenceIdeal.τ) (Cert.BackwardReferenceIdeal.main (F := Ideal))) ⟨m', fun _ => 0, g'⟩ (fun r => ∀ c : Dev Cert.BackwardReferenceIdeal.nD,
          r.2.mem ((c.tc : Thread Cert.BackwardReferenceIdeal.nD Cert.BackwardReferenceIdeal.τ).loc Cert.BackwardReferenceIdeal.main_v3_0) = v0 c
          ∧ r.2.mem ((c.tc : Thread Cert.BackwardReferenceIdeal.nD Cert.BackwardReferenceIdeal.τ).loc Cert.BackwardReferenceIdeal.main_v3_1) = v1 c
          ∧ r.2.mem ((c.tc : Thread Cert.BackwardReferenceIdeal.nD Cert.BackwardReferenceIdeal.τ).loc Cert.BackwardReferenceIdeal.main_v3_2) = v2 c
          ∧ r.2.mem ((c.tc : Thread Cert.BackwardReferenceIdeal.nD Cert.BackwardReferenceIdeal.τ).loc Cert.BackwardReferenceIdeal.main_v3_3) = v3 c
          ∧ r.2.mem ((c.tc : Thread Cert.BackwardReferenceIdeal.nD Cert.BackwardReferenceIdeal.τ).loc Cert.BackwardReferenceIdeal.main_arg0) = m' ((c.tc : Thread Cert.BackwardReferenceIdeal.nD Cert.BackwardReferenceIdeal.τ).loc Cert.BackwardReferenceIdeal.main_arg0)
          ∧ r.2.mem ((c.tc : Thread Cert.BackwardReferenceIdeal.nD Cert.BackwardReferenceIdeal.τ).loc Cert.BackwardReferenceIdeal.main_arg1) = m' ((c.tc : Thread Cert.BackwardReferenceIdeal.nD Cert.BackwardReferenceIdeal.τ).loc Cert.BackwardReferenceIdeal.main_arg1)
          ∧ r.2.mem ((c.tc : Thread Cert.BackwardReferenceIdeal.nD Cert.BackwardReferenceIdeal.τ).loc Cert.BackwardReferenceIdeal.main_arg2) = m' ((c.tc : Thread Cert.BackwardReferenceIdeal.nD Cert.BackwardReferenceIdeal.τ).loc Cert.BackwardReferenceIdeal.main_arg2)
          ∧ r.2.mem ((c.tc : Thread Cert.BackwardReferenceIdeal.nD Cert.BackwardReferenceIdeal.τ).loc Cert.BackwardReferenceIdeal.main_arg3) = m' ((c.tc : Thread Cert.BackwardReferenceIdeal.nD Cert.BackwardReferenceIdeal.τ).loc Cert.BackwardReferenceIdeal.main_arg3)
          ∧ r.2.mem ((c.tc : Thread Cert.BackwardReferenceIdeal.nD Cert.BackwardReferenceIdeal.τ).loc Cert.BackwardReferenceIdeal.main_arg4) = m' ((c.tc : Thread Cert.BackwardReferenceIdeal.nD Cert.BackwardReferenceIdeal.τ).loc Cert.BackwardReferenceIdeal.main_arg4)
          ∧ r.2.mem ((c.tc : Thread Cert.BackwardReferenceIdeal.nD Cert.BackwardReferenceIdeal.τ).loc Cert.BackwardReferenceIdeal.main_arg5) = m' ((c.tc : Thread Cert.BackwardReferenceIdeal.nD Cert.BackwardReferenceIdeal.τ).loc Cert.BackwardReferenceIdeal.main_arg5)
          ∧ r.2.mem ((c.tc : Thread Cert.BackwardReferenceIdeal.nD Cert.BackwardReferenceIdeal.τ).loc Cert.BackwardReferenceIdeal.main_arg6) = m' ((c.tc : Thread Cert.BackwardReferenceIdeal.nD Cert.BackwardReferenceIdeal.τ).loc Cert.BackwardReferenceIdeal.main_arg6)
          ∧ r.2.mem ((c.tc : Thread Cert.BackwardReferenceIdeal.nD Cert.BackwardReferenceIdeal.τ).loc Cert.BackwardReferenceIdeal.main_arg7) = m' ((c.tc : Thread Cert.BackwardReferenceIdeal.nD Cert.BackwardReferenceIdeal.τ).loc Cert.BackwardReferenceIdeal.main_arg7))

def Claim : Prop :=
  ∃ (hKernel : Cert.Kernel.Facts) (hKernelIdeal : Cert.KernelIdeal.Facts) (hReferenceIdeal : Cert.ReferenceIdeal.Facts) (hBackward : Cert.Backward.Facts) (hBackwardIdeal : Cert.BackwardIdeal.Facts) (hBackwardReferenceIdeal : Cert.BackwardReferenceIdeal.Facts) (hPre_finite : Cert.Pre_finite.Facts) (hOn_unconditional : Cert.On_unconditional.Facts),
    quiescent_Kernel (hKernel := hKernel)
    ∧ quiescent_KernelIdeal (hKernelIdeal := hKernelIdeal)
    ∧ quiescent_ReferenceIdeal (hReferenceIdeal := hReferenceIdeal)
    ∧ quiescent_Backward (hBackward := hBackward)
    ∧ quiescent_BackwardIdeal (hBackwardIdeal := hBackwardIdeal)
    ∧ quiescent_BackwardIdeal_pre_finite (hBackwardIdeal := hBackwardIdeal) (hPre_finite := hPre_finite)
    ∧ quiescent_BackwardReferenceIdeal (hBackwardReferenceIdeal := hBackwardReferenceIdeal)
    ∧ quiescent_BackwardReferenceIdeal_pre_finite (hBackwardReferenceIdeal := hBackwardReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Backward_BackwardIdeal
    ∧ algebraic_BackwardIdeal_BackwardReferenceIdeal_on_unconditional (hBackwardIdeal := hBackwardIdeal) (hBackwardReferenceIdeal := hBackwardReferenceIdeal) (hOn_unconditional := hOn_unconditional)
    ∧ algebraic_BackwardIdeal_BackwardReferenceIdeal_pre_finite (hBackwardIdeal := hBackwardIdeal) (hBackwardReferenceIdeal := hBackwardReferenceIdeal) (hPre_finite := hPre_finite)
-- ==== On_unconditional.lean ====
abbrev S8192x3584 : Shape := ⟨2, ![8192, 3584]⟩
abbrev S3584x18944 : Shape := ⟨2, ![3584, 18944]⟩
abbrev S8192x18944 : Shape := ⟨2, ![8192, 18944]⟩
abbrev S18944 : Shape := ⟨1, ![18944]⟩
abbrev S3584 : Shape := ⟨1, ![3584]⟩
abbrev S_ : Shape := ⟨0, ![]⟩
abbrev S8x18944 : Shape := ⟨2, ![8, 18944]⟩

class Facts : Prop where
  bcast_S_S8x18944 : S_.BroadcastsInDim S8x18944 (![] : Fin 0 → Fin S8x18944.rank)

variable [Facts]

def fn {F : FTy → Type} [FloatOps F] (main_arg0 : FVec F S8192x3584 .bf16) (main_arg1 : FVec F S3584x18944 .bf16) (main_arg2 : FVec F S3584x18944 .bf16) (main_arg3 : FVec F S3584x18944 .bf16) (main_arg4 : FVec F S8192x18944 .bf16) (main_arg5 : FVec F S18944 .f32) (main_arg6 : FVec F S18944 .f32) (main_arg7 : FVec F S3584 .f32) : IVec S8x18944 1 × IVec S8x18944 1 × IVec S8x18944 1 × IVec S8x18944 1 :=
  let main_c : IVec S_ 1 := constantI S_ 1 1#1
  let main_v0 : IVec S8x18944 1 := broadcastInDim S8x18944 ![] bcast_S_S8x18944 main_c
  let main_c_0 : IVec S_ 1 := constantI S_ 1 0#1
  let main_v1 : IVec S8x18944 1 := broadcastInDim S8x18944 ![] bcast_S_S8x18944 main_c_0
  (main_v0, main_v0, main_v1, main_v0)
-- ==== Pre_finite.lean ====
abbrev S8192x3584 : Shape := ⟨2, ![8192, 3584]⟩
abbrev S3584x18944 : Shape := ⟨2, ![3584, 18944]⟩
abbrev S8192x18944 : Shape := ⟨2, ![8192, 18944]⟩
abbrev S18944 : Shape := ⟨1, ![18944]⟩
abbrev S3584 : Shape := ⟨1, ![3584]⟩
abbrev S_ : Shape := ⟨0, ![]⟩

class Facts : Prop where
  bcast_S_S8192x3584 : S_.BroadcastsInDim S8192x3584 (![] : Fin 0 → Fin S8192x3584.rank)
  bcast_S_S3584x18944 : S_.BroadcastsInDim S3584x18944 (![] : Fin 0 → Fin S3584x18944.rank)

variable [Facts]

def fn {F : FTy → Type} [FloatOps F] (main_arg0 : FVec F S8192x3584 .bf16) (main_arg1 : FVec F S3584x18944 .bf16) (main_arg2 : FVec F S3584x18944 .bf16) (main_arg3 : FVec F S3584x18944 .bf16) (main_arg4 : FVec F S8192x18944 .bf16) (main_arg5 : FVec F S18944 .f32) (main_arg6 : FVec F S18944 .f32) (main_arg7 : FVec F S3584 .f32) : IVec S8192x3584 1 × IVec S3584x18944 1 :=
  let main_v0 : FVec F S8192x3584 .bf16 := Host.absf main_arg0
  let main_cst : FVec F S_ .bf16 := constant S_ .bf16 0x7F80#16
  let main_v1 : FVec F S8192x3584 .bf16 := broadcastInDim S8192x3584 ![] bcast_S_S8192x3584 main_cst
  let main_v2 : IVec S8192x3584 1 := cmpf .olt main_v0 main_v1
  let main_v3 : FVec F S3584x18944 .bf16 := Host.absf main_arg2
  let main_cst_0 : FVec F S_ .bf16 := constant S_ .bf16 0x7F80#16
  let main_v4 : FVec F S3584x18944 .bf16 := broadcastInDim S3584x18944 ![] bcast_S_S3584x18944 main_cst_0
  let main_v5 : IVec S3584x18944 1 := cmpf .olt main_v3 main_v4
  (main_v2, main_v5)
-- ==== Kernel.lean ====
abbrev S8192x18944 : Shape := ⟨2, ![8192, 18944]⟩
abbrev S18944 : Shape := ⟨1, ![18944]⟩
abbrev S3584x18944 : Shape := ⟨2, ![3584, 18944]⟩
abbrev S1x3584 : Shape := ⟨2, ![1, 3584]⟩
abbrev S8192x3584 : Shape := ⟨2, ![8192, 3584]⟩
abbrev S1x18944 : Shape := ⟨2, ![1, 18944]⟩
abbrev S8192x148 : Shape := ⟨2, ![8192, 148]⟩
abbrev S16x1x512 : Shape := ⟨3, ![16, 1, 512]⟩
abbrev S512x512 : Shape := ⟨2, ![512, 512]⟩
abbrev S1x512 : Shape := ⟨2, ![1, 512]⟩
abbrev S3584x512 : Shape := ⟨2, ![3584, 512]⟩
abbrev S512x3584 : Shape := ⟨2, ![512, 3584]⟩
abbrev S512x148 : Shape := ⟨2, ![512, 148]⟩
abbrev S1x1x512 : Shape := ⟨3, ![1, 1, 512]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S128 : Shape := ⟨1, ![128]⟩
abbrev S128x512 : Shape := ⟨2, ![128, 512]⟩

abbrev nBuf : Space → Nat
  | .hbm => 14
  | .vmem => 24
  | .smem => 0
  | _ => 0

abbrev bufTy : (tb : Table) → Fin (tcTables nBuf tb) → BufTy
  | .hbm, ⟨0, _⟩ => ⟨S8192x18944, .bf16⟩
  | .hbm, ⟨1, _⟩ => ⟨S18944, .f32⟩
  | .hbm, ⟨2, _⟩ => ⟨S18944, .f32⟩
  | .hbm, ⟨3, _⟩ => ⟨S3584x18944, .bf16⟩
  | .hbm, ⟨4, _⟩ => ⟨S1x3584, .f32⟩
  | .hbm, ⟨5, _⟩ => ⟨S8192x3584, .bf16⟩
  | .hbm, ⟨6, _⟩ => ⟨S1x18944, .f32⟩
  | .hbm, ⟨7, _⟩ => ⟨S1x18944, .f32⟩
  | .hbm, ⟨8, _⟩ => ⟨S8192x18944, .i8⟩
  | .hbm, ⟨9, _⟩ => ⟨S8192x148, .f32⟩
  | .hbm, ⟨10, _⟩ => ⟨S8192x3584, .bf16⟩
  | .hbm, ⟨11, _⟩ => ⟨S8192x3584, .bf16⟩
  | .hbm, ⟨12, _⟩ => ⟨S16x1x512, .f32⟩
  | .hbm, ⟨13, _⟩ => ⟨S1x3584, .f32⟩
  | .local _ .vmem, ⟨0, _⟩ => ⟨S512x512, .bf16⟩
  | .local _ .vmem, ⟨1, _⟩ => ⟨S512x512, .bf16⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S3584x512, .bf16⟩
  | .local _ .vmem, ⟨7, _⟩ => ⟨S3584x512, .bf16⟩
  | .local _ .vmem, ⟨8, _⟩ => ⟨S1x3584, .f32⟩
  | .local _ .vmem, ⟨9, _⟩ => ⟨S512x3584, .bf16⟩
  | .local _ .vmem, ⟨10, _⟩ => ⟨S512x3584, .bf16⟩
  | .local _ .vmem, ⟨11, _⟩ => ⟨S512x512, .i8⟩
  | .local _ .vmem, ⟨12, _⟩ => ⟨S512x512, .i8⟩
  | .local _ .vmem, ⟨13, _⟩ => ⟨S512x148, .f32⟩
  | .local _ .vmem, ⟨14, _⟩ => ⟨S512x148, .f32⟩
  | .local _ .vmem, ⟨15, _⟩ => ⟨S512x3584, .bf16⟩
  | .local _ .vmem, ⟨16, _⟩ => ⟨S512x3584, .bf16⟩
  | .local _ .vmem, ⟨17, _⟩ => ⟨S512x3584, .bf16⟩
  | .local _ .vmem, ⟨18, _⟩ => ⟨S512x3584, .bf16⟩
  | .local _ .vmem, ⟨19, _⟩ => ⟨S1x1x512, .f32⟩
  | .local _ .vmem, ⟨20, _⟩ => ⟨S1x1x512, .f32⟩
  | .local _ .vmem, ⟨21, _⟩ => ⟨S1x3584, .f32⟩
  | .local _ .vmem, ⟨22, _⟩ => ⟨S512x3584, .f32⟩
  | .local _ .vmem, ⟨23, _⟩ => ⟨S512x512, .bf16⟩
  | _, _ => ⟨S8192x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![16, 37], ![false, false]⟩

def k0_cond3 (i : grid0.Coords) : BitVec 1 :=
  let arg1 : BitVec 32 := BitVec.ofNat 32 (i 1).val
  let c36_i32 : BitVec 32 := 36#32
  let v203 : BitVec 1 := Scalar.cmpi .eq arg1 c36_i32
  let v204 : BitVec 32 := Scalar.extui v203
  let c0_i32_84 : BitVec 32 := 0#32
  let v205 : BitVec 1 := Scalar.cmpi .ne v204 c0_i32_84
  v205

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3584x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x148 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x3584 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x3584 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S8192x18944 : Shape := ⟨2, ![8192, 18944]⟩
abbrev S18944 : Shape := ⟨1, ![18944]⟩
abbrev S3584x18944 : Shape := ⟨2, ![3584, 18944]⟩
abbrev S1x3584 : Shape := ⟨2, ![1, 3584]⟩
abbrev S8192x3584 : Shape := ⟨2, ![8192, 3584]⟩
abbrev S1x18944 : Shape := ⟨2, ![1, 18944]⟩
abbrev S8192x148 : Shape := ⟨2, ![8192, 148]⟩
abbrev S16x1x512 : Shape := ⟨3, ![16, 1, 512]⟩
abbrev S8192x148x128 : Shape := ⟨3, ![8192, 148, 128]⟩
abbrev S8192x148x1 : Shape := ⟨3, ![8192, 148, 1]⟩
abbrev S8192 : Shape := ⟨1, ![8192]⟩
abbrev S3584 : Shape := ⟨1, ![3584]⟩

abbrev nBuf : Space → Nat
  | .hbm => 14
  | .vmem => 12
  | .smem => 0
  | _ => 0

abbrev bufTy : (tb : Table) → Fin (tcTables nBuf tb) → BufTy
  | .hbm, ⟨0, _⟩ => ⟨S8192x18944, .bf16⟩
  | .hbm, ⟨1, _⟩ => ⟨S18944, .f32⟩
  | .hbm, ⟨2, _⟩ => ⟨S18944, .f32⟩
  | .hbm, ⟨3, _⟩ => ⟨S3584x18944, .bf16⟩
  | .hbm, ⟨4, _⟩ => ⟨S1x3584, .f32⟩
  | .hbm, ⟨5, _⟩ => ⟨S8192x3584, .bf16⟩
  | .hbm, ⟨6, _⟩ => ⟨S1x18944, .f32⟩
  | .hbm, ⟨7, _⟩ => ⟨S1x18944, .f32⟩
  | .hbm, ⟨8, _⟩ => ⟨S8192x18944, .i8⟩
  | .hbm, ⟨9, _⟩ => ⟨S8192x148, .f32⟩
  | .hbm, ⟨10, _⟩ => ⟨S8192x3584, .bf16⟩
  | .hbm, ⟨11, _⟩ => ⟨S8192x3584, .bf16⟩
  | .hbm, ⟨12, _⟩ => ⟨S16x1x512, .f32⟩
  | .hbm, ⟨13, _⟩ => ⟨S1x3584, .f32⟩
  | .local _ .vmem, ⟨0, _⟩ => ⟨S8192x18944, .bf16⟩
  | .local _ .vmem, ⟨1, _⟩ => ⟨S1x18944, .f32⟩
  | .local _ .vmem, ⟨2, _⟩ => ⟨S1x18944, .f32⟩
  | .local _ .vmem, ⟨3, _⟩ => ⟨S3584x18944, .bf16⟩
  | .local _ .vmem, ⟨4, _⟩ => ⟨S1x3584, .f32⟩
  | .local _ .vmem, ⟨5, _⟩ => ⟨S8192x3584, .bf16⟩
  | .local _ .vmem, ⟨6, _⟩ => ⟨S8192x18944, .i8⟩
  | .local _ .vmem, ⟨7, _⟩ => ⟨S8192x148, .f32⟩
  | .local _ .vmem, ⟨8, _⟩ => ⟨S8192x3584, .bf16⟩
  | .local _ .vmem, ⟨9, _⟩ => ⟨S8192x3584, .bf16⟩
  | .local _ .vmem, ⟨10, _⟩ => ⟨S16x1x512, .f32⟩
  | .local _ .vmem, ⟨11, _⟩ => ⟨S1x3584, .f32⟩
  | _, _ => ⟨S8192x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8192x18944 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x18944 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18944 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x18944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x18944 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x148 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x3584 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x3584 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x3584 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Backward.lean ====
abbrev S8192x3584 : Shape := ⟨2, ![8192, 3584]⟩
abbrev S3584x18944 : Shape := ⟨2, ![3584, 18944]⟩
abbrev S8192x18944 : Shape := ⟨2, ![8192, 18944]⟩
abbrev S18944 : Shape := ⟨1, ![18944]⟩
abbrev S3584 : Shape := ⟨1, ![3584]⟩
abbrev S1x18944 : Shape := ⟨2, ![1, 18944]⟩
abbrev S3584x1 : Shape := ⟨2, ![3584, 1]⟩
abbrev S3584x128 : Shape := ⟨2, ![3584, 128]⟩
abbrev S8x18944 : Shape := ⟨2, ![8, 18944]⟩
abbrev S4096x3584 : Shape := ⟨2, ![4096, 3584]⟩
abbrev S3584x256 : Shape := ⟨2, ![3584, 256]⟩
abbrev S4096x256 : Shape := ⟨2, ![4096, 256]⟩
abbrev S1x256 : Shape := ⟨2, ![1, 256]⟩
abbrev S8x256 : Shape := ⟨2, ![8, 256]⟩
abbrev S128x256 : Shape := ⟨2, ![128, 256]⟩
abbrev S128x128 : Shape := ⟨2, ![128, 128]⟩
abbrev S16x8x256 : Shape := ⟨3, ![16, 8, 256]⟩
abbrev S512x3584 : Shape := ⟨2, ![512, 3584]⟩
abbrev S512x256 : Shape := ⟨2, ![512, 256]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S8x128 : Shape := ⟨2, ![8, 128]⟩
abbrev S64x8x128 : Shape := ⟨3, ![64, 8, 128]⟩

abbrev nBuf : Space → Nat
  | .hbm => 16
  | .vmem => 18
  | .smem => 0
  | _ => 0

abbrev bufTy : (tb : Table) → Fin (tcTables nBuf tb) → BufTy
  | .hbm, ⟨0, _⟩ => ⟨S8192x3584, .bf16⟩
  | .hbm, ⟨1, _⟩ => ⟨S3584x18944, .bf16⟩
  | .hbm, ⟨2, _⟩ => ⟨S3584x18944, .bf16⟩
  | .hbm, ⟨3, _⟩ => ⟨S3584x18944, .bf16⟩
  | .hbm, ⟨4, _⟩ => ⟨S8192x18944, .bf16⟩
  | .hbm, ⟨5, _⟩ => ⟨S18944, .f32⟩
  | .hbm, ⟨6, _⟩ => ⟨S18944, .f32⟩
  | .hbm, ⟨7, _⟩ => ⟨S3584, .f32⟩
  | .hbm, ⟨8, _⟩ => ⟨S1x18944, .f32⟩
  | .hbm, ⟨9, _⟩ => ⟨S1x18944, .f32⟩
  | .hbm, ⟨10, _⟩ => ⟨S3584x1, .f32⟩
  | .hbm, ⟨11, _⟩ => ⟨S3584x128, .f32⟩
  | .hbm, ⟨12, _⟩ => ⟨S8x18944, .f32⟩
  | .hbm, ⟨13, _⟩ => ⟨S8x18944, .f32⟩
  | .hbm, ⟨14, _⟩ => ⟨S8x18944, .f32⟩
  | .hbm, ⟨15, _⟩ => ⟨S8x18944, .f32⟩
  | .local _ .vmem, ⟨0, _⟩ => ⟨S4096x3584, .bf16⟩
  | .local _ .vmem, ⟨1, _⟩ => ⟨S3584x256, .bf16⟩
  | .local _ .vmem, ⟨2, _⟩ => ⟨S3584x256, .bf16⟩
  | .local _ .vmem, ⟨3, _⟩ => ⟨S3584x256, .bf16⟩
  | .local _ .vmem, ⟨4, _⟩ => ⟨S3584x256, .bf16⟩
  | .local _ .vmem, ⟨5, _⟩ => ⟨S3584x256, .bf16⟩
  | .local _ .vmem, ⟨6, _⟩ => ⟨S3584x256, .bf16⟩
  | .local _ .vmem, ⟨7, _⟩ => ⟨S4096x256, .bf16⟩
  | .local _ .vmem, ⟨8, _⟩ => ⟨S4096x256, .bf16⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S3584x128, .f32⟩
  | .local _ .vmem, ⟨14, _⟩ => ⟨S8x18944, .f32⟩
  | .local _ .vmem, ⟨15, _⟩ => ⟨S8x18944, .f32⟩
  | .local _ .vmem, ⟨16, _⟩ => ⟨S8x18944, .f32⟩
  | .local _ .vmem, ⟨17, _⟩ => ⟨S8x18944, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨2, ![2, 74], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v7 : Index := Scalar.indexCast v1
  ![0, v7.toNat]
@[reducible] def k0_t1_loop : Scf.Loop 32 :=
  let c0_i32_1 : BitVec 32 := 0#32
  let c8_i32 : BitVec 32 := 8#32
  let v5 : BitVec 32 := Scalar.addi c0_i32_1 c8_i32
  let c1_i32 : BitVec 32 := 1#32
  ⟨c0_i32_1, v5, c1_i32⟩
def k0_mult2 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c512_i32 : BitVec 32 := 512#32
  let v6 : BitVec 32 := Scalar.muli arg14 c512_i32
  v6
def k0_off2 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c512_i32 : BitVec 32 := 512#32
  let v6 : BitVec 32 := Scalar.muli arg14 c512_i32
  let v7 : BitVec 32 := v6
  let v8 : Index := Scalar.indexCast v7
  let c0 : Index := 0#32
  ![v8.toNat, 0]
def k0_off3 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c512_i32 : BitVec 32 := 512#32
  let v6 : BitVec 32 := Scalar.muli arg14 c512_i32
  let v7 : BitVec 32 := v6
  let v14 : Index := Scalar.indexCast v7
  let c0_8 : Index := 0#32
  ![v14.toNat, 0]
def k0_mult3 (i : grid0.Coords) : BitVec 32 :=
  let arg1 : BitVec 32 := BitVec.ofNat 32 (i 1).val
  let c256_i32_22 : BitVec 32 := 256#32
  let v55 : BitVec 32 := Scalar.muli arg1 c256_i32_22
  let c0_i32_23 : BitVec 32 := 0#32
  let v56 : BitVec 32 := Scalar.addi v55 c0_i32_23
  v56
def k0_off4 (i : grid0.Coords) (c0_i32_23 : BitVec 32) : Fin 2 → Nat :=
  let c0_24 : Index := 0#32
  let arg1 : BitVec 32 := BitVec.ofNat 32 (i 1).val
  let c256_i32_22 : BitVec 32 := 256#32
  let v55 : BitVec 32 := Scalar.muli arg1 c256_i32_22
  let v56 : BitVec 32 := Scalar.addi v55 c0_i32_23
  let v57 : BitVec 32 := v56
  let v58 : Index := Scalar.indexCast v57
  ![0, v58.toNat]
def k0_off5 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c512_i32 : BitVec 32 := 512#32
  let v6 : BitVec 32 := Scalar.muli arg14 c512_i32
  let v7 : BitVec 32 := v6
  let v85 : Index := Scalar.indexCast v7
  let c128 : Index := 128#32
  ![v85.toNat, 128]
def k0_mult4 (i : grid0.Coords) : BitVec 32 :=
  let arg1 : BitVec 32 := BitVec.ofNat 32 (i 1).val
  let c256_i32_46 : BitVec 32 := 256#32
  let v126 : BitVec 32 := Scalar.muli arg1 c256_i32_46
  let c128_i32 : BitVec 32 := 128#32
  let v127 : BitVec 32 := Scalar.addi v126 c128_i32
  v127
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c73_i32 : BitVec 32 := 73#32
  let v1 : BitVec 32 := Scalar.select v0 arg1 c73_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S3584x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3584x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3584x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S3584x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x18944 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x18944 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x18944 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x18944 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== BackwardReferenceIdeal.lean ====
abbrev S8192x3584 : Shape := ⟨2, ![8192, 3584]⟩
abbrev S3584x18944 : Shape := ⟨2, ![3584, 18944]⟩
abbrev S8192x18944 : Shape := ⟨2, ![8192, 18944]⟩
abbrev S18944 : Shape := ⟨1, ![18944]⟩
abbrev S3584 : Shape := ⟨1, ![3584]⟩
abbrev S1x18944 : Shape := ⟨2, ![1, 18944]⟩
abbrev S3584x1 : Shape := ⟨2, ![3584, 1]⟩
abbrev S8x18944 : Shape := ⟨2, ![8, 18944]⟩
abbrev S8192x148x128 : Shape := ⟨3, ![8192, 148, 128]⟩
abbrev S8192x148 : Shape := ⟨2, ![8192, 148]⟩
abbrev S8192x148x1 : Shape := ⟨3, ![8192, 148, 1]⟩
abbrev S1024x8x18944 : Shape := ⟨3, ![1024, 8, 18944]⟩
abbrev S448x8x18944 : Shape := ⟨3, ![448, 8, 18944]⟩
abbrev S1024x8x3584 : Shape := ⟨3, ![1024, 8, 3584]⟩
abbrev S8x3584x18944 : Shape := ⟨3, ![8, 3584, 18944]⟩
abbrev S1x3584x18944 : Shape := ⟨3, ![1, 3584, 18944]⟩

abbrev nBuf : Space → Nat
  | .hbm => 15
  | .vmem => 12
  | .smem => 0
  | _ => 0

abbrev bufTy : (tb : Table) → Fin (tcTables nBuf tb) → BufTy
  | .hbm, ⟨0, _⟩ => ⟨S8192x3584, .bf16⟩
  | .hbm, ⟨1, _⟩ => ⟨S3584x18944, .bf16⟩
  | .hbm, ⟨2, _⟩ => ⟨S3584x18944, .bf16⟩
  | .hbm, ⟨3, _⟩ => ⟨S3584x18944, .bf16⟩
  | .hbm, ⟨4, _⟩ => ⟨S8192x18944, .bf16⟩
  | .hbm, ⟨5, _⟩ => ⟨S18944, .f32⟩
  | .hbm, ⟨6, _⟩ => ⟨S18944, .f32⟩
  | .hbm, ⟨7, _⟩ => ⟨S3584, .f32⟩
  | .hbm, ⟨8, _⟩ => ⟨S1x18944, .f32⟩
  | .hbm, ⟨9, _⟩ => ⟨S1x18944, .f32⟩
  | .hbm, ⟨10, _⟩ => ⟨S3584x1, .f32⟩
  | .hbm, ⟨11, _⟩ => ⟨S8x18944, .f32⟩
  | .hbm, ⟨12, _⟩ => ⟨S8x18944, .f32⟩
  | .hbm, ⟨13, _⟩ => ⟨S8x18944, .f32⟩
  | .hbm, ⟨14, _⟩ => ⟨S8x18944, .f32⟩
  | .local _ .vmem, ⟨0, _⟩ => ⟨S8192x3584, .bf16⟩
  | .local _ .vmem, ⟨1, _⟩ => ⟨S3584x18944, .bf16⟩
  | .local _ .vmem, ⟨2, _⟩ => ⟨S8192x18944, .bf16⟩
  | .local _ .vmem, ⟨3, _⟩ => ⟨S1x18944, .f32⟩
  | .local _ .vmem, ⟨4, _⟩ => ⟨S1x18944, .f32⟩
  | .local _ .vmem, ⟨5, _⟩ => ⟨S3584x18944, .bf16⟩
  | .local _ .vmem, ⟨6, _⟩ => ⟨S3584x1, .f32⟩
  | .local _ .vmem, ⟨7, _⟩ => ⟨S3584x18944, .bf16⟩
  | .local _ .vmem, ⟨8, _⟩ => ⟨S8x18944, .f32⟩
  | .local _ .vmem, ⟨9, _⟩ => ⟨S8x18944, .f32⟩
  | .local _ .vmem, ⟨10, _⟩ => ⟨S8x18944, .f32⟩
  | .local _ .vmem, ⟨11, _⟩ => ⟨S8x18944, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x18944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x18944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18944 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x18944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3584x18944 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x18944 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x18944 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x18944 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x18944 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Spec.lean ====
module
public import Idealize.ShloMosaic.Lib.Pipeline.Value
public import Idealize.ShloMosaic.Lib.Pointwise.Tactic

/-!
  The quantities the layer is about, over the extended reals and indexed by natural numbers.  `X t j` is the
  normalised activation of token `t` and channel `j`, `W o j` a weight, `B o` a bias and `Y t o` a target.  Both the
  tiled kernel and the whole-array reference are shown to compute these.
-/

@[expose] public section

noncomputable section

namespace Cert.Spec

open Idealize.ShloMosaic

/-- A matrix read at natural-number coordinates, `0` outside. -/
def ext2 {n m : ℕ} (x : (⟨2, ![n, m]⟩ : Shape).Idx → EReal) (t j : ℕ) : EReal :=
  if h : t < n ∧ j < m then x (ix2 ⟨t, h.1⟩ ⟨j, h.2⟩) else 0

/-- Inside the matrix, `ext2` reads the element. -/
theorem ext2_of_lt {n m : ℕ} (x : (⟨2, ![n, m]⟩ : Shape).Idx → EReal) {t j : ℕ} (ht : t < n) (hj : j < m) :
    ext2 x t j = x (ix2 ⟨t, ht⟩ ⟨j, hj⟩) := dif_pos ⟨ht, hj⟩

/-- At the coordinates of an index, `ext2` reads the element. -/
theorem ext2_val {n m : ℕ} (x : (⟨2, ![n, m]⟩ : Shape).Idx → EReal) (a : Fin n) (b : Fin m) :
    ext2 x a.val b.val = x (ix2 a b) := ext2_of_lt x a.isLt b.isLt

/-- The normalised activation: the channel's shift taken off, the rest divided by the channel's scale. -/
def norm (x s d : ℕ → ℕ → EReal) (t j : ℕ) : EReal := Ideal.div (x t j - d 0 j) (s 0 j)

section Quantise

variable (X : ℕ → ℕ → EReal)

/-- The largest magnitude in group `g` (128 channels) of token `t`. -/
def gmax (t g : ℕ) : EReal :=
  (Finset.univ : Finset (Fin 128)).fold max (Ideal.ofBits .f32 0xFF800000#32)
    (fun l => max (X t (128 * g + l.val)) (-X t (128 * g + l.val)))

/-- The group's scale: `1` for a group of zeros, otherwise `0.7` of the largest magnitude over `127`. -/
def scl (t g : ℕ) : EReal :=
  Scalar.select (Ideal.cmp .oeq (gmax X t g) 0) 1
    (Ideal.div (Ideal.ofBits .f32 0x3F333333#32 * gmax X t g) (Ideal.ofBits .f32 0x42FE0000#32))

/-- The quantised activation before its cast: divided by the group's scale, rounded to the nearest even integer,
    clipped to `[-127, 127]`. -/
def qv (t j : ℕ) : EReal :=
  min (Ideal.ofBits .f32 0x42FE0000#32) (max (Ideal.ofBits .f32 0xC2FE0000#32)
    (Ideal.liftRound Ideal.roundHalfEven (Ideal.div (X t j) (scl X t (j / 128)))))

/-- The eight-bit code of an activation. -/
def cod (t j : ℕ) : BitVec 8 := Ideal.fptosi 8 (qv X t j)

/-- The dequantised activation. -/
def deq (t j : ℕ) : EReal := qv X t j * scl X t (j / 128)

end Quantise

section Layer

variable (X W : ℕ → ℕ → EReal) (B Y : ℕ → ℕ → EReal)

/-- The product of the dequantised activations with the weights over the first `n` channels. -/
def prod (n t o : ℕ) : EReal := ∑ j ∈ Finset.range n, deq X t j * W o j

/-- The layer's output. -/
def out (t o : ℕ) : EReal := prod X W 18944 t o + B 0 o

/-- The output's difference from the target. -/
def dif (t o : ℕ) : EReal := out X W B t o - Y t o

/-- The mean square difference of a token. -/
def loss (t : ℕ) : EReal :=
  Ideal.div (∑ o ∈ Finset.range 3584, dif X W B Y t o * dif X W B Y t o) (Ideal.ofBits .f32 0x45600000#32)

/-- The gradient of the mean loss with respect to the output. -/
def grad (t o : ℕ) : EReal := dif X W B Y t o * Ideal.ofBits .f32 0x33924925#32

/-- The gradient with respect to the bias, summed over the first `n` tokens. -/
def bgrad (n o : ℕ) : EReal := ∑ t ∈ Finset.range n, grad X W B Y t o

end Layer

/-! ## The clipped value is an integer in `[-127, 127]`, so the cast to eight bits and back keeps it -/

/-- The word of `127` denotes that number. -/
theorem ofBits_127 : Ideal.ofBits .f32 0x42FE0000#32 = ((127 : ℝ) : EReal) := by
  simp [Ideal.ofBits, Ideal.ieee, -EReal.coe_mul]; norm_num

/-- The word of `-127` denotes that number. -/
theorem ofBits_neg127 : Ideal.ofBits .f32 0xC2FE0000#32 = ((-127 : ℝ) : EReal) := by
  simp [Ideal.ofBits, Ideal.ieee, -EReal.coe_mul]; norm_num

/-- Any rounded value, clipped to `[-127, 127]`, is an integer there. -/
theorem clip_int (y : EReal) : ∃ n : ℤ, -127 ≤ n ∧ n ≤ 127 ∧
    min ((127 : ℝ) : EReal) (max ((-127 : ℝ) : EReal) (Ideal.liftRound Ideal.roundHalfEven y)) = ((n : ℝ) : EReal) := by
  induction y with
  | bot => exact ⟨-127, by norm_num, by norm_num, by
      rw [Ideal.liftRound_bot, max_eq_left bot_le, min_eq_right (EReal.coe_le_coe_iff.2 (by norm_num))]; norm_num⟩
  | top => exact ⟨127, by norm_num, by norm_num, by
      rw [Ideal.liftRound_top, max_eq_right le_top, min_eq_left le_top]; norm_num⟩
  | coe r =>
      refine ⟨min 127 (max (-127) (Ideal.roundHalfEven r)), by omega, by omega, ?_⟩
      rw [Ideal.liftRound_coe]
      generalize Ideal.roundHalfEven r = n
      push_cast
      rw [EReal.coe_strictMono.monotone.map_min, EReal.coe_strictMono.monotone.map_max, EReal.coe_neg]

/-- The clipped value is an integer between `-127` and `127`. -/
theorem qv_int (X : ℕ → ℕ → EReal) (t j : ℕ) : ∃ n : ℤ, -127 ≤ n ∧ n ≤ 127 ∧ qv X t j = ((n : ℝ) : EReal) := by
  unfold qv
  rw [ofBits_127, ofBits_neg127]
  exact clip_int _

/-- The code, read as a number, is the clipped value. -/
theorem toInt_cod (X : ℕ → ℕ → EReal) (t j : ℕ) : (((cod X t j).toInt : ℝ) : EReal) = qv X t j := by
  obtain ⟨n, h1, h2, h⟩ := qv_int X t j
  unfold cod
  rw [h]
  have e : Ideal.fptosi 8 ((n : ℝ) : EReal) = BitVec.ofInt 8 n := by
    unfold Ideal.fptosi
    rw [Ideal.toIntClamped_coe]
    congr 1
    simp only [Int.floor_intCast, Int.ceil_intCast, ite_self]
    norm_num
    omega
  rw [e, BitVec.toInt_ofInt]
  congr 2
  apply Int.bmod_eq_of_le <;> norm_num <;> omega

end Cert.Spec
-- ==== Proof.Group.lean ====
module
public import proofs.«01_k».proof.Proof.Gen.KernelIdeal.Frame
public import proofs.«01_k».proof.Proof.Spec
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ShapeOps
public import Idealize.ShloMosaic.Lib.Pointwise.Contract

/-!
  What the kernel computes of one group of 128 channels of a block: the group's scale, its codes, the dequantised
  activations, and the scale's column put into the table of scales.  The four groups of a block run the same
  operations.
-/

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline
open Cert.Spec

/-! ## The four groups run the same operations -/

section Same

variable (a : Vec Ideal S512x128 .bf16) (b c : Vec Ideal S1x128 .f32)

/-- The group's scales. -/
abbrev gScl : FVec Ideal S512x1 .f32 := k0_pay175 a b c
/-- The group's codes. -/
abbrev gCod : IVec S512x128 8 := k0_pay178 (FloatOps.ofBits .f32 1123942400#32) (k0_pay176 a b c)
/-- The group's dequantised activations. -/
abbrev gDeq : FVec Ideal S512x128 .bf16 :=
  k0_pay179 (k0_pay175 a b c) (FloatOps.ofBits .f32 1123942400#32) (k0_pay176 a b c)

theorem scl1 : k0_pay182 a b c = gScl a b c := rfl
theorem scl2 : k0_pay191 (k0_pay188 a b c) (k0_pay189 a b c) k0_pay190 = gScl a b c := rfl
theorem scl3 : k0_pay198 (k0_pay197 a b c) = gScl a b c := rfl
theorem cod1 : k0_pay184 (k0_pay181 a b c) (k0_pay182 a b c) = gCod a b c := rfl
theorem cod2 : k0_pay193 (k0_pay187 a b c) (k0_pay188 a b c) (k0_pay189 a b c) k0_pay190 = gCod a b c := rfl
theorem cod3 : k0_pay200 (k0_pay196 a b c) (k0_pay197 a b c) = gCod a b c := rfl
theorem deq1 : k0_pay185 (k0_pay181 a b c) (k0_pay182 a b c) = gDeq a b c := rfl
theorem deq2 : k0_pay194 (k0_pay187 a b c) (k0_pay188 a b c) (k0_pay189 a b c) k0_pay190 = gDeq a b c := rfl
theorem deq3 : k0_pay201 (k0_pay196 a b c) (k0_pay197 a b c) = gDeq a b c := rfl

end Same

/-! ## One group at an index -/

section At

variable (a : Vec Ideal S512x128 .bf16) (b c : Vec Ideal S1x128 .f32)
variable (X : ℕ → ℕ → EReal) (R G : ℕ)

/-- The group's scale at row `r` is the scale of group `G` of token `R + r`. -/
theorem gScl_at (h : ∀ (r : Fin 512) (l : Fin 128),
      Ideal.div (a (ix2 r l) - b (ix2 0 l)) (c (ix2 0 l)) = X (R + r.val) (128 * G + l.val)) (r : Fin 512) (z : Fin 1) :
    gScl a b c (ix2 r z) = scl X (R + r.val) G := by
  unfold gScl k0_pay175 k0_pay174
  pointwise
  unfold scl gmax
  simp only [h]
  rfl

theorem div128 (l : Fin 128) : (128 * G + l.val) / 128 = G := by omega

/-- The unclipped code. -/
theorem gQ_at (h : ∀ (r : Fin 512) (l : Fin 128),
      Ideal.div (a (ix2 r l) - b (ix2 0 l)) (c (ix2 0 l)) = X (R + r.val) (128 * G + l.val)) (r : Fin 512) (l : Fin 128) :
    k0_pay177 (FloatOps.ofBits .f32 1123942400#32) (k0_pay176 a b c) (ix2 r l) = qv X (R + r.val) (128 * G + l.val) := by
  have e := gScl_at a b c X R G h r 0
  unfold k0_pay177 k0_pay176
  unfold gScl at e
  generalize k0_pay175 a b c = s at e ⊢
  unfold k0_pay174
  pointwise
  unfold qv
  rw [div128, ← e, ← h]

/-- The group's codes. -/
theorem gCod_at (h : ∀ (r : Fin 512) (l : Fin 128),
      Ideal.div (a (ix2 r l) - b (ix2 0 l)) (c (ix2 0 l)) = X (R + r.val) (128 * G + l.val)) (r : Fin 512) (l : Fin 128) :
    gCod a b c (ix2 r l) = cod X (R + r.val) (128 * G + l.val) := by
  unfold cod
  rw [← gQ_at a b c X R G h r l]
  rfl

/-- The group's dequantised activations. -/
theorem gDeq_at (h : ∀ (r : Fin 512) (l : Fin 128),
      Ideal.div (a (ix2 r l) - b (ix2 0 l)) (c (ix2 0 l)) = X (R + r.val) (128 * G + l.val)) (r : Fin 512) (l : Fin 128) :
    gDeq a b c (ix2 r l) = deq X (R + r.val) (128 * G + l.val) := by
  unfold deq
  rw [← gQ_at a b c X R G h r l, div128, ← gScl_at a b c X R G h r 0]
  unfold gDeq k0_pay179
  unfold gScl
  generalize k0_pay175 a b c = s
  generalize k0_pay177 (F := Ideal) _ _ = s
  pointwise

end At

/-! ## The table of scales takes a column -/

/-- The kernel's test of a column number against `4 k + g`, as a test of natural numbers. -/
theorem cmp_col (k j g : ℕ) (hk : k < 37) (hj : j < 148) (hg : g < 4) :
    IntOp.cmpi .eq (BitVec.ofNat 32 j) (Scalar.addi (Scalar.muli (BitVec.ofNat 32 k) 4#32) (BitVec.ofNat 32 g))
      = if j = 4 * k + g then 1#1 else 0#1 := by
  have e : Scalar.addi (Scalar.muli (BitVec.ofNat 32 k) 4#32) (BitVec.ofNat 32 g) = BitVec.ofNat 32 (4 * k + g) := by
    show BitVec.ofNat 32 k * 4#32 + BitVec.ofNat 32 g = _
    apply BitVec.eq_of_toNat_eq
    simp
    omega
  rw [e]
  show BitVec.ofBool _ = _
  by_cases h : j = 4 * k + g
  · subst h; simp
  · rw [if_neg h]
    have : BitVec.ofNat 32 j ≠ BitVec.ofNat 32 (4 * k + g) := by
      intro q
      have q := congrArg BitVec.toNat q
      simp at q
      omega
    rw [beq_eq_false_iff_ne.2 this]
    rfl

section Ins

variable (k : ℕ) (hk : k < 37) (v : FVec Ideal S512x148 .f32) (a : Vec Ideal S512x128 .bf16) (b c : Vec Ideal S1x128 .f32)
include hk

/-- The first group's scales replace column `4 k` of the table. -/
theorem ins0 (r : Fin 512) (j : Fin 148) :
    k0_pay180 (BitVec.ofNat 32 k) v (gScl a b c) (ix2 r j) = if j.val = 4 * k then gScl a b c (ix2 r 0) else v (ix2 r j) := by
  unfold k0_pay180
  generalize gScl a b c = w
  pointwise
  rw [show (0#32) = BitVec.ofNat 32 0 from rfl, cmp_col k j 0 hk j.isLt (by norm_num), Nat.add_zero]
  split <;> rfl

/-- The second group's scales replace column `4 k + 1`. -/
theorem ins1 (r : Fin 512) (j : Fin 148) :
    k0_pay186 (BitVec.ofNat 32 k) v (gScl a b c) (ix2 r j) = if j.val = 4 * k + 1 then gScl a b c (ix2 r 0) else v (ix2 r j) := by
  unfold k0_pay186
  generalize gScl a b c = w
  pointwise
  rw [show (1#32) = BitVec.ofNat 32 1 from rfl, cmp_col k j 1 hk j.isLt (by norm_num)]
  split <;> rfl

/-- The third group's scales replace column `4 k + 2`. -/
theorem ins2 (r : Fin 512) (j : Fin 148) :
    k0_pay195 (BitVec.ofNat 32 k) v (k0_pay188 a b c) (k0_pay189 a b c) k0_pay190 (ix2 r j)
      = if j.val = 4 * k + 2 then gScl a b c (ix2 r 0) else v (ix2 r j) := by
  unfold k0_pay195
  rw [scl2]
  generalize gScl a b c = w
  pointwise
  rw [show (2#32) = BitVec.ofNat 32 2 from rfl, cmp_col k j 2 hk j.isLt (by norm_num)]
  split <;> rfl

/-- The fourth group's scales replace column `4 k + 3`. -/
theorem ins3 (r : Fin 512) (j : Fin 148) :
    k0_pay202 (BitVec.ofNat 32 k) v (k0_pay197 a b c) (ix2 r j)
      = if j.val = 4 * k + 3 then gScl a b c (ix2 r 0) else v (ix2 r j) := by
  unfold k0_pay202
  rw [scl3]
  generalize gScl a b c = w
  pointwise
  rw [show (3#32) = BitVec.ofNat 32 3 from rfl, cmp_col k j 3 hk j.isLt (by norm_num)]
  split <;> rfl

end Ins

/-- The four columns together. -/
theorem ins_all (k : ℕ) (hk : k < 37) (v : FVec Ideal S512x148 .f32)
    (a0 a1 a2 a3 : Vec Ideal S512x128 .bf16) (b0 c0 b1 c1 b2 c2 b3 c3 : Vec Ideal S1x128 .f32)
    (X : ℕ → ℕ → EReal) (R : ℕ)
    (h0 : ∀ (r : Fin 512) (l : Fin 128), Ideal.div (a0 (ix2 r l) - b0 (ix2 0 l)) (c0 (ix2 0 l)) = X (R + r.val) (128 * (4 * k + 0) + l.val))
    (h1 : ∀ (r : Fin 512) (l : Fin 128), Ideal.div (a1 (ix2 r l) - b1 (ix2 0 l)) (c1 (ix2 0 l)) = X (R + r.val) (128 * (4 * k + 1) + l.val))
    (h2 : ∀ (r : Fin 512) (l : Fin 128), Ideal.div (a2 (ix2 r l) - b2 (ix2 0 l)) (c2 (ix2 0 l)) = X (R + r.val) (128 * (4 * k + 2) + l.val))
    (h3 : ∀ (r : Fin 512) (l : Fin 128), Ideal.div (a3 (ix2 r l) - b3 (ix2 0 l)) (c3 (ix2 0 l)) = X (R + r.val) (128 * (4 * k + 3) + l.val))
    (r : Fin 512) (j : Fin 148) :
    k0_pay202 (BitVec.ofNat 32 k) (k0_pay195 (BitVec.ofNat 32 k) (k0_pay186 (BitVec.ofNat 32 k)
        (k0_pay180 (BitVec.ofNat 32 k) v (k0_pay175 a0 b0 c0)) (k0_pay182 a1 b1 c1))
        (k0_pay188 a2 b2 c2) (k0_pay189 a2 b2 c2) k0_pay190) (k0_pay197 a3 b3 c3) (ix2 r j)
      = if j.val / 4 = k then scl X (R + r.val) j.val else v (ix2 r j) := by
  rw [ins3 k hk, ins2 k hk, scl1, ins1 k hk, ins0 k hk, gScl_at _ _ _ X R _ h0, gScl_at _ _ _ X R _ h1,
    gScl_at _ _ _ X R _ h2, gScl_at _ _ _ X R _ h3]
  split_ifs with e3 e2 e1 e0 q <;> first | omega | rfl | (congr 1; omega) | skip

end Cert.KernelIdeal.Gen
-- ==== Proof.Block.lean ====
module
public import proofs.«01_k».proof.Proof.Gen.KernelIdeal.Frame
public import Idealize.ShloMosaic.Lib.Pipeline.ValueKit.Geometry
public import Idealize.ShloMosaic.Lib.Pipeline.ValueKit.Acc
public import proofs.«01_k».proof.Proof.Group
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ShapeOps
public import Idealize.ShloMosaic.Lib.Pointwise.Contract

/-!
  What one grid point of the kernel computes of its block of activations: the codes, the dequantised activations (kept
  in a scratch and read back for the product), the table of scales and the accumulator.
-/

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline
open Cert.Spec

/-- A part of a matrix, loaded, reads the matrix at the shifted coordinates. -/
theorem ld2 {n m a b : ℕ} {e : EltTy} (x : (⟨2, ![n, m]⟩ : Shape).Idx → Elt Ideal e) (p o : ℕ)
    (inb : ∀ z, (![p, o] : Fin 2 → ℕ) z + (![a, b] : Fin 2 → ℕ) z ≤ (⟨2, ![n, m]⟩ : Shape).size z)
    (r : Fin a) (l : Fin b) (hr : p + r.val < n) (hl : o + l.val < m) :
    View.ld x (Rect.unit ![p, o] ![a, b] inb) (ix2 r l) = x (ix2 ⟨p + r.val, hr⟩ ⟨o + l.val, hl⟩) := by
  show x ((Rect.unit (s := ⟨2, ![n, m]⟩) ![p, o] ![a, b] inb).emb (ix2 r l)) = _
  congr 1
  funext z
  apply Fin.ext
  rw [ValueKit.rect_emb_unit_val]
  match z with
  | 0 => rfl
  | 1 => rfl

section Terms

variable (x0 : Vec Ideal S512x512 .bf16) (x1 x2 : Vec Ideal S1x512 .f32) (x3 : Vec Ideal S3584x512 .bf16)

/-- The pieces of the block of codes, one per group. -/
def codL : List (View.Piece (Elt Ideal) S512x512 .i8) :=
  [⟨Rect.unit ![0, 384] ![512, 128] inb_S512x512_S512x128_0_384,
      k0_pay200 (k0_pay196 (View.ld x0 (Rect.unit ![0, 384] ![512, 128] inb_S512x512_S512x128_0_384)) (View.ld x2 (Rect.unit ![0, 384] ![1, 128] inb_S1x512_S1x128_0_384)) (View.ld x1 (Rect.unit ![0, 384] ![1, 128] inb_S1x512_S1x128_0_384))) (k0_pay197 (View.ld x0 (Rect.unit ![0, 384] ![512, 128] inb_S512x512_S512x128_0_384)) (View.ld x2 (Rect.unit ![0, 384] ![1, 128] inb_S1x512_S1x128_0_384)) (View.ld x1 (Rect.unit ![0, 384] ![1, 128] inb_S1x512_S1x128_0_384)))⟩,
    ⟨Rect.unit ![0, 256] ![512, 128] inb_S512x512_S512x128_0_256,
      k0_pay193 (k0_pay187 (View.ld x0 (Rect.unit ![0, 256] ![512, 128] inb_S512x512_S512x128_0_256)) (View.ld x2 (Rect.unit ![0, 256] ![1, 128] inb_S1x512_S1x128_0_256)) (View.ld x1 (Rect.unit ![0, 256] ![1, 128] inb_S1x512_S1x128_0_256))) (k0_pay188 (View.ld x0 (Rect.unit ![0, 256] ![512, 128] inb_S512x512_S512x128_0_256)) (View.ld x2 (Rect.unit ![0, 256] ![1, 128] inb_S1x512_S1x128_0_256)) (View.ld x1 (Rect.unit ![0, 256] ![1, 128] inb_S1x512_S1x128_0_256))) (k0_pay189 (View.ld x0 (Rect.unit ![0, 256] ![512, 128] inb_S512x512_S512x128_0_256)) (View.ld x2 (Rect.unit ![0, 256] ![1, 128] inb_S1x512_S1x128_0_256)) (View.ld x1 (Rect.unit ![0, 256] ![1, 128] inb_S1x512_S1x128_0_256))) k0_pay190⟩,
    ⟨Rect.unit ![0, 128] ![512, 128] inb_S512x512_S512x128_0_128,
      k0_pay184 (k0_pay181 (View.ld x0 (Rect.unit ![0, 128] ![512, 128] inb_S512x512_S512x128_0_128)) (View.ld x2 (Rect.unit ![0, 128] ![1, 128] inb_S1x512_S1x128_0_128)) (View.ld x1 (Rect.unit ![0, 128] ![1, 128] inb_S1x512_S1x128_0_128))) (k0_pay182 (View.ld x0 (Rect.unit ![0, 128] ![512, 128] inb_S512x512_S512x128_0_128)) (View.ld x2 (Rect.unit ![0, 128] ![1, 128] inb_S1x512_S1x128_0_128)) (View.ld x1 (Rect.unit ![0, 128] ![1, 128] inb_S1x512_S1x128_0_128)))⟩,
    ⟨Rect.unit ![0, 0] ![512, 128] inb_S512x512_S512x128_0_0,
      k0_pay178 (FloatOps.ofBits FTy.f32 1123942400#32) (k0_pay176 (View.ld x0 (Rect.unit ![0, 0] ![512, 128] inb_S512x512_S512x128_0_0)) (View.ld x2 (Rect.unit ![0, 0] ![1, 128] inb_S1x512_S1x128_0_0)) (View.ld x1 (Rect.unit ![0, 0] ![1, 128] inb_S1x512_S1x128_0_0)))⟩]

/-- The pieces of the block of dequantised activations, one per group. -/
def deqL : List (View.Piece (Elt Ideal) S512x512 .bf16) :=
  [⟨Rect.unit ![0, 384] ![512, 128] inb_S512x512_S512x128_0_384,
      k0_pay201 (k0_pay196 (View.ld x0 (Rect.unit ![0, 384] ![512, 128] inb_S512x512_S512x128_0_384)) (View.ld x2 (Rect.unit ![0, 384] ![1, 128] inb_S1x512_S1x128_0_384)) (View.ld x1 (Rect.unit ![0, 384] ![1, 128] inb_S1x512_S1x128_0_384))) (k0_pay197 (View.ld x0 (Rect.unit ![0, 384] ![512, 128] inb_S512x512_S512x128_0_384)) (View.ld x2 (Rect.unit ![0, 384] ![1, 128] inb_S1x512_S1x128_0_384)) (View.ld x1 (Rect.unit ![0, 384] ![1, 128] inb_S1x512_S1x128_0_384)))⟩,
    ⟨Rect.unit ![0, 256] ![512, 128] inb_S512x512_S512x128_0_256,
      k0_pay194 (k0_pay187 (View.ld x0 (Rect.unit ![0, 256] ![512, 128] inb_S512x512_S512x128_0_256)) (View.ld x2 (Rect.unit ![0, 256] ![1, 128] inb_S1x512_S1x128_0_256)) (View.ld x1 (Rect.unit ![0, 256] ![1, 128] inb_S1x512_S1x128_0_256))) (k0_pay188 (View.ld x0 (Rect.unit ![0, 256] ![512, 128] inb_S512x512_S512x128_0_256)) (View.ld x2 (Rect.unit ![0, 256] ![1, 128] inb_S1x512_S1x128_0_256)) (View.ld x1 (Rect.unit ![0, 256] ![1, 128] inb_S1x512_S1x128_0_256))) (k0_pay189 (View.ld x0 (Rect.unit ![0, 256] ![512, 128] inb_S512x512_S512x128_0_256)) (View.ld x2 (Rect.unit ![0, 256] ![1, 128] inb_S1x512_S1x128_0_256)) (View.ld x1 (Rect.unit ![0, 256] ![1, 128] inb_S1x512_S1x128_0_256))) k0_pay190⟩,
    ⟨Rect.unit ![0, 128] ![512, 128] inb_S512x512_S512x128_0_128,
      k0_pay185 (k0_pay181 (View.ld x0 (Rect.unit ![0, 128] ![512, 128] inb_S512x512_S512x128_0_128)) (View.ld x2 (Rect.unit ![0, 128] ![1, 128] inb_S1x512_S1x128_0_128)) (View.ld x1 (Rect.unit ![0, 128] ![1, 128] inb_S1x512_S1x128_0_128))) (k0_pay182 (View.ld x0 (Rect.unit ![0, 128] ![512, 128] inb_S512x512_S512x128_0_128)) (View.ld x2 (Rect.unit ![0, 128] ![1, 128] inb_S1x512_S1x128_0_128)) (View.ld x1 (Rect.unit ![0, 128] ![1, 128] inb_S1x512_S1x128_0_128)))⟩,
    ⟨Rect.unit ![0, 0] ![512, 128] inb_S512x512_S512x128_0_0,
      k0_pay179 (k0_pay175 (View.ld x0 (Rect.unit ![0, 0] ![512, 128] inb_S512x512_S512x128_0_0)) (View.ld x2 (Rect.unit ![0, 0] ![1, 128] inb_S1x512_S1x128_0_0)) (View.ld x1 (Rect.unit ![0, 0] ![1, 128] inb_S1x512_S1x128_0_0))) (FloatOps.ofBits FTy.f32 1123942400#32) (k0_pay176 (View.ld x0 (Rect.unit ![0, 0] ![512, 128] inb_S512x512_S512x128_0_0)) (View.ld x2 (Rect.unit ![0, 0] ![1, 128] inb_S1x512_S1x128_0_0)) (View.ld x1 (Rect.unit ![0, 0] ![1, 128] inb_S1x512_S1x128_0_0)))⟩]

/-- The four groups cover the block. -/
theorem codL_cover (y : S512x512.Idx) : ∃ p ∈ codL x0 x1 x2, y ∈ p.1.set :=
  View.cover_of_tiledL (codL x0 x1 x2) ![512, 128] (by sl_kernel_rfl) y

theorem deqL_cover (y : S512x512.Idx) : ∃ p ∈ deqL x0 x1 x2, y ∈ p.1.set :=
  View.cover_of_tiledL (deqL x0 x1 x2) ![512, 128] (by sl_kernel_rfl) y

/-- The block of codes. -/
def bCod : Vec Ideal S512x512 .i8 := View.canon (codL x0 x1 x2)

/-- The block of dequantised activations. -/
def bDeq : Vec Ideal S512x512 .bf16 := View.canon (deqL x0 x1 x2)

/-- The table of scales after the point, from the table `v` before it. -/
def bScl (k : ℕ) (v : Vec Ideal S512x148 .f32) : Vec Ideal S512x148 .f32 :=
  k0_pay202 (BitVec.ofNat 32 k) (k0_pay195 (BitVec.ofNat 32 k) (k0_pay186 (BitVec.ofNat 32 k)
      (k0_pay180 (BitVec.ofNat 32 k) (k0_pay173 v)
        (k0_pay175 (View.ld x0 (Rect.unit ![0, 0] ![512, 128] inb_S512x512_S512x128_0_0)) (View.ld x2 (Rect.unit ![0, 0] ![1, 128] inb_S1x512_S1x128_0_0)) (View.ld x1 (Rect.unit ![0, 0] ![1, 128] inb_S1x512_S1x128_0_0))))
      (k0_pay182 (View.ld x0 (Rect.unit ![0, 128] ![512, 128] inb_S512x512_S512x128_0_128)) (View.ld x2 (Rect.unit ![0, 128] ![1, 128] inb_S1x512_S1x128_0_128)) (View.ld x1 (Rect.unit ![0, 128] ![1, 128] inb_S1x512_S1x128_0_128))))
      (k0_pay188 (View.ld x0 (Rect.unit ![0, 256] ![512, 128] inb_S512x512_S512x128_0_256)) (View.ld x2 (Rect.unit ![0, 256] ![1, 128] inb_S1x512_S1x128_0_256)) (View.ld x1 (Rect.unit ![0, 256] ![1, 128] inb_S1x512_S1x128_0_256)))
      (k0_pay189 (View.ld x0 (Rect.unit ![0, 256] ![512, 128] inb_S512x512_S512x128_0_256)) (View.ld x2 (Rect.unit ![0, 256] ![1, 128] inb_S1x512_S1x128_0_256)) (View.ld x1 (Rect.unit ![0, 256] ![1, 128] inb_S1x512_S1x128_0_256))) k0_pay190)
    (k0_pay197 (View.ld x0 (Rect.unit ![0, 384] ![512, 128] inb_S512x512_S512x128_0_384)) (View.ld x2 (Rect.unit ![0, 384] ![1, 128] inb_S1x512_S1x128_0_384)) (View.ld x1 (Rect.unit ![0, 384] ![1, 128] inb_S1x512_S1x128_0_384)))

/-- The accumulator after the point, from the accumulator `v` before it. -/
def bAcc (v : Vec Ideal S512x3584 .f32) : Vec Ideal S512x3584 .f32 := k0_pay1 v (bDeq x0 x1 x2) x3

section At

variable (X : ℕ → ℕ → EReal) (R k : ℕ)
variable (hX : ∀ (r : Fin 512) (j : Fin 512),
  Ideal.div (x0 (ix2 r j) - x2 (ix2 0 j)) (x1 (ix2 0 j)) = X (R + r.val) (512 * k + j.val))
include hX

theorem grp0 (r : Fin 512) (l : Fin 128) :
    Ideal.div ((View.ld x0 (Rect.unit ![0, 0] ![512, 128] inb_S512x512_S512x128_0_0)) (ix2 r l)
      - (View.ld x2 (Rect.unit ![0, 0] ![1, 128] inb_S1x512_S1x128_0_0)) (ix2 0 l))
      ((View.ld x1 (Rect.unit ![0, 0] ![1, 128] inb_S1x512_S1x128_0_0)) (ix2 0 l)) = X (R + r.val) (128 * (4 * k + 0) + l.val) := by
  rw [ld2 x0 0 0 _ r l (by omega) (by omega), ld2 x2 0 0 _ 0 l (by decide) (by omega),
    ld2 x1 0 0 _ 0 l (by decide) (by omega)]
  refine (hX ⟨0 + r.val, by omega⟩ ⟨0 + l.val, by omega⟩).trans ?_
  congr 1
  · show R + (0 + r.val) = _; omega
  · show 512 * k + (0 + l.val) = _; omega

theorem grp1 (r : Fin 512) (l : Fin 128) :
    Ideal.div ((View.ld x0 (Rect.unit ![0, 128] ![512, 128] inb_S512x512_S512x128_0_128)) (ix2 r l)
      - (View.ld x2 (Rect.unit ![0, 128] ![1, 128] inb_S1x512_S1x128_0_128)) (ix2 0 l))
      ((View.ld x1 (Rect.unit ![0, 128] ![1, 128] inb_S1x512_S1x128_0_128)) (ix2 0 l)) = X (R + r.val) (128 * (4 * k + 1) + l.val) := by
  rw [ld2 x0 0 128 _ r l (by omega) (by omega), ld2 x2 0 128 _ 0 l (by decide) (by omega),
    ld2 x1 0 128 _ 0 l (by decide) (by omega)]
  refine (hX ⟨0 + r.val, by omega⟩ ⟨128 + l.val, by omega⟩).trans ?_
  congr 1
  · show R + (0 + r.val) = _; omega
  · show 512 * k + (128 + l.val) = _; omega

theorem grp2 (r : Fin 512) (l : Fin 128) :
    Ideal.div ((View.ld x0 (Rect.unit ![0, 256] ![512, 128] inb_S512x512_S512x128_0_256)) (ix2 r l)
      - (View.ld x2 (Rect.unit ![0, 256] ![1, 128] inb_S1x512_S1x128_0_256)) (ix2 0 l))
      ((View.ld x1 (Rect.unit ![0, 256] ![1, 128] inb_S1x512_S1x128_0_256)) (ix2 0 l)) = X (R + r.val) (128 * (4 * k + 2) + l.val) := by
  rw [ld2 x0 0 256 _ r l (by omega) (by omega), ld2 x2 0 256 _ 0 l (by decide) (by omega),
    ld2 x1 0 256 _ 0 l (by decide) (by omega)]
  refine (hX ⟨0 + r.val, by omega⟩ ⟨256 + l.val, by omega⟩).trans ?_
  congr 1
  · show R + (0 + r.val) = _; omega
  · show 512 * k + (256 + l.val) = _; omega

theorem grp3 (r : Fin 512) (l : Fin 128) :
    Ideal.div ((View.ld x0 (Rect.unit ![0, 384] ![512, 128] inb_S512x512_S512x128_0_384)) (ix2 r l)
      - (View.ld x2 (Rect.unit ![0, 384] ![1, 128] inb_S1x512_S1x128_0_384)) (ix2 0 l))
      ((View.ld x1 (Rect.unit ![0, 384] ![1, 128] inb_S1x512_S1x128_0_384)) (ix2 0 l)) = X (R + r.val) (128 * (4 * k + 3) + l.val) := by
  rw [ld2 x0 0 384 _ r l (by omega) (by omega), ld2 x2 0 384 _ 0 l (by decide) (by omega),
    ld2 x1 0 384 _ 0 l (by decide) (by omega)]
  refine (hX ⟨0 + r.val, by omega⟩ ⟨384 + l.val, by omega⟩).trans ?_
  congr 1
  · show R + (0 + r.val) = _; omega
  · show 512 * k + (384 + l.val) = _; omega

/-- The block of codes holds the codes. -/
theorem bCod_at (y : S512x512.Idx) : bCod x0 x1 x2 y = cod X (R + (y 0).val) (512 * k + (y 1).val) := by
  refine View.canon_apply_of_pieces (fun y => cod X (R + (y 0).val) (512 * k + (y 1).val)) (codL x0 x1 x2) ?_ y (codL_cover x0 x1 x2 y)
  intro p hp
  unfold codL at hp
  simp only [List.mem_cons, List.not_mem_nil, or_false] at hp
  rcases hp with rfl | rfl | rfl | rfl
  all_goals
    intro x
    dsimp only
    rw [ValueKit.rect_emb_unit_val, ValueKit.rect_emb_unit_val, eq_ix2 (n0 := 512) (n1 := 128) x]
  · refine (gCod_at _ _ _ X R _ (grp3 x0 x1 x2 X R k hX) _ _).trans ?_
    congr 1
    · show R + (x 0).val = R + (0 + (x 0).val); omega
    · show 128 * (4 * k + 3) + (x 1).val = 512 * k + (384 + (x 1).val); omega
  · refine (gCod_at _ _ _ X R _ (grp2 x0 x1 x2 X R k hX) _ _).trans ?_
    congr 1
    · show R + (x 0).val = R + (0 + (x 0).val); omega
    · show 128 * (4 * k + 2) + (x 1).val = 512 * k + (256 + (x 1).val); omega
  · refine (gCod_at _ _ _ X R _ (grp1 x0 x1 x2 X R k hX) _ _).trans ?_
    congr 1
    · show R + (x 0).val = R + (0 + (x 0).val); omega
    · show 128 * (4 * k + 1) + (x 1).val = 512 * k + (128 + (x 1).val); omega
  · refine (gCod_at _ _ _ X R _ (grp0 x0 x1 x2 X R k hX) _ _).trans ?_
    congr 1
    · show R + (x 0).val = R + (0 + (x 0).val); omega
    · show 128 * (4 * k + 0) + (x 1).val = 512 * k + (0 + (x 1).val); omega

/-- The block of dequantised activations holds these. -/
theorem bDeq_at (y : S512x512.Idx) : bDeq x0 x1 x2 y = deq X (R + (y 0).val) (512 * k + (y 1).val) := by
  refine View.canon_apply_of_pieces (Val := Elt Ideal) (e := .bf16) (fun y => deq X (R + (y 0).val) (512 * k + (y 1).val)) (deqL x0 x1 x2) ?_ y (deqL_cover x0 x1 x2 y)
  intro p hp
  unfold deqL at hp
  simp only [List.mem_cons, List.not_mem_nil, or_false] at hp
  rcases hp with rfl | rfl | rfl | rfl
  all_goals
    intro x
    dsimp only
    rw [ValueKit.rect_emb_unit_val, ValueKit.rect_emb_unit_val, eq_ix2 (n0 := 512) (n1 := 128) x]
  · refine (gDeq_at _ _ _ X R _ (grp3 x0 x1 x2 X R k hX) _ _).trans ?_
    congr 1
    · show R + (x 0).val = R + (0 + (x 0).val); omega
    · show 128 * (4 * k + 3) + (x 1).val = 512 * k + (384 + (x 1).val); omega
  · refine (gDeq_at _ _ _ X R _ (grp2 x0 x1 x2 X R k hX) _ _).trans ?_
    congr 1
    · show R + (x 0).val = R + (0 + (x 0).val); omega
    · show 128 * (4 * k + 2) + (x 1).val = 512 * k + (256 + (x 1).val); omega
  · refine (gDeq_at _ _ _ X R _ (grp1 x0 x1 x2 X R k hX) _ _).trans ?_
    congr 1
    · show R + (x 0).val = R + (0 + (x 0).val); omega
    · show 128 * (4 * k + 1) + (x 1).val = 512 * k + (128 + (x 1).val); omega
  · refine (gDeq_at _ _ _ X R _ (grp0 x0 x1 x2 X R k hX) _ _).trans ?_
    congr 1
    · show R + (x 0).val = R + (0 + (x 0).val); omega
    · show 128 * (4 * k + 0) + (x 1).val = 512 * k + (0 + (x 1).val); omega

/-- The table of scales has the block's four columns filled in, the others kept. -/
theorem bScl_at (hk : k < 37) (v : Vec Ideal S512x148 .f32) (r : Fin 512) (j : Fin 148) :
    bScl x0 x1 x2 k v (ix2 r j) = if j.val / 4 = k then scl X (R + r.val) j.val else v (ix2 r j) := by
  unfold bScl
  rw [ins_all k hk _ _ _ _ _ _ _ _ _ _ _ _ _ X R (grp0 x0 x1 x2 X R k hX) (grp1 x0 x1 x2 X R k hX)
    (grp2 x0 x1 x2 X R k hX) (grp3 x0 x1 x2 X R k hX)]
  congr 1
  unfold k0_pay173
  pointwise

/-- The accumulator takes up the block's 512 channels. -/
theorem bAcc_at (W : ℕ → ℕ → EReal)
    (hW : ∀ (o : Fin 3584) (j : Fin 512), x3 (ix2 o j) = W o.val (512 * k + j.val))
    (v : Vec Ideal S512x3584 .f32) (r : Fin 512) (o : Fin 3584) :
    bAcc x0 x1 x2 x3 v (ix2 r o) = v (ix2 r o) + ∑ j ∈ Finset.range 512, deq X (R + r.val) (512 * k + j) * W o.val (512 * k + j) := by
  have e := bDeq_at x0 x1 x2 X R k hX
  unfold bAcc
  generalize bDeq x0 x1 x2 = u at e ⊢
  unfold k0_pay1
  pointwise
  congr 1
  rw [Finset.sum_range]
  refine Finset.sum_congr rfl fun j _ => ?_
  rw [e, hW]
  rfl

end At

end Terms

end Cert.KernelIdeal.Gen
-- ==== Proof.Cases.lean ====
module
public import proofs.«01_k».proof.Proof.Gen.KernelIdeal.Frame
public import Idealize.ShloMosaic.Lib.Pipeline.ValueKit.Geometry
public import Idealize.ShloMosaic.Lib.Pipeline.ValueKit.Acc
public import proofs.«01_k».proof.Proof.Block
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ShapeOps
public import Idealize.ShloMosaic.Lib.Pointwise.Contract

/-!
  What the points of each of the four kinds leave in the codes' block, the table of scales and the accumulator, as the
  block terms of `Block`.  A point at the first channel block starts from a table and an accumulator of zeros.
-/

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline
open Cert.Spec

theorem cod_A (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : cond0_0 i) (hc1 : cond0_1 i) (hc2 : ¬cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 = bCod x0 x1 x2 := by
  unfold out0_A_6 kernelRun0_A
  dsimp only
  sl_unfold_words
  simp only [View.readAt_eq_ld, Memref.IsWhole.read_unread]
  exact View.read_writes_eq_canon _ _ _ (codL_cover x0 x1 x2)

theorem scl_A (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : cond0_0 i) (hc1 : cond0_1 i) (hc2 : ¬cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 = bScl x0 x1 x2 (i 1).val (k0_pay171 (F := Ideal)) := by
  unfold out0_A_7 kernelRun0_A
  dsimp only
  sl_unfold_words
  rw [View.read_writes_eq_canon _ _ _ (fun y => ⟨_, List.mem_cons_self, View.mem_set_unit_zero (by funext z; fin_cases z <;> rfl) inb_S512x148_S512x148_0_0 y⟩)]
  rw [View.canon_cons_unit_lit' _ _ _ (by decide)]
  simp only [View.readAt_eq_ld, Memref.IsWhole.read_unread]
  rw [View.readCov_unit_lit' _ _ _ (by decide)]
  rfl

theorem acc_A (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : cond0_0 i) (hc1 : cond0_1 i) (hc2 : ¬cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 = bAcc x0 x1 x2 x3 (k0_pay170 (F := Ideal)) := by
  unfold sout0_A_0 kernelRun0_A
  dsimp only
  sl_unfold_words
  rw [View.read_writes_eq_canon _ _ _ (fun y => ⟨_, List.mem_cons_self, View.mem_set_unit_zero (by funext z; fin_cases z <;> rfl) inb_S512x3584_S512x3584_0_0 y⟩)]
  rw [View.canon_cons_unit_lit' _ _ _ (by decide)]
  simp only [View.readAt_eq_ld, Memref.IsWhole.read_unread]
  rw [View.ld_unit_lit' _ x3 (by decide)]
  rw [View.readCov_unit_lit' _ _ _ (by decide)]
  unfold bAcc
  congr 1
  refine (View.readCov_eq_canon_ld _ _ _ (deqL_cover x0 x1 x2)).trans ?_
  exact View.ld_unit_lit' _ _ (by decide)

theorem cod_B (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : ¬cond0_0 i) (hc1 : ¬cond0_1 i) (hc2 : ¬cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) (xo7 : Vec Ideal S512x148 .f32) (xs0 : Vec Ideal S512x3584 .f32) :
    out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo7 xs0 = bCod x0 x1 x2 := by
  unfold out0_B_6 kernelRun0_B
  dsimp only
  sl_unfold_words
  simp only [View.readAt_eq_ld, Memref.IsWhole.read_unread]
  exact View.read_writes_eq_canon _ _ _ (codL_cover x0 x1 x2)

theorem scl_B (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : ¬cond0_0 i) (hc1 : ¬cond0_1 i) (hc2 : ¬cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) (xo7 : Vec Ideal S512x148 .f32) (xs0 : Vec Ideal S512x3584 .f32) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo7 xs0 = bScl x0 x1 x2 (i 1).val xo7 := by
  unfold out0_B_7 kernelRun0_B
  dsimp only
  sl_unfold_words
  rw [View.read_writes_eq_canon _ _ _ (fun y => ⟨_, List.mem_cons_self, View.mem_set_unit_zero (by funext z; fin_cases z <;> rfl) inb_S512x148_S512x148_0_0 y⟩)]
  rw [View.canon_cons_unit_lit' _ _ _ (by decide)]
  simp only [View.readAt_eq_ld, Memref.IsWhole.read_unread]
  rw [View.ld_unit_lit' _ xo7 (by decide)]
  rfl

theorem acc_B (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : ¬cond0_0 i) (hc1 : ¬cond0_1 i) (hc2 : ¬cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) (xo7 : Vec Ideal S512x148 .f32) (xs0 : Vec Ideal S512x3584 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo7 xs0 = bAcc x0 x1 x2 x3 xs0 := by
  unfold sout0_B_0 kernelRun0_B
  dsimp only
  sl_unfold_words
  rw [View.read_writes_eq_canon _ _ _ (fun y => ⟨_, List.mem_cons_self, View.mem_set_unit_zero (by funext z; fin_cases z <;> rfl) inb_S512x3584_S512x3584_0_0 y⟩)]
  rw [View.canon_cons_unit_lit' _ _ _ (by decide)]
  simp only [View.readAt_eq_ld, Memref.IsWhole.read_unread]
  rw [View.ld_unit_lit' _ x3 (by decide)]
  rw [View.ld_unit_lit' _ xs0 (by decide)]
  unfold bAcc
  congr 1
  refine (View.readCov_eq_canon_ld _ _ _ (deqL_cover x0 x1 x2)).trans ?_
  exact View.ld_unit_lit' _ _ (by decide)

set_option maxHeartbeats 2000000 in
theorem cod_C (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : ¬cond0_0 i) (hc1 : ¬cond0_1 i) (hc2 : cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) (xo7 : Vec Ideal S512x148 .f32) (xo11 : Vec Ideal S1x3584 .f32) (xs0 : Vec Ideal S512x3584 .f32) :
    out0_C_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo7 xo11 xs0 = bCod x0 x1 x2 := by
  unfold out0_C_6 kernelRun0_C
  dsimp only
  sl_unfold_words
  simp only [View.readAt_eq_ld, Memref.IsWhole.read_unread]
  exact View.read_writes_eq_canon _ _ _ (codL_cover x0 x1 x2)

set_option maxHeartbeats 2000000 in
theorem scl_C (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : ¬cond0_0 i) (hc1 : ¬cond0_1 i) (hc2 : cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) (xo7 : Vec Ideal S512x148 .f32) (xo11 : Vec Ideal S1x3584 .f32) (xs0 : Vec Ideal S512x3584 .f32) :
    out0_C_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo7 xo11 xs0 = bScl x0 x1 x2 (i 1).val xo7 := by
  unfold out0_C_7 kernelRun0_C
  dsimp only
  sl_unfold_words
  rw [View.read_writes_eq_canon _ _ _ (fun y => ⟨_, List.mem_cons_self, View.mem_set_unit_zero (by funext z; fin_cases z <;> rfl) inb_S512x148_S512x148_0_0 y⟩)]
  rw [View.canon_cons_unit_lit' _ _ _ (by decide)]
  simp only [View.readAt_eq_ld, Memref.IsWhole.read_unread]
  rw [View.ld_unit_lit' _ xo7 (by decide)]
  rfl

set_option maxHeartbeats 2000000 in
theorem acc_C (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : ¬cond0_0 i) (hc1 : ¬cond0_1 i) (hc2 : cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) (xo7 : Vec Ideal S512x148 .f32) (xo11 : Vec Ideal S1x3584 .f32) (xs0 : Vec Ideal S512x3584 .f32) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo7 xo11 xs0 = bAcc x0 x1 x2 x3 xs0 := by
  unfold sout0_C_0 kernelRun0_C
  dsimp only
  sl_unfold_words
  rw [View.read_writes_eq_canon _ _ _ (fun y => ⟨_, List.mem_cons_self, View.mem_set_unit_zero (by funext z; fin_cases z <;> rfl) inb_S512x3584_S512x3584_0_0 y⟩)]
  rw [View.canon_cons_unit_lit' _ _ _ (by decide)]
  simp only [View.readAt_eq_ld, Memref.IsWhole.read_unread]
  rw [View.ld_unit_lit' _ x3 (by decide)]
  rw [View.ld_unit_lit' _ xs0 (by decide)]
  unfold bAcc
  congr 1
  refine (View.readCov_eq_canon_ld _ _ _ (deqL_cover x0 x1 x2)).trans ?_
  exact View.ld_unit_lit' _ _ (by decide)

theorem cod_D (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : cond0_0 i) (hc1 : ¬cond0_1 i) (hc2 : ¬cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) :
    out0_D_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 = bCod x0 x1 x2 := by
  unfold out0_D_6 kernelRun0_D
  dsimp only
  sl_unfold_words
  simp only [View.readAt_eq_ld, Memref.IsWhole.read_unread]
  exact View.read_writes_eq_canon _ _ _ (codL_cover x0 x1 x2)

theorem scl_D (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : cond0_0 i) (hc1 : ¬cond0_1 i) (hc2 : ¬cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) :
    out0_D_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 = bScl x0 x1 x2 (i 1).val (k0_pay171 (F := Ideal)) := by
  unfold out0_D_7 kernelRun0_D
  dsimp only
  sl_unfold_words
  rw [View.read_writes_eq_canon _ _ _ (fun y => ⟨_, List.mem_cons_self, View.mem_set_unit_zero (by funext z; fin_cases z <;> rfl) inb_S512x148_S512x148_0_0 y⟩)]
  rw [View.canon_cons_unit_lit' _ _ _ (by decide)]
  simp only [View.readAt_eq_ld, Memref.IsWhole.read_unread]
  rw [View.readCov_unit_lit' _ _ _ (by decide)]
  rfl

theorem acc_D (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : cond0_0 i) (hc1 : ¬cond0_1 i) (hc2 : ¬cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) :
    sout0_D_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 = bAcc x0 x1 x2 x3 (k0_pay170 (F := Ideal)) := by
  unfold sout0_D_0 kernelRun0_D
  dsimp only
  sl_unfold_words
  rw [View.read_writes_eq_canon _ _ _ (fun y => ⟨_, List.mem_cons_self, View.mem_set_unit_zero (by funext z; fin_cases z <;> rfl) inb_S512x3584_S512x3584_0_0 y⟩)]
  rw [View.canon_cons_unit_lit' _ _ _ (by decide)]
  simp only [View.readAt_eq_ld, Memref.IsWhole.read_unread]
  rw [View.ld_unit_lit' _ x3 (by decide)]
  rw [View.readCov_unit_lit' _ _ _ (by decide)]
  unfold bAcc
  congr 1
  refine (View.readCov_eq_canon_ld _ _ _ (deqL_cover x0 x1 x2)).trans ?_
  exact View.ld_unit_lit' _ _ (by decide)

end Cert.KernelIdeal.Gen
-- ==== Proof.Tail.lean ====
module
public import proofs.«01_k».proof.Proof.Gen.KernelIdeal.Frame
public import Idealize.ShloMosaic.Lib.Pipeline.ValueKit.Geometry
public import Idealize.ShloMosaic.Lib.Pipeline.ValueKit.Acc
public import proofs.«01_k».proof.Proof.Cases
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ShapeOps
public import Idealize.ShloMosaic.Lib.Pointwise.Contract

/-!
  What a point at the last channel block leaves in the output's, the gradient's, the loss's and the bias gradient's
  blocks, from the finished accumulator `A`, the bias `b`, the targets `y` and the bias gradient `p` so far.  The body
  goes through the columns in 28 chunks of 128; each chunk is one instance of the chunk lemmas here.
-/

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline
open Cert.Spec

/-! ## One chunk of columns -/

section Chunk

variable (a : Vec Ideal S512x128 .f32) (b p : Vec Ideal S1x128 .f32) (y : Vec Ideal S512x128 .bf16)

theorem pay6_at (r : Fin 512) (l : Fin 128) :
    k0_pay6 (F := Ideal) a b (ix2 r l) = a (ix2 r l) + b (ix2 0 l) := by
  unfold k0_pay6 k0_pay4
  pointwise

theorem pay5_at (r : Fin 512) (l : Fin 128) :
    k0_pay5 (F := Ideal) a b y (ix2 r l) = a (ix2 r l) + b (ix2 0 l) - y (ix2 r l) := by
  unfold k0_pay5 k0_pay4
  pointwise

theorem pay7_at (r : Fin 512) (l : Fin 128) :
    k0_pay7 (F := Ideal) a b y (ix2 r l)
      = (a (ix2 r l) + b (ix2 0 l) - y (ix2 r l)) * Ideal.ofBits .f32 0x33924925#32 := by
  rw [← pay5_at a b y r l]
  unfold k0_pay7
  generalize k0_pay5 (F := Ideal) a b y = d
  pointwise

theorem pay8_at (l : Fin 128) :
    k0_pay8 (F := Ideal) a b y p (ix2 0 l)
      = p (ix2 0 l) + ∑ r : Fin 512, (a (ix2 r l) + b (ix2 0 l) - y (ix2 r l)) * Ideal.ofBits .f32 0x33924925#32 := by
  simp only [← pay7_at a b y]
  unfold k0_pay8
  generalize k0_pay7 (F := Ideal) a b y = g
  pointwise

/-- The sum of squares takes a chunk's differences. -/
def sq (v : FVec Ideal S512x128 .f32) : FVec Ideal S512x128 .f32 :=
  addf v (mulf (k0_pay5 (F := Ideal) a b y) (k0_pay5 (F := Ideal) a b y))

theorem sq_at (v : FVec Ideal S512x128 .f32) (r : Fin 512) (l : Fin 128) :
    sq a b y v (ix2 r l) = v (ix2 r l)
      + (a (ix2 r l) + b (ix2 0 l) - y (ix2 r l)) * (a (ix2 r l) + b (ix2 0 l) - y (ix2 r l)) := by
  rw [← pay5_at a b y r l]
  rfl

end Chunk

/-! ## The blocks from the whole arrays -/

section Tail

variable (A : Vec Ideal S512x3584 .f32) (b p : Vec Ideal S1x3584 .f32) (y : Vec Ideal S512x3584 .bf16)

/-- The output. -/
def tY : Vec Ideal S512x3584 .bf16 := fun i => A i + b (ix2 0 (i 1))

/-- The difference from the target. -/
def tD : Vec Ideal S512x3584 .f32 := fun i => A i + b (ix2 0 (i 1)) - y i

/-- The gradient. -/
def tG : Vec Ideal S512x3584 .bf16 := fun i => tD A b y i * Ideal.ofBits .f32 0x33924925#32

/-- The bias gradient, from `p` on. -/
def tB : Vec Ideal S1x3584 .f32 := fun i => p i + ∑ r : Fin 512, tG A b y (ix2 r (i 1))

/-- The loss of each row. -/
def tL : Vec Ideal S1x1x512 .f32 := fun i =>
  Ideal.div (∑ o ∈ Finset.range 3584, ext2 (tD A b y) (i 2).val o * ext2 (tD A b y) (i 2).val o) (Ideal.ofBits .f32 0x45600000#32)

theorem emb2 {n m a b : ℕ} (o : ℕ) (inb : ∀ z, (![0, o] : Fin 2 → ℕ) z + (![a, b] : Fin 2 → ℕ) z ≤ (⟨2, ![n, m]⟩ : Shape).size z)
    (r : Fin a) (l : Fin b) (hr : r.val < n) (hl : o + l.val < m) :
    (Rect.unit (s := ⟨2, ![n, m]⟩) ![0, o] ![a, b] inb).emb (ix2 r l) = ix2 ⟨r.val, hr⟩ ⟨o + l.val, hl⟩ := by
  funext z
  apply Fin.ext
  rw [ValueKit.rect_emb_unit_val]
  match z with
  | 0 => exact Nat.zero_add _
  | 1 => rfl

theorem ldz {n m a b : ℕ} {e : EltTy} (x : (⟨2, ![n, m]⟩ : Shape).Idx → Elt Ideal e) (o : ℕ)
    (inb : ∀ z, (![0, o] : Fin 2 → ℕ) z + (![a, b] : Fin 2 → ℕ) z ≤ (⟨2, ![n, m]⟩ : Shape).size z)
    (r : Fin a) (l : Fin b) (hr : r.val < n) (hl : o + l.val < m) :
    View.ld x (Rect.unit ![0, o] ![a, b] inb) (ix2 r l) = x (ix2 ⟨r.val, hr⟩ ⟨o + l.val, hl⟩) :=
  congrArg x (emb2 o inb r l hr hl)

variable (o : ℕ) (i1 : ∀ z, (![0, o] : Fin 2 → ℕ) z + (![512, 128] : Fin 2 → ℕ) z ≤ S512x3584.size z)
  (i2 : ∀ z, (![0, o] : Fin 2 → ℕ) z + (![1, 128] : Fin 2 → ℕ) z ≤ S1x3584.size z)

theorem pieceY (x : S512x128.Idx) :
    k0_pay6 (F := Ideal) (View.ld A (Rect.unit ![0, o] ![512, 128] i1)) (View.ld b (Rect.unit ![0, o] ![1, 128] i2)) x
      = tY A b ((Rect.unit (s := S512x3584) ![0, o] ![512, 128] i1).emb x) := by
  have h : o + 128 ≤ 3584 := i1 1
  rw [eq_ix2 (n0 := 512) (n1 := 128) x]
  generalize x 0 = r
  generalize x 1 = l
  refine (pay6_at _ _ r l).trans ?_
  rw [ldz A o i1 r l r.isLt (by omega), ldz b o i2 0 l (by decide) (by omega)]
  refine Eq.trans ?_ (congrArg (tY A b) (emb2 (n := 512) (m := 3584) o i1 r l r.isLt (by omega))).symm
  rfl

theorem pieceG (x : S512x128.Idx) :
    k0_pay7 (F := Ideal) (View.ld A (Rect.unit ![0, o] ![512, 128] i1)) (View.ld b (Rect.unit ![0, o] ![1, 128] i2))
        (View.ld y (Rect.unit ![0, o] ![512, 128] i1)) x
      = tG A b y ((Rect.unit (s := S512x3584) ![0, o] ![512, 128] i1).emb x) := by
  have h : o + 128 ≤ 3584 := i1 1
  rw [eq_ix2 (n0 := 512) (n1 := 128) x]
  generalize x 0 = r
  generalize x 1 = l
  refine (pay7_at _ _ _ r l).trans ?_
  rw [ldz A o i1 r l r.isLt (by omega), ldz y o i1 r l r.isLt (by omega), ldz b o i2 0 l (by decide) (by omega)]
  refine Eq.trans ?_ (congrArg (tG A b y) (emb2 (n := 512) (m := 3584) o i1 r l r.isLt (by omega))).symm
  rfl

theorem pieceB (x : S1x128.Idx) :
    k0_pay8 (F := Ideal) (View.ld A (Rect.unit ![0, o] ![512, 128] i1)) (View.ld b (Rect.unit ![0, o] ![1, 128] i2))
        (View.ld y (Rect.unit ![0, o] ![512, 128] i1)) (View.ld p (Rect.unit ![0, o] ![1, 128] i2)) x
      = tB A b p y ((Rect.unit (s := S1x3584) ![0, o] ![1, 128] i2).emb x) := by
  have h : o + 128 ≤ 3584 := i1 1
  have e : x = ix2 0 (x 1) := (eq_ix2 (n0 := 1) (n1 := 128) x).trans (by congr 1; exact Subsingleton.elim _ _)
  rw [e]
  generalize x 1 = l
  refine (pay8_at _ _ _ _ l).trans ?_
  refine Eq.trans ?_ (congrArg (tB A b p y) (emb2 (n := 1) (m := 3584) o i2 0 l (by decide) (by omega))).symm
  rw [ldz b o i2 0 l (by decide) (by omega), ldz p o i2 0 l (by decide) (by omega)]
  unfold tB
  refine congrArg₂ _ rfl (Finset.sum_congr rfl fun r _ => ?_)
  rw [ldz A o i1 r l r.isLt (by omega), ldz y o i1 r l r.isLt (by omega)]
  rfl

/-! ## The sum of squares over the 28 chunks -/

theorem inA (k : Fin 28) : ∀ z, (![0, 128 * k.val] : Fin 2 → ℕ) z + (![512, 128] : Fin 2 → ℕ) z ≤ S512x3584.size z := by
  intro z
  match z with
  | 0 => exact Nat.le_refl 512
  | 1 => show 128 * k.val + 128 ≤ 3584; omega

theorem inB (k : Fin 28) : ∀ z, (![0, 128 * k.val] : Fin 2 → ℕ) z + (![1, 128] : Fin 2 → ℕ) z ≤ S1x3584.size z := by
  intro z
  match z with
  | 0 => exact Nat.le_refl 1
  | 1 => show 128 * k.val + 128 ≤ 3584; omega

/-- The sum of squares takes chunk `k`. -/
def sqk (v : FVec Ideal S512x128 .f32) (k : Fin 28) : FVec Ideal S512x128 .f32 :=
  sq (View.ld A (Rect.unit ![0, 128 * k.val] ![512, 128] (inA k))) (View.ld b (Rect.unit ![0, 128 * k.val] ![1, 128] (inB k)))
    (View.ld y (Rect.unit ![0, 128 * k.val] ![512, 128] (inA k))) v

/-- The zeros that the sum starts from. -/
def sq0 : FVec Ideal S512x128 .f32 := broadcast S512x128 (Scalar.ofBits .f32 0x00000000#32)

/-- All chunks in order. -/
def chunks : List (Fin 28) :=
  [0, 1, 2, 3, 4, 5, 6, 7, 8, 9, 10, 11, 12, 13, 14, 15, 16, 17, 18, 19, 20, 21, 22, 23, 24, 25, 26, 27]

theorem sqk_at (v : FVec Ideal S512x128 .f32) (k : Fin 28) (r : Fin 512) (l : Fin 128) :
    sqk A b y v k (ix2 r l) = v (ix2 r l)
      + ext2 (tD A b y) r.val (128 * k.val + l.val) * ext2 (tD A b y) r.val (128 * k.val + l.val) := by
  refine (sq_at _ _ _ _ r l).trans ?_
  rw [ldz A _ (inA k) r l r.isLt (by omega), ldz y _ (inA k) r l r.isLt (by omega), ldz b _ (inB k) 0 l (by decide) (by omega),
    ext2_of_lt (tD A b y) r.isLt (show 128 * k.val + l.val < 3584 by omega)]
  rfl

theorem fold_at (L : List (Fin 28)) (v : FVec Ideal S512x128 .f32) (r : Fin 512) (l : Fin 128) :
    L.foldl (sqk A b y) v (ix2 r l) = v (ix2 r l)
      + (L.map fun k => ext2 (tD A b y) r.val (128 * k.val + l.val) * ext2 (tD A b y) r.val (128 * k.val + l.val)).sum := by
  induction L generalizing v with
  | nil => simp
  | cons k L ih => rw [List.foldl_cons, ih, sqk_at, List.map_cons, List.sum_cons, add_assoc]

/-- Twenty-eight chunks of 128 columns, each summed, are all columns. -/
theorem sum_chunks (f : ℕ → EReal) :
    ∑ l : Fin 128, (chunks.map fun k => f (128 * k.val + l.val)).sum = ∑ o ∈ Finset.range 3584, f o := by
  have e : ∀ l : Fin 128, (chunks.map fun k => f (128 * k.val + l.val)).sum = ∑ k : Fin 28, f (128 * k.val + l.val) := by
    intro l
    rw [show chunks = List.finRange 28 from by decide, ← List.ofFn_eq_map, List.sum_ofFn]
  simp only [e]
  rw [Finset.sum_comm, ← Fin.sum_univ_eq_sum_range (n := 3584), ← Finset.sum_product', Finset.univ_product_univ]
  refine Fintype.sum_equiv (finProdFinEquiv (m := 28) (n := 128)) _ _ ?_
  rintro ⟨k, l⟩
  congr 1
  exact Nat.add_comm _ _

theorem pay3_at (v : FVec Ideal S512x128 .f32) (r : Fin 512) :
    k0_pay3 (F := Ideal) v (ix3 0 0 r) = Ideal.div (∑ l : Fin 128, v (ix2 r l)) (Ideal.ofBits .f32 0x45600000#32) := by
  unfold k0_pay3
  pointwise

theorem loss_at (i : S1x1x512.Idx) : k0_pay3 (F := Ideal) (chunks.foldl (sqk A b y) sq0) i = tL A b y i := by
  have e : i = ix3 0 0 (i 2) := (eq_ix3 (n0 := 1) (n1 := 1) (n2 := 512) i).trans (by
    congr 1 <;> exact Subsingleton.elim _ _)
  rw [e]
  generalize i 2 = r
  refine (pay3_at _ r).trans ?_
  unfold tL
  congr 1
  refine Eq.trans (Finset.sum_congr rfl fun l _ => (fold_at A b y chunks sq0 r l).trans ?_)
    (sum_chunks fun o => ext2 (tD A b y) r.val o * ext2 (tD A b y) r.val o)
  rw [show sq0 (ix2 r l) = 0 from by show Ideal.ofBits .f32 0x00000000#32 = 0; simp [Ideal.ofBits, Ideal.ieee], zero_add]

end Tail

/-- A whole array just stored, loaded in part. -/
theorem rc_whole (v : View sig .tc .vmem S512x3584 .f32) (A : Vec Ideal S512x3584 .f32) (r : Rect S512x3584) :
    v.readCov [⟨Rect.unit ![0, 0] ![512, 3584] inb_S512x3584_S512x3584_0_0, A⟩] r.toLoadRect = View.ld A r := by
  rw [View.readCov_eq_canon_ld _ _ _ (fun y => ⟨_, List.mem_cons_self, View.mem_set_unit_zero (by funext z; fin_cases z <;> rfl) inb_S512x3584_S512x3584_0_0 y⟩)]
  rw [View.canon_cons_unit_lit' _ _ _ (by decide)]

/-- The accumulator's last store, as the block term. -/
theorem lastAcc (x0 : Vec Ideal S512x512 .bf16) (x1 x2 : Vec Ideal S1x512 .f32) (x3 : Vec Ideal S3584x512 .bf16)
    (xs0 : Vec Ideal S512x3584 .f32) (v : View sig .tc .vmem S512x512 .bf16) :
    k0_pay1 (F := Ideal) (View.ld xs0 (Rect.unit ![0, 0] ![512, 3584] inb_S512x3584_S512x3584_0_0))
      (v.readCov (deqL x0 x1 x2) (Rect.unit (s := S512x512) ![0, 0] ![512, 512] inb_S512x512_S512x512_0_0).toLoadRect)
      (View.ld x3 (Rect.unit ![0, 0] ![3584, 512] inb_S3584x512_S3584x512_0_0)) = bAcc x0 x1 x2 x3 xs0 := by
  rw [View.ld_unit_lit' _ x3 (by decide), View.ld_unit_lit' _ xs0 (by decide)]
  unfold bAcc
  congr 1
  refine (View.readCov_eq_canon_ld _ _ _ (deqL_cover x0 x1 x2)).trans ?_
  exact View.ld_unit_lit' _ _ (by decide)

/-! ## What a point at the last channel block leaves -/

set_option maxHeartbeats 4000000 in
theorem tailY (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : ¬cond0_0 i) (hc1 : ¬cond0_1 i) (hc2 : cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) (xo7 : Vec Ideal S512x148 .f32) (xo11 : Vec Ideal S1x3584 .f32) (xs0 : Vec Ideal S512x3584 .f32) :
    out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo7 xo11 xs0 = tY (bAcc x0 x1 x2 x3 xs0) x4 := by
  unfold out0_C_8 kernelRun0_C
  dsimp only
  sl_unfold_words
  simp only [View.readAt_eq_ld, Memref.IsWhole.read_unread]
  generalize hA : k0_pay1 (F := Ideal) _ _ _ = A
  have hA' : A = bAcc x0 x1 x2 x3 xs0 := hA.symm.trans (lastAcc x0 x1 x2 x3 xs0 _)
  rw [← hA']
  clear hA hA'
  simp only [rc_whole]
  funext i
  rw [View.read_writes_eq_canon _ _ _ (View.cover_of_tiledL _ ![512, 128] (by sl_kernel_rfl))]
  refine View.canon_apply_of_pieces (tY A x4) _ ?_ i (View.cover_of_tiledL _ ![512, 128] (by sl_kernel_rfl) i)
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    exact fun x => pieceY _ _ _ _ _ x

set_option maxHeartbeats 4000000 in
theorem tailG (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : ¬cond0_0 i) (hc1 : ¬cond0_1 i) (hc2 : cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) (xo7 : Vec Ideal S512x148 .f32) (xo11 : Vec Ideal S1x3584 .f32) (xs0 : Vec Ideal S512x3584 .f32) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo7 xo11 xs0 = tG (bAcc x0 x1 x2 x3 xs0) x4 x5 := by
  unfold out0_C_9 kernelRun0_C
  dsimp only
  sl_unfold_words
  simp only [View.readAt_eq_ld, Memref.IsWhole.read_unread]
  generalize hA : k0_pay1 (F := Ideal) _ _ _ = A
  have hA' : A = bAcc x0 x1 x2 x3 xs0 := hA.symm.trans (lastAcc x0 x1 x2 x3 xs0 _)
  rw [← hA']
  clear hA hA'
  simp only [rc_whole]
  funext i
  rw [View.read_writes_eq_canon _ _ _ (View.cover_of_tiledL _ ![512, 128] (by sl_kernel_rfl))]
  refine View.canon_apply_of_pieces (tG A x4 x5) _ ?_ i (View.cover_of_tiledL _ ![512, 128] (by sl_kernel_rfl) i)
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    exact fun x => pieceG _ _ _ _ _ _ x

set_option maxHeartbeats 4000000 in
theorem tailB (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : ¬cond0_0 i) (hc1 : ¬cond0_1 i) (hc2 : cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) (xo7 : Vec Ideal S512x148 .f32) (xo11 : Vec Ideal S1x3584 .f32) (xs0 : Vec Ideal S512x3584 .f32) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo7 xo11 xs0 = tB (bAcc x0 x1 x2 x3 xs0) x4 xo11 x5 := by
  unfold out0_C_11 kernelRun0_C
  dsimp only
  sl_unfold_words
  simp only [View.readAt_eq_ld, Memref.IsWhole.read_unread]
  generalize hA : k0_pay1 (F := Ideal) _ _ _ = A
  have hA' : A = bAcc x0 x1 x2 x3 xs0 := hA.symm.trans (lastAcc x0 x1 x2 x3 xs0 _)
  rw [← hA']
  clear hA hA'
  simp only [rc_whole]
  funext i
  rw [View.read_writes_eq_canon _ _ _ (View.cover_of_tiledL _ ![1, 128] (by sl_kernel_rfl))]
  refine View.canon_apply_of_pieces (tB A x4 xo11 x5) _ ?_ i (View.cover_of_tiledL _ ![1, 128] (by sl_kernel_rfl) i)
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    exact fun x => pieceB _ _ _ _ _ _ _ x

set_option maxHeartbeats 4000000 in
theorem tailL (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : ¬cond0_0 i) (hc1 : ¬cond0_1 i) (hc2 : cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) (xo7 : Vec Ideal S512x148 .f32) (xo11 : Vec Ideal S1x3584 .f32) (xs0 : Vec Ideal S512x3584 .f32) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xo7 xo11 xs0 = tL (bAcc x0 x1 x2 x3 xs0) x4 x5 := by
  unfold out0_C_10 kernelRun0_C
  dsimp only
  sl_unfold_words
  simp only [View.readAt_eq_ld, Memref.IsWhole.read_unread]
  generalize hA : k0_pay1 (F := Ideal) _ _ _ = A
  have hA' : A = bAcc x0 x1 x2 x3 xs0 := hA.symm.trans (lastAcc x0 x1 x2 x3 xs0 _)
  rw [← hA']
  clear hA hA'
  simp only [rc_whole]
  funext i
  rw [View.read_writes_eq_canon _ _ _ (fun y => ⟨_, List.mem_cons_self, View.mem_set_unit_zero (by funext z; fin_cases z <;> rfl) inb_S1x1x512_S1x1x512_0_0_0 y⟩)]
  rw [View.canon_cons_unit_lit' _ _ _ (by decide)]
  exact loss_at A x4 x5 i

end Cert.KernelIdeal.Gen
-- ==== Proof.Step.lean ====
module
public import proofs.«01_k».proof.Proof.Gen.KernelIdeal.Frame
public import Idealize.ShloMosaic.Lib.Pipeline.ValueKit.Geometry
public import Idealize.ShloMosaic.Lib.Pipeline.ValueKit.Acc
public import proofs.«01_k».proof.Proof.Tail
public import proofs.«01_k».proof.Proof.Gen.KernelIdeal.Value
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ShapeOps
public import Idealize.ShloMosaic.Lib.Pointwise.Contract

/-!
  What one grid point does to the carried state, and what its input blocks are.  Point `t` is token block `t / 37` and
  channel block `t % 37`.
-/

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline
open Cert.Spec Cert.KernelIdeal.Value

variable (m : (ℓ : Loc nD τ sig) → Buf (Elt Ideal) ℓ)

/-! ## The input blocks -/

theorem idx0 : ∀ t : Fin cfg0.N, win0_0.index t (0 : Fin 2) = t.val / 37 ∧ win0_0.index t (1 : Fin 2) = t.val % 37 :=
  (by decide +kernel : ∀ t : Fin grid0.N, _)

theorem blk0_at (c : Dev nD) (t : Fin cfg0.N) (y : S512x512.Idx) :
    (iblk m c 0 t : Vec Ideal S512x512 .bf16) y = ext2 (n := 8192) (m := 18944) (V m c main_arg0) (512 * (t.val / 37) + (y 0).val) (512 * (t.val % 37) + (y 1).val) := by
  have ht : t.val < 592 := lt_of_lt_of_eq t.isLt N_0
  have h0 : (y 0).val < 512 := (y 0).isLt
  have h1 : (y 1).val < 512 := (y 1).isLt
  obtain ⟨e0, e1⟩ := idx0 t
  rw [ext2_of_lt (n := 8192) (m := 18944) _ (show 512 * (t.val / 37) + (y 0).val < 8192 by omega) (show 512 * (t.val % 37) + (y 1).val < 18944 by omega)]
  unfold iblk
  rw [View.read_apply]
  show V m c main_arg0 _ = V m c main_arg0 _
  congr 1
  funext a
  apply Fin.ext
  match a with
  | ⟨0, _⟩ => show win0_0.index t (0 : Fin 2) * 512 + 1 * (y 0).val = 512 * (t.val / 37) + (y 0).val; rw [e0]; omega
  | ⟨1, _⟩ => show win0_0.index t (1 : Fin 2) * 512 + 1 * (y 1).val = 512 * (t.val % 37) + (y 1).val; rw [e1]; omega

theorem idx1 : ∀ t : Fin cfg0.N, win0_1.index t (0 : Fin 2) = 0 ∧ win0_1.index t (1 : Fin 2) = t.val % 37 :=
  (by decide +kernel : ∀ t : Fin grid0.N, _)

theorem blk1_at (c : Dev nD) (t : Fin cfg0.N) (y : S1x512.Idx) :
    (iblk m c 1 t : Vec Ideal S1x512 .f32) y = ext2 (n := 1) (m := 18944) (V m c main_v0) (0) (512 * (t.val % 37) + (y 1).val) := by
  have ht : t.val < 592 := lt_of_lt_of_eq t.isLt N_0
  have h0 : (y 0).val < 1 := (y 0).isLt
  have h1 : (y 1).val < 512 := (y 1).isLt
  obtain ⟨e0, e1⟩ := idx1 t
  rw [ext2_of_lt (n := 1) (m := 18944) _ (show 0 < 1 by omega) (show 512 * (t.val % 37) + (y 1).val < 18944 by omega)]
  unfold iblk
  rw [View.read_apply]
  show V m c main_v0 _ = V m c main_v0 _
  congr 1
  funext a
  apply Fin.ext
  match a with
  | ⟨0, _⟩ => show win0_1.index t (0 : Fin 2) * 1 + 1 * (y 0).val = 0; rw [e0]; omega
  | ⟨1, _⟩ => show win0_1.index t (1 : Fin 2) * 512 + 1 * (y 1).val = 512 * (t.val % 37) + (y 1).val; rw [e1]; omega

theorem idx2 : ∀ t : Fin cfg0.N, win0_2.index t (0 : Fin 2) = 0 ∧ win0_2.index t (1 : Fin 2) = t.val % 37 :=
  (by decide +kernel : ∀ t : Fin grid0.N, _)

theorem blk2_at (c : Dev nD) (t : Fin cfg0.N) (y : S1x512.Idx) :
    (iblk m c 2 t : Vec Ideal S1x512 .f32) y = ext2 (n := 1) (m := 18944) (V m c main_v1) (0) (512 * (t.val % 37) + (y 1).val) := by
  have ht : t.val < 592 := lt_of_lt_of_eq t.isLt N_0
  have h0 : (y 0).val < 1 := (y 0).isLt
  have h1 : (y 1).val < 512 := (y 1).isLt
  obtain ⟨e0, e1⟩ := idx2 t
  rw [ext2_of_lt (n := 1) (m := 18944) _ (show 0 < 1 by omega) (show 512 * (t.val % 37) + (y 1).val < 18944 by omega)]
  unfold iblk
  rw [View.read_apply]
  show V m c main_v1 _ = V m c main_v1 _
  congr 1
  funext a
  apply Fin.ext
  match a with
  | ⟨0, _⟩ => show win0_2.index t (0 : Fin 2) * 1 + 1 * (y 0).val = 0; rw [e0]; omega
  | ⟨1, _⟩ => show win0_2.index t (1 : Fin 2) * 512 + 1 * (y 1).val = 512 * (t.val % 37) + (y 1).val; rw [e1]; omega

theorem idx3 : ∀ t : Fin cfg0.N, win0_3.index t (0 : Fin 2) = 0 ∧ win0_3.index t (1 : Fin 2) = t.val % 37 :=
  (by decide +kernel : ∀ t : Fin grid0.N, _)

theorem blk3_at (c : Dev nD) (t : Fin cfg0.N) (y : S3584x512.Idx) :
    (iblk m c 3 t : Vec Ideal S3584x512 .bf16) y = ext2 (n := 3584) (m := 18944) (V m c main_arg3) ((y 0).val) (512 * (t.val % 37) + (y 1).val) := by
  have ht : t.val < 592 := lt_of_lt_of_eq t.isLt N_0
  have h0 : (y 0).val < 3584 := (y 0).isLt
  have h1 : (y 1).val < 512 := (y 1).isLt
  obtain ⟨e0, e1⟩ := idx3 t
  rw [ext2_of_lt (n := 3584) (m := 18944) _ (show (y 0).val < 3584 by omega) (show 512 * (t.val % 37) + (y 1).val < 18944 by omega)]
  unfold iblk
  rw [View.read_apply]
  show V m c main_arg3 _ = V m c main_arg3 _
  congr 1
  funext a
  apply Fin.ext
  match a with
  | ⟨0, _⟩ => show win0_3.index t (0 : Fin 2) * 3584 + 1 * (y 0).val = (y 0).val; rw [e0]; omega
  | ⟨1, _⟩ => show win0_3.index t (1 : Fin 2) * 512 + 1 * (y 1).val = 512 * (t.val % 37) + (y 1).val; rw [e1]; omega

theorem idx4 : ∀ t : Fin cfg0.N, win0_4.index t (0 : Fin 2) = 0 ∧ win0_4.index t (1 : Fin 2) = 0 :=
  (by decide +kernel : ∀ t : Fin grid0.N, _)

theorem blk4_at (c : Dev nD) (t : Fin cfg0.N) (y : S1x3584.Idx) :
    (iblk m c 4 t : Vec Ideal S1x3584 .f32) y = ext2 (n := 1) (m := 3584) (V m c main_arg4) (0) ((y 1).val) := by
  have ht : t.val < 592 := lt_of_lt_of_eq t.isLt N_0
  have h0 : (y 0).val < 1 := (y 0).isLt
  have h1 : (y 1).val < 3584 := (y 1).isLt
  obtain ⟨e0, e1⟩ := idx4 t
  rw [ext2_of_lt (n := 1) (m := 3584) _ (show 0 < 1 by omega) (show (y 1).val < 3584 by omega)]
  unfold iblk
  rw [View.read_apply]
  show V m c main_arg4 _ = V m c main_arg4 _
  congr 1
  funext a
  apply Fin.ext
  match a with
  | ⟨0, _⟩ => show win0_4.index t (0 : Fin 2) * 1 + 1 * (y 0).val = 0; rw [e0]; omega
  | ⟨1, _⟩ => show win0_4.index t (1 : Fin 2) * 3584 + 1 * (y 1).val = (y 1).val; rw [e1]; omega

theorem idx5 : ∀ t : Fin cfg0.N, win0_5.index t (0 : Fin 2) = t.val / 37 ∧ win0_5.index t (1 : Fin 2) = 0 :=
  (by decide +kernel : ∀ t : Fin grid0.N, _)

theorem blk5_at (c : Dev nD) (t : Fin cfg0.N) (y : S512x3584.Idx) :
    (iblk m c 5 t : Vec Ideal S512x3584 .bf16) y = ext2 (n := 8192) (m := 3584) (V m c main_arg5) (512 * (t.val / 37) + (y 0).val) ((y 1).val) := by
  have ht : t.val < 592 := lt_of_lt_of_eq t.isLt N_0
  have h0 : (y 0).val < 512 := (y 0).isLt
  have h1 : (y 1).val < 3584 := (y 1).isLt
  obtain ⟨e0, e1⟩ := idx5 t
  rw [ext2_of_lt (n := 8192) (m := 3584) _ (show 512 * (t.val / 37) + (y 0).val < 8192 by omega) (show (y 1).val < 3584 by omega)]
  unfold iblk
  rw [View.read_apply]
  show V m c main_arg5 _ = V m c main_arg5 _
  congr 1
  funext a
  apply Fin.ext
  match a with
  | ⟨0, _⟩ => show win0_5.index t (0 : Fin 2) * 512 + 1 * (y 0).val = 512 * (t.val / 37) + (y 0).val; rw [e0]; omega
  | ⟨1, _⟩ => show win0_5.index t (1 : Fin 2) * 3584 + 1 * (y 1).val = (y 1).val; rw [e1]; omega

/-! ## One point's effect on the carried state -/

/-- The carried state: codes, scales, output, gradient, loss, bias gradient, accumulator. -/
abbrev St : Type := Vec Ideal S512x512 .i8 × Vec Ideal S512x148 .f32 × Vec Ideal S512x3584 .bf16 × Vec Ideal S512x3584 .bf16
  × Vec Ideal S1x1x512 .f32 × Vec Ideal S1x3584 .f32 × Vec Ideal S512x3584 .f32

theorem zeroB (c : Dev nD) (i : grid0.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S3584x512 .bf16) (harg5 : arg5.IsWhole) (arg6 : Memref sig .tc .vmem S1x3584 .f32) (harg6 : arg6.IsWhole) (arg7 : Memref sig .tc .vmem S512x3584 .bf16) (harg7 : arg7.IsWhole) (arg8 : Memref sig .tc .vmem S512x512 .i8) (harg8 : arg8.IsWhole) (arg9 : Memref sig .tc .vmem S512x148 .f32) (harg9 : arg9.IsWhole) (arg10 : Memref sig .tc .vmem S512x3584 .bf16) (harg10 : arg10.IsWhole) (arg11 : Memref sig .tc .vmem S512x3584 .bf16) (harg11 : arg11.IsWhole) (arg12 : Memref sig .tc .vmem S1x1x512 .f32) (harg12 : arg12.IsWhole) (arg13 : Memref sig .tc .vmem S1x3584 .f32) (harg13 : arg13.IsWhole) (arg14 : Memref sig .tc .vmem S512x3584 .f32) (harg14 : arg14.IsWhole) (arg15 : Memref sig .tc .vmem S512x512 .bf16) (harg15 : arg15.IsWhole) (hc0 : cond0_0 i) (hc1 : cond0_1 i) (hc2 : ¬cond0_2 i)
    (x0 : Vec Ideal S512x512 .bf16) (x1 : Vec Ideal S1x512 .f32) (x2 : Vec Ideal S1x512 .f32) (x3 : Vec Ideal S3584x512 .bf16) (x4 : Vec Ideal S1x3584 .f32) (x5 : Vec Ideal S512x3584 .bf16) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 = k0_pay172 (F := Ideal) := by
  unfold out0_A_11 kernelRun0_A
  dsimp only
  sl_unfold_words
  rw [View.read_writes_eq_canon _ _ _ (fun y => ⟨_, List.mem_cons_self, View.mem_set_unit_zero (by funext z; fin_cases z <;> rfl) inb_S1x3584_S1x3584_0_0 y⟩)]
  rw [View.canon_cons_unit_lit' _ _ _ (by decide)]

/-- The second grid coordinate is the channel block. -/
theorem coord1 (t : Fin cfg0.N) : (grid0.coords t 1).val = t.val % 37 := by
  have e1 : (grid0.coords t 1).val = t.val / 1 % 37 := Pipeline.Grid.coords_val t 1 (by decide) rfl
  rw [e1, Nat.div_one]

section Step

variable (c : Dev nD) (t : Fin cfg0.N) (acc : St)

theorem st_cod : (stAt0 m c t.val t.isLt acc).1 = bCod (iblk m c 0 t) (iblk m c 1 t) (iblk m c 2 t) := by
  have ht : t.val < 592 := lt_of_lt_of_eq t.isLt N_0
  by_cases h0 : t.val % 37 = 0
  · by_cases h1 : t.val % 592 = 0
    · rw [stAt0_A m c t acc h0 h1 (by omega)]; dsimp only; rw [cod_A]
    · rw [stAt0_D m c t acc h0 h1 (by omega)]; dsimp only; rw [cod_D]
  · by_cases h2 : t.val % 37 = 36
    · rw [stAt0_C m c t acc h0 (by omega) h2]; dsimp only; rw [cod_C]
    · rw [stAt0_B m c t acc h0 (by omega) h2]; dsimp only; rw [cod_B]

theorem st_scl : (stAt0 m c t.val t.isLt acc).2.1 = bScl (iblk m c 0 t) (iblk m c 1 t) (iblk m c 2 t) (t.val % 37)
    (if t.val % 37 = 0 then k0_pay171 (F := Ideal) else acc.2.1) := by
  have ht : t.val < 592 := lt_of_lt_of_eq t.isLt N_0
  rw [← coord1 t]
  by_cases h0 : t.val % 37 = 0
  · rw [if_pos ((coord1 t).trans h0)]
    by_cases h1 : t.val % 592 = 0
    · rw [stAt0_A m c t acc h0 h1 (by omega)]; dsimp only; rw [scl_A]
    · rw [stAt0_D m c t acc h0 h1 (by omega)]; dsimp only; rw [scl_D]
  · rw [if_neg fun h => h0 ((coord1 t).symm.trans h)]
    by_cases h2 : t.val % 37 = 36
    · rw [stAt0_C m c t acc h0 (by omega) h2]; dsimp only; rw [scl_C]
    · rw [stAt0_B m c t acc h0 (by omega) h2]; dsimp only; rw [scl_B]

theorem st_acc : (stAt0 m c t.val t.isLt acc).2.2.2.2.2.2
    = bAcc (iblk m c 0 t) (iblk m c 1 t) (iblk m c 2 t) (iblk m c 3 t)
      (if t.val % 37 = 0 then k0_pay170 (F := Ideal) else acc.2.2.2.2.2.2) := by
  have ht : t.val < 592 := lt_of_lt_of_eq t.isLt N_0
  by_cases h0 : t.val % 37 = 0
  · rw [if_pos h0]
    by_cases h1 : t.val % 592 = 0
    · rw [stAt0_A m c t acc h0 h1 (by omega)]; dsimp only; rw [acc_A]
    · rw [stAt0_D m c t acc h0 h1 (by omega)]; dsimp only; rw [acc_D]
  · rw [if_neg h0]
    by_cases h2 : t.val % 37 = 36
    · rw [stAt0_C m c t acc h0 (by omega) h2]; dsimp only; rw [acc_C]
    · rw [stAt0_B m c t acc h0 (by omega) h2]; dsimp only; rw [acc_B]

/-- At the last channel block the output block is written from the finished accumulator. -/
theorem st_y (h2 : t.val % 37 = 36) : (stAt0 m c t.val t.isLt acc).2.2.1
    = tY (stAt0 m c t.val t.isLt acc).2.2.2.2.2.2 (iblk m c 4 t) := by
  rw [st_acc, if_neg (by omega), stAt0_C m c t acc (by omega) (by omega) h2]; dsimp only; rw [tailY]

theorem st_g (h2 : t.val % 37 = 36) : (stAt0 m c t.val t.isLt acc).2.2.2.1
    = tG (stAt0 m c t.val t.isLt acc).2.2.2.2.2.2 (iblk m c 4 t) (iblk m c 5 t) := by
  rw [st_acc, if_neg (by omega), stAt0_C m c t acc (by omega) (by omega) h2]; dsimp only; rw [tailG]

theorem st_l (h2 : t.val % 37 = 36) : (stAt0 m c t.val t.isLt acc).2.2.2.2.1
    = tL (stAt0 m c t.val t.isLt acc).2.2.2.2.2.2 (iblk m c 4 t) (iblk m c 5 t) := by
  rw [st_acc, if_neg (by omega), stAt0_C m c t acc (by omega) (by omega) h2]; dsimp only; rw [tailL]

theorem st_b (h2 : t.val % 37 = 36) : (stAt0 m c t.val t.isLt acc).2.2.2.2.2.1
    = tB (stAt0 m c t.val t.isLt acc).2.2.2.2.2.2 (iblk m c 4 t) acc.2.2.2.2.2.1 (iblk m c 5 t) := by
  rw [st_acc, if_neg (by omega), stAt0_C m c t acc (by omega) (by omega) h2]; dsimp only; rw [tailB]

/-- At other points but the first the bias gradient stays. -/
theorem st_b_keep (h1 : ¬t.val % 592 = 0) (h2 : ¬t.val % 37 = 36) :
    (stAt0 m c t.val t.isLt acc).2.2.2.2.2.1 = acc.2.2.2.2.2.1 := by
  by_cases h0 : t.val % 37 = 0
  · rw [stAt0_D m c t acc h0 h1 h2]; rfl
  · rw [stAt0_B m c t acc h0 h1 h2]; rfl

/-- The first point zeroes the bias gradient. -/
theorem st_b_zero (h1 : t.val % 592 = 0) (o : Fin 3584) :
    (stAt0 m c t.val t.isLt acc).2.2.2.2.2.1 (ix2 0 o) = (0 : EReal) := by
  have ht : t.val < 592 := lt_of_lt_of_eq t.isLt N_0
  rw [stAt0_A m c t acc (by omega) h1 (by omega)]
  dsimp only
  rw [zeroB]
  exact Ideal.ofBits_zero_f32

end Step

end Cert.KernelIdeal.Gen
-- ==== Proof.Fold.lean ====
module
public import proofs.«01_k».proof.Proof.Gen.KernelIdeal.Frame
public import Idealize.ShloMosaic.Lib.Pipeline.ValueKit.Geometry
public import Idealize.ShloMosaic.Lib.Pipeline.ValueKit.Acc
public import proofs.«01_k».proof.Proof.Step
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ShapeOps
public import Idealize.ShloMosaic.Lib.Pointwise.Contract

/-!
  What the carried state holds after every grid point, by induction over the points, and so what the six result arrays
  hold after the run.
-/

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline
open Cert.Spec Cert.KernelIdeal.Value

variable (m : (ℓ : Loc nD τ sig) → Buf (Elt Ideal) ℓ)

/-! ## The layer's quantities, from the arrays -/

/-- The normalised activations. -/
def kX (c : Dev nD) : ℕ → ℕ → EReal :=
  norm (ext2 (n := 8192) (m := 18944) (V m c main_arg0)) (ext2 (n := 1) (m := 18944) (V m c main_v0))
    (ext2 (n := 1) (m := 18944) (V m c main_v1))

/-- The weights. -/
def kW (c : Dev nD) : ℕ → ℕ → EReal := ext2 (n := 3584) (m := 18944) (V m c main_arg3)

/-- The bias. -/
def kB (c : Dev nD) : ℕ → ℕ → EReal := ext2 (n := 1) (m := 3584) (V m c main_arg4)

/-- The targets. -/
def kY (c : Dev nD) : ℕ → ℕ → EReal := ext2 (n := 8192) (m := 3584) (V m c main_arg5)

/-- The product over one more block of 512 channels. -/
theorem prod_block (X W : ℕ → ℕ → EReal) (k t o : ℕ) : prod X W (512 * (k + 1)) t o
    = prod X W (512 * k) t o + ∑ j ∈ Finset.range 512, deq X t (512 * k + j) * W o (512 * k + j) := by
  unfold prod
  rw [Nat.mul_succ, Finset.sum_range_add]

/-- The bias gradient over one more block of 512 tokens. -/
theorem bgrad_block (X W B Y : ℕ → ℕ → EReal) (i o : ℕ) : bgrad X W B Y (512 * (i + 1)) o
    = bgrad X W B Y (512 * i) o + ∑ r : Fin 512, grad X W B Y (512 * i + r.val) o := by
  unfold bgrad
  rw [Nat.mul_succ, Finset.sum_range_add, Finset.sum_range fun r => grad X W B Y (512 * i + r) o]

/-! ## The state after a point -/

/-- What the carried state holds after point `t`. -/
structure Inv (c : Dev nD) (t : ℕ) (s : St) : Prop where
  cod : ∀ r j : Fin 512, s.1 (ix2 r j) = cod (kX m c) (512 * (t / 37) + r.val) (512 * (t % 37) + j.val)
  scl : ∀ (r : Fin 512) (j : Fin 148), j.val / 4 ≤ t % 37 → s.2.1 (ix2 r j) = scl (kX m c) (512 * (t / 37) + r.val) j.val
  acc : ∀ (r : Fin 512) (o : Fin 3584), s.2.2.2.2.2.2 (ix2 r o)
    = prod (kX m c) (kW m c) (512 * (t % 37 + 1)) (512 * (t / 37) + r.val) o.val
  y : t % 37 = 36 → ∀ (r : Fin 512) (o : Fin 3584), s.2.2.1 (ix2 r o)
    = out (kX m c) (kW m c) (kB m c) (512 * (t / 37) + r.val) o.val
  g : t % 37 = 36 → ∀ (r : Fin 512) (o : Fin 3584), s.2.2.2.1 (ix2 r o)
    = grad (kX m c) (kW m c) (kB m c) (kY m c) (512 * (t / 37) + r.val) o.val
  loss : t % 37 = 36 → ∀ r : Fin 512, s.2.2.2.2.1 (ix3 0 0 r)
    = loss (kX m c) (kW m c) (kB m c) (kY m c) (512 * (t / 37) + r.val)
  gb : ∀ o : Fin 3584, s.2.2.2.2.2.1 (ix2 0 o) = bgrad (kX m c) (kW m c) (kB m c) (kY m c) (512 * ((t + 1) / 37)) o.val

section Point

variable (c : Dev nD) (t : Fin cfg0.N)

/-- The point's block of activations. -/
abbrev xb : Vec Ideal S512x512 .bf16 := iblk m c 0 t

/-- The point's block of channel scales. -/
abbrev sb : Vec Ideal S1x512 .f32 := iblk m c 1 t

/-- The point's block of channel shifts. -/
abbrev db : Vec Ideal S1x512 .f32 := iblk m c 2 t

/-- The block's normalised activations. -/
theorem blk_norm (r j : Fin 512) :
    Ideal.div (xb m c t (ix2 r j) - db m c t (ix2 0 j)) (sb m c t (ix2 0 j)) = kX m c (512 * (t.val / 37) + r.val) (512 * (t.val % 37) + j.val) := by
  have e0 := blk0_at m c t (ix2 r j)
  have e1 := blk1_at m c t (ix2 0 j)
  have e2 := blk2_at m c t (ix2 0 j)
  unfold kX Spec.norm
  rw [show xb m c t (ix2 r j) = _ from e0, show sb m c t (ix2 0 j) = _ from e1, show db m c t (ix2 0 j) = _ from e2]
  rfl

/-- The difference from the targets at the last channel block, where the accumulator holds the whole product. -/
theorem dif_at (A : Vec Ideal S512x3584 .f32) (h2 : t.val % 37 = 36)
    (hA : ∀ (r : Fin 512) (o : Fin 3584), A (ix2 r o)
      = prod (kX m c) (kW m c) (512 * (t.val % 37 + 1)) (512 * (t.val / 37) + r.val) o.val) (r : Fin 512) (o : Fin 3584) :
    tD A (iblk m c 4 t) (iblk m c 5 t) (ix2 r o)
      = dif (kX m c) (kW m c) (kB m c) (kY m c) (512 * (t.val / 37) + r.val) o.val := by
  show A (ix2 r o) + (iblk m c 4 t : Vec Ideal S1x3584 .f32) (ix2 0 o) - (iblk m c 5 t : Vec Ideal S512x3584 .bf16) (ix2 r o) = _
  rw [hA, blk4_at, blk5_at, h2]
  rfl

/-- The losses there. -/
theorem loss_of (A : Vec Ideal S512x3584 .f32) (h2 : t.val % 37 = 36)
    (hA : ∀ (r : Fin 512) (o : Fin 3584), A (ix2 r o)
      = prod (kX m c) (kW m c) (512 * (t.val % 37 + 1)) (512 * (t.val / 37) + r.val) o.val) (r : Fin 512) :
    tL A (iblk m c 4 t) (iblk m c 5 t) (ix3 0 0 r)
      = loss (kX m c) (kW m c) (kB m c) (kY m c) (512 * (t.val / 37) + r.val) := by
  have hD := dif_at m c t A h2 hA
  unfold tL loss
  generalize tD A (iblk m c 4 t) (iblk m c 5 t) = D at hD ⊢
  refine congrArg (fun x => Ideal.div x (Ideal.ofBits .f32 0x45600000#32)) (Finset.sum_congr rfl fun o ho => ?_)
  have ho : o < 3584 := Finset.mem_range.1 ho
  have e := (ext2_of_lt (n := 512) (m := 3584) D r.isLt ho).trans (hD r ⟨o, ho⟩)
  exact congrArg₂ (· * ·) e e

/-- The bias gradient there, from the bias gradient `p` before. -/
theorem bg_of (A : Vec Ideal S512x3584 .f32) (h2 : t.val % 37 = 36)
    (hA : ∀ (r : Fin 512) (o : Fin 3584), A (ix2 r o)
      = prod (kX m c) (kW m c) (512 * (t.val % 37 + 1)) (512 * (t.val / 37) + r.val) o.val) (p : Vec Ideal S1x3584 .f32)
    (hp : ∀ o : Fin 3584, p (ix2 0 o) = bgrad (kX m c) (kW m c) (kB m c) (kY m c) (512 * (t.val / 37)) o.val) (o : Fin 3584) :
    tB A (iblk m c 4 t) p (iblk m c 5 t) (ix2 0 o)
      = bgrad (kX m c) (kW m c) (kB m c) (kY m c) (512 * (t.val / 37 + 1)) o.val := by
  have hD := dif_at m c t A h2 hA
  rw [bgrad_block, ← hp]
  unfold tB tG
  generalize tD A (iblk m c 4 t) (iblk m c 5 t) = D at hD ⊢
  refine congrArg (fun x => p (ix2 0 o) + x) (Finset.sum_congr rfl fun r _ => ?_)
  exact congrArg (fun x => x * Ideal.ofBits .f32 0x33924925#32) (hD r o)

/-- One point keeps the description, given what it says of the parts of the state that the point reads. -/
theorem inv_step (s : St)
    (hs : ¬t.val % 37 = 0 → ∀ (r : Fin 512) (j : Fin 148), j.val / 4 < t.val % 37 →
      s.2.1 (ix2 r j) = scl (kX m c) (512 * (t.val / 37) + r.val) j.val)
    (ha : ¬t.val % 37 = 0 → ∀ (r : Fin 512) (o : Fin 3584), s.2.2.2.2.2.2 (ix2 r o)
      = prod (kX m c) (kW m c) (512 * (t.val % 37)) (512 * (t.val / 37) + r.val) o.val)
    (hb : ¬t.val % 592 = 0 → ∀ o : Fin 3584, s.2.2.2.2.2.1 (ix2 0 o)
      = bgrad (kX m c) (kW m c) (kB m c) (kY m c) (512 * (t.val / 37)) o.val) :
    Inv m c t.val (stAt0 m c t.val t.isLt s) := by
  have ht : t.val < 592 := lt_of_lt_of_eq t.isLt N_0
  have hX := blk_norm m c t
  have hW : ∀ (o : Fin 3584) (j : Fin 512), (iblk m c 3 t : Vec Ideal S3584x512 .bf16) (ix2 o j)
      = kW m c o.val (512 * (t.val % 37) + j.val) := fun o j => blk3_at m c t (ix2 o j)
  have hA : ∀ (r : Fin 512) (o : Fin 3584), (stAt0 m c t.val t.isLt s).2.2.2.2.2.2 (ix2 r o)
      = prod (kX m c) (kW m c) (512 * (t.val % 37 + 1)) (512 * (t.val / 37) + r.val) o.val := by
    intro r o
    rw [st_acc, bAcc_at _ _ _ _ (kX m c) (512 * (t.val / 37)) (t.val % 37) hX (kW m c) hW, prod_block]
    congr 1
    by_cases h0 : t.val % 37 = 0
    · rw [if_pos h0, h0]
      refine (show _ = (0 : EReal) from Ideal.ofBits_zero_f32).trans ?_
      unfold prod
      rw [Nat.mul_zero, Finset.sum_range_zero]
    · rw [if_neg h0]; exact ha h0 r o
  refine ⟨fun r j => ?_, fun r j hj => ?_, hA, fun h2 r o => ?_, fun h2 r o => ?_, fun h2 r => ?_, fun o => ?_⟩
  · rw [st_cod, bCod_at _ _ _ (kX m c) (512 * (t.val / 37)) (t.val % 37) hX]
    rfl
  · rw [st_scl, bScl_at _ _ _ (kX m c) (512 * (t.val / 37)) (t.val % 37) hX (Nat.mod_lt _ (by decide))]
    by_cases h : j.val / 4 = t.val % 37
    · rw [if_pos h]
    · rw [if_neg h, if_neg (show ¬t.val % 37 = 0 by omega)]
      exact hs (by omega) r j (by omega)
  · rw [st_y m c t s h2]
    show (stAt0 m c t.val t.isLt s).2.2.2.2.2.2 (ix2 r o) + (iblk m c 4 t : Vec Ideal S1x3584 .f32) (ix2 0 o) = _
    rw [hA, blk4_at, h2]
    rfl
  · rw [st_g m c t s h2]
    exact congrArg (fun x => x * Ideal.ofBits .f32 0x33924925#32) (dif_at m c t _ h2 hA r o)
  · rw [st_l m c t s h2]
    exact loss_of m c t _ h2 hA r
  · by_cases h1 : t.val % 592 = 0
    · rw [st_b_zero m c t s h1 o, show 512 * ((t.val + 1) / 37) = 0 by omega]
      unfold bgrad
      rw [Finset.sum_range_zero]
    · by_cases h2 : t.val % 37 = 36
      · rw [st_b m c t s h2, show (t.val + 1) / 37 = t.val / 37 + 1 by omega]
        exact bg_of m c t _ h2 hA _ (hb h1) o
      · rw [st_b_keep m c t s h1 h2, show (t.val + 1) / 37 = t.val / 37 by omega]
        exact hb h1 o

end Point

/-- The description holds after every point. -/
theorem inv (c : Dev nD) : ∀ (n : ℕ) (hn : n < cfg0.N), Inv m c n (outsAt0 m c n hn)
  | 0, hn => by
    rw [outsAt0_zero]
    exact inv_step m c ⟨0, hn⟩ junk0 (fun h => absurd rfl h) (fun h => absurd rfl h) (fun h => absurd rfl h)
  | n + 1, hn => by
    have ih := inv c n (Nat.lt_of_succ_lt hn)
    have hN : n + 1 < 592 := lt_of_lt_of_eq hn N_0
    rw [outsAt0_succ]
    refine inv_step m c ⟨n + 1, hn⟩ _ (fun h r j hj => ?_) (fun h r o => ?_) (fun h o => ?_)
    · have h : ¬(n + 1) % 37 = 0 := h
      have hj : j.val / 4 < (n + 1) % 37 := hj
      show _ = Cert.Spec.scl _ (512 * ((n + 1) / 37) + r.val) j.val
      rw [ih.scl r j (by omega), show (n + 1) / 37 = n / 37 by omega]
    · have h : ¬(n + 1) % 37 = 0 := h
      show _ = prod _ _ (512 * ((n + 1) % 37)) (512 * ((n + 1) / 37) + r.val) o.val
      rw [ih.acc r o, show (n + 1) % 37 = n % 37 + 1 by omega, show (n + 1) / 37 = n / 37 by omega]
    · exact ih.gb o

/-! ## The result arrays -/

/-- The array of codes. -/
theorem G6_at (c : Dev nD) (t : Fin 8192) (j : Fin 18944) : G6 m c (ix2 t j) = cod (kX m c) t.val j.val := by
  have hp : pt6Of (ix2 t j) = 37 * (t.val / 512) + j.val / 512 := by
    show 37 * (t.val / 512 - 0) + 1 * (j.val / 512 - 0) = _; omega
  have h : 37 * (t.val / 512) + j.val / 512 < cfg0.N := lt_of_lt_of_eq (by omega) N_0.symm
  have hl : loc6Of (ix2 t j) = ix2 ⟨t.val % 512, Nat.mod_lt _ (by decide)⟩ ⟨j.val % 512, Nat.mod_lt _ (by decide)⟩ := by
    funext z
    apply Fin.ext
    match z with
    | ⟨0, _⟩ => rfl
    | ⟨1, _⟩ => rfl
  unfold G6
  rw [dif_pos (lt_of_eq_of_lt hp h), hl, fold0_congr m c _ _ (37 * (t.val / 512) + j.val / 512) (by omega) hp, ← outsAt0_sweep m c _ h]
  exact ((inv m c _ h).cod ⟨t.val % 512, Nat.mod_lt _ (by decide)⟩ ⟨j.val % 512, Nat.mod_lt _ (by decide)⟩).trans (congrArg₂ (cod (kX m c)) (show 512 * ((37 * (t.val / 512) + j.val / 512) / 37) + t.val % 512 = t.val by omega) (show 512 * ((37 * (t.val / 512) + j.val / 512) % 37) + j.val % 512 = j.val by omega))

/-- The table of scales. -/
theorem G7_at (c : Dev nD) (t : Fin 8192) (j : Fin 148) : G7 m c (ix2 t j) = scl (kX m c) t.val j.val := by
  have hp : pt7Of (ix2 t j) = 37 * (t.val / 512) + 36 := by
    show 37 * (1 * (t.val / 512 - 0) + 1 * (j.val / 148 - 0)) + 36 = _; omega
  have h : 37 * (t.val / 512) + 36 < cfg0.N := lt_of_lt_of_eq (by omega) N_0.symm
  have hl : loc7Of (ix2 t j) = ix2 ⟨t.val % 512, Nat.mod_lt _ (by decide)⟩ j := by
    funext z
    apply Fin.ext
    match z with
    | ⟨0, _⟩ => rfl
    | ⟨1, _⟩ => (show j.val % 148 = j.val; omega)
  unfold G7
  rw [dif_pos (lt_of_eq_of_lt hp h), hl, fold0_congr m c _ _ (37 * (t.val / 512) + 36) (by omega) hp, ← outsAt0_sweep m c _ h]
  exact ((inv m c _ h).scl ⟨t.val % 512, Nat.mod_lt _ (by decide)⟩ j (by omega)).trans (congrArg (fun x => scl (kX m c) x j.val) (show 512 * ((37 * (t.val / 512) + 36) / 37) + t.val % 512 = t.val by omega))

/-- The output. -/
theorem G8_at (c : Dev nD) (t : Fin 8192) (o : Fin 3584) : G8 m c (ix2 t o) = out (kX m c) (kW m c) (kB m c) t.val o.val := by
  have hp : pt8Of (ix2 t o) = 37 * (t.val / 512) + 36 := by
    show 37 * (1 * (t.val / 512 - 0) + 1 * (o.val / 3584 - 0)) + 36 = _; omega
  have h : 37 * (t.val / 512) + 36 < cfg0.N := lt_of_lt_of_eq (by omega) N_0.symm
  have hl : loc8Of (ix2 t o) = ix2 ⟨t.val % 512, Nat.mod_lt _ (by decide)⟩ o := by
    funext z
    apply Fin.ext
    match z with
    | ⟨0, _⟩ => rfl
    | ⟨1, _⟩ => (show o.val % 3584 = o.val; omega)
  unfold G8
  rw [dif_pos (lt_of_eq_of_lt hp h), hl, fold0_congr m c _ _ (37 * (t.val / 512) + 36) (by omega) hp, ← outsAt0_sweep m c _ h]
  exact ((inv m c _ h).y (by omega) ⟨t.val % 512, Nat.mod_lt _ (by decide)⟩ o).trans (congrArg (fun x => out (kX m c) (kW m c) (kB m c) x o.val) (show 512 * ((37 * (t.val / 512) + 36) / 37) + t.val % 512 = t.val by omega))

/-- The gradient. -/
theorem G9_at (c : Dev nD) (t : Fin 8192) (o : Fin 3584) : G9 m c (ix2 t o) = grad (kX m c) (kW m c) (kB m c) (kY m c) t.val o.val := by
  have hp : pt9Of (ix2 t o) = 37 * (t.val / 512) + 36 := by
    show 37 * (1 * (t.val / 512 - 0) + 1 * (o.val / 3584 - 0)) + 36 = _; omega
  have h : 37 * (t.val / 512) + 36 < cfg0.N := lt_of_lt_of_eq (by omega) N_0.symm
  have hl : loc9Of (ix2 t o) = ix2 ⟨t.val % 512, Nat.mod_lt _ (by decide)⟩ o := by
    funext z
    apply Fin.ext
    match z with
    | ⟨0, _⟩ => rfl
    | ⟨1, _⟩ => (show o.val % 3584 = o.val; omega)
  unfold G9
  rw [dif_pos (lt_of_eq_of_lt hp h), hl, fold0_congr m c _ _ (37 * (t.val / 512) + 36) (by omega) hp, ← outsAt0_sweep m c _ h]
  exact ((inv m c _ h).g (by omega) ⟨t.val % 512, Nat.mod_lt _ (by decide)⟩ o).trans (congrArg (fun x => grad (kX m c) (kW m c) (kB m c) (kY m c) x o.val) (show 512 * ((37 * (t.val / 512) + 36) / 37) + t.val % 512 = t.val by omega))

/-- The losses. -/
theorem G10_at (c : Dev nD) (a : Fin 16) (r : Fin 512) : G10 m c (ix3 a 0 r) = loss (kX m c) (kW m c) (kB m c) (kY m c) (512 * a.val + r.val) := by
  have hp : pt10Of (ix3 a 0 r) = 37 * a.val + 36 := by
    show 37 * (1 * (a.val / 1 - 0) + 1 * (0 / 1 - 0) + 1 * (r.val / 512 - 0)) + 36 = _; omega
  have h : 37 * a.val + 36 < cfg0.N := lt_of_lt_of_eq (by omega) N_0.symm
  have hl : loc10Of (ix3 a 0 r) = ix3 0 0 r := by
    funext z
    apply Fin.ext
    match z with
    | ⟨0, _⟩ => (show a.val % 1 = 0; omega)
    | ⟨1, _⟩ => rfl
    | ⟨2, _⟩ => (show r.val % 512 = r.val; omega)
  unfold G10
  rw [dif_pos (lt_of_eq_of_lt hp h), hl, fold0_congr m c _ _ (37 * a.val + 36) (by omega) hp, ← outsAt0_sweep m c _ h]
  exact ((inv m c _ h).loss (by omega) r).trans (congrArg (fun x => loss (kX m c) (kW m c) (kB m c) (kY m c) (x)) (show 512 * ((37 * a.val + 36) / 37) + r.val = 512 * a.val + r.val by omega))

/-- The bias gradient. -/
theorem G11_at (c : Dev nD) (o : Fin 3584) : G11 m c (ix2 0 o) = bgrad (kX m c) (kW m c) (kB m c) (kY m c) 8192 o.val := by
  have h : 591 < cfg0.N := lt_of_lt_of_eq (by decide) N_0.symm
  rw [G11_last, ← outsAt0_sweep m c 591 h]
  exact (inv m c _ h).gb o

end Cert.KernelIdeal.Gen
-- ==== Proof.RefPay.lean ====
module
public import proofs.«01_k».proof.Proof.Gen.ReferenceIdeal.Frame
public import Idealize.ShloMosaic.Lib.Pipeline.ValueKit.Geometry
public import Idealize.ShloMosaic.Lib.Pipeline.ValueKit.Acc
public import proofs.«01_k».proof.Proof.Spec
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ShapeOps
public import Idealize.ShloMosaic.Lib.Pointwise.Contract

/-!
  What the reference's values are at an index: the layer's quantities, written over whole arrays.
-/

@[expose] public section

set_option maxRecDepth 16384

noncomputable section

namespace Cert.ReferenceIdeal.Gen

open Idealize.ShloMosaic Idealize.ShloMosaic.TcCoe Idealize.ShloMosaic.Tactic
open Idealize.SL.Sem
open Idealize.ShloMosaic.Pipeline
open Cert.Spec

/-! ## The quantiser -/

/-- The largest magnitude of a group. -/
theorem max_at (v : FVec Ideal S8192x148x128 .f32) (h1 h2) (t : Fin 8192) (g : Fin 148) :
    multiReduction .maximumf [2] S8192x148 (absf v) 0xFF800000#32 reduces_S8192x148x128_S8192x148 h1 h2 (ix2 t g)
      = (Finset.univ : Finset (Fin 128)).fold max (Ideal.ofBits .f32 0xFF800000#32)
          (fun l => max (v (ix3 t g l)) (-v (ix3 t g l))) := by
  pointwise
  rfl

/-- The choice of the scale from the largest magnitude. -/
theorem select_at (a : FVec Ideal S8192x148 .f32) (i : S8192x148.Idx) :
    select (cmpf .oeq a (broadcast S8192x148 (FloatOps.ofBits (F := Ideal) FTy.f32 0#32)))
      (broadcast S8192x148 (FloatOps.ofBits (F := Ideal) FTy.f32 1065353216#32))
      (divf (mulf (broadcast S8192x148 (FloatOps.ofBits (F := Ideal) FTy.f32 1060320051#32)) a)
        (broadcast S8192x148 (FloatOps.ofBits (F := Ideal) FTy.f32 1123942400#32))) i
    = Scalar.select (Ideal.cmp .oeq (a i) 0) 1
        (Ideal.div (Ideal.ofBits .f32 0x3F333333#32 * a i) (Ideal.ofBits .f32 0x42FE0000#32)) := by
  pointwise
  rfl

section Layer

variable (x : Vec Ideal S8192x18944 .bf16) (d s : Vec Ideal S1x18944 .f32)

/-- The normalised activations, at natural-number coordinates. -/
def refX : ℕ → ℕ → EReal :=
  Spec.norm (ext2 (n := 8192) (m := 18944) x) (ext2 (n := 1) (m := 18944) s) (ext2 (n := 1) (m := 18944) d)

theorem pay7_at (t : Fin 8192) (g : Fin 148) (l : Fin 128) :
    k0_pay7 (F := Ideal) x d s (ix3 t g l) = refX x d s t.val (128 * g.val + l.val) := by
  have hg : g.val < 148 := g.isLt
  have hl : l.val < 128 := l.isLt
  have hj : 128 * g.val + l.val < 18944 := by omega
  unfold refX Spec.norm
  rw [ext2_of_lt (n := 8192) (m := 18944) x t.isLt hj, ext2_of_lt (n := 1) (m := 18944) s (by omega) hj,
    ext2_of_lt (n := 1) (m := 18944) d (by omega) hj]
  have e : (⟨128 * g.val + l.val, hj⟩ : Fin 18944) = ⟨g.val * 128 + l.val, by omega⟩ :=
    Fin.ext (by show 128 * g.val + l.val = g.val * 128 + l.val; omega)
  rw [e]
  unfold k0_pay7
  pointwise

theorem pay8_at (t : Fin 8192) (g : Fin 148) :
    k0_pay8 (F := Ideal) x d s (ix2 t g) = scl (refX x d s) t.val g.val := by
  unfold scl gmax
  simp only [← pay7_at x d s t g]
  unfold k0_pay8
  rw [← max_at (k0_pay7 (F := Ideal) x d s) (.inl rfl) rfl]
  exact select_at _ (ix2 t g)

/-- The rounded and clipped quotient. -/
theorem quo_at (v : FVec Ideal S8192x148x128 .f32) (a : FVec Ideal S8192x148 .f32) (t : Fin 8192) (g : Fin 148) (l : Fin 128) :
    fptosi 8 (minimumf (broadcast S8192x148x128 (FloatOps.ofBits (F := Ideal) FTy.f32 0x42FE0000#32))
      (maximumf (broadcast S8192x148x128 (FloatOps.ofBits (F := Ideal) FTy.f32 0xC2FE0000#32))
        (roundeven (divf v (broadcastTo S8192x148x128 (shapeCast S8192x148x1 a shapeCasts_S8192x148_S8192x148x1)
          broadcasts_S8192x148x1_S8192x148x128))))) (ix3 t g l)
    = Ideal.fptosi 8 (min (Ideal.ofBits .f32 0x42FE0000#32) (max (Ideal.ofBits .f32 0xC2FE0000#32)
        (Ideal.liftRound Ideal.roundHalfEven (Ideal.div (v (ix3 t g l)) (a (ix2 t g)))))) := by
  pointwise
  rfl

theorem pay9_at (t : Fin 8192) (g : Fin 148) (l : Fin 128) :
    k0_pay9 (F := Ideal) x d s (ix3 t g l) = cod (refX x d s) t.val (128 * g.val + l.val) := by
  have e : (128 * g.val + l.val) / 128 = g.val := by have := l.isLt; omega
  unfold cod qv
  rw [e, ← pay7_at x d s t g l, ← pay8_at x d s t g]
  exact quo_at _ _ t g l

/-- A grouped array laid out flat. -/
theorem flat_at {e : EltTy} (v : Vec Ideal S8192x148x128 e) (t : Fin 8192) (j : Fin 18944) :
    shapeCast S8192x18944 v shapeCasts_S8192x148x128_S8192x18944 (ix2 t j)
      = v (ix3 t ⟨j.val / 128, by have := j.isLt; omega⟩ ⟨j.val % 128, Nat.mod_lt _ (by omega)⟩) := by
  pointwise

theorem pay11_at (t : Fin 8192) (j : Fin 18944) :
    k0_pay11 (F := Ideal) x d s (ix2 t j) = cod (refX x d s) t.val j.val := by
  have h := pay9_at x d s t ⟨j.val / 128, by have := j.isLt; omega⟩ ⟨j.val % 128, Nat.mod_lt _ (by omega)⟩
  rw [show 128 * (j.val / 128) + j.val % 128 = j.val from Nat.div_add_mod _ _] at h
  rw [← h]
  exact flat_at (e := .i8) (k0_pay9 (F := Ideal) x d s) t j

/-- A code times its group's scale. -/
theorem dq_at (q : IVec S8192x148x128 8) (a : FVec Ideal S8192x148 .f32) (t : Fin 8192) (g : Fin 148) (l : Fin 128) :
    mulf (sitofp (F := Ideal) .bf16 q) (broadcastTo S8192x148x128
      (shapeCast S8192x148x1 (truncf .bf16 a bitsLt_bf16_f32) shapeCasts_S8192x148_S8192x148x1)
        broadcasts_S8192x148x1_S8192x148x128) (ix3 t g l)
    = (((q (ix3 t g l)).toInt : ℝ) : EReal) * a (ix2 t g) := by
  pointwise
  rfl

theorem pay10_at (t : Fin 8192) (j : Fin 18944) :
    k0_pay10 (F := Ideal) x d s (ix2 t j) = deq (refX x d s) t.val j.val := by
  have h := pay9_at x d s t ⟨j.val / 128, by have := j.isLt; omega⟩ ⟨j.val % 128, Nat.mod_lt _ (by omega)⟩
  rw [show 128 * (j.val / 128) + j.val % 128 = j.val from Nat.div_add_mod _ _] at h
  unfold deq
  rw [← toInt_cod, ← h, show scl (refX x d s) t.val (j.val / 128) = _ from
    (pay8_at x d s t ⟨j.val / 128, by have := j.isLt; omega⟩).symm]
  unfold k0_pay10
  rw [flat_at (e := .bf16)]
  exact dq_at _ _ t _ _

/-! ## The product, the loss and the gradients -/

variable (w : Vec Ideal S3584x18944 .bf16) (b : Vec Ideal S1x3584 .f32) (y : Vec Ideal S8192x3584 .bf16)

/-- The weights, the bias and the targets, at natural-number coordinates. -/
def refW : ℕ → ℕ → EReal := ext2 (n := 3584) (m := 18944) w
def refB : ℕ → ℕ → EReal := ext2 (n := 1) (m := 3584) b
def refY : ℕ → ℕ → EReal := ext2 (n := 8192) (m := 3584) y

/-- The product plus the bias, of any left operand. -/
theorem mm_at (u : FVec Ideal S8192x18944 .bf16) (t : Fin 8192) (o : Fin 3584) :
    k0_pay1 (F := Ideal) u w b (ix2 t o) = (∑ k : Fin 18944, u (ix2 t k) * w (ix2 o k)) + b (ix2 0 o) := by
  unfold k0_pay1
  pointwise

theorem pay1_at (t : Fin 8192) (o : Fin 3584) :
    k0_pay1 (F := Ideal) (k0_pay10 (F := Ideal) x d s) w b (ix2 t o) = out (refX x d s) (refW w) (refB b) t.val o.val := by
  have e : (∑ k : Fin 18944, k0_pay10 (F := Ideal) x d s (ix2 t k) * w (ix2 o k)) = prod (refX x d s) (refW w) 18944 t.val o.val := by
    unfold prod
    rw [Finset.sum_range]
    refine Finset.sum_congr rfl fun k _ => ?_
    rw [pay10_at]
    unfold refW
    rw [ext2_val (n := 3584) (m := 18944) w o k]
  have eb : refB b 0 o.val = b (ix2 0 o) := ext2_val (n := 1) (m := 3584) b (0 : Fin 1) o
  generalize k0_pay10 (F := Ideal) x d s = u at e ⊢
  rw [mm_at, e]
  unfold out
  rw [eb]

theorem pay2_at (t : Fin 8192) (o : Fin 3584) :
    k0_pay2 (F := Ideal) (k0_pay10 (F := Ideal) x d s) w b (ix2 t o) = out (refX x d s) (refW w) (refB b) t.val o.val := by
  rw [← pay1_at]
  unfold k0_pay2
  generalize k0_pay1 (F := Ideal) (k0_pay10 (F := Ideal) x d s) w b = u
  pointwise

/-- The difference from the targets, of any left operand. -/
theorem dif_gen (u : FVec Ideal S8192x18944 .bf16) (t : Fin 8192) (o : Fin 3584) :
    k0_pay3 (F := Ideal) u w b y (ix2 t o) = k0_pay1 (F := Ideal) u w b (ix2 t o) - y (ix2 t o) := by
  unfold k0_pay3
  generalize k0_pay1 (F := Ideal) u w b = v
  pointwise

theorem pay3_at (t : Fin 8192) (o : Fin 3584) :
    k0_pay3 (F := Ideal) (k0_pay10 (F := Ideal) x d s) w b y (ix2 t o)
      = dif (refX x d s) (refW w) (refB b) (refY y) t.val o.val := by
  have e := pay1_at x d s w b t o
  have ey : refY y t.val o.val = y (ix2 t o) := ext2_val (n := 8192) (m := 3584) y t o
  generalize k0_pay10 (F := Ideal) x d s = u at e ⊢
  unfold dif
  rw [dif_gen, e, ey]

/-- The mean of squares over the columns, laid out in 16 rows of 512. -/
theorem mean_at (v : FVec Ideal S8192x3584 .f32) (h1 h2) (a : Fin 16) (r : Fin 512) :
    shapeCast S16x1x512 (divf (multiReduction .add [1] S8192 (mulf v v) 0x00000000#32 reduces_S8192x3584_S8192 h1 h2)
      (broadcast S8192 (FloatOps.ofBits (F := Ideal) FTy.f32 0x45600000#32))) shapeCasts_S8192_S16x1x512 (ix3 a 0 r)
    = Ideal.div (∑ o : Fin 3584, v (ix2 ⟨a.val * 512 + r.val, by have := a.isLt; have := r.isLt; omega⟩ o)
        * v (ix2 ⟨a.val * 512 + r.val, by have := a.isLt; have := r.isLt; omega⟩ o)) (Ideal.ofBits .f32 0x45600000#32) := by
  pointwise

theorem pay4_at (a : Fin 16) (r : Fin 512) :
    k0_pay4 (F := Ideal) (k0_pay10 (F := Ideal) x d s) w b y (ix3 a 0 r)
      = loss (refX x d s) (refW w) (refB b) (refY y) (512 * a.val + r.val) := by
  have ht : a.val * 512 + r.val < 8192 := by have := a.isLt; have := r.isLt; omega
  rw [show 512 * a.val + r.val = a.val * 512 + r.val from by omega]
  unfold loss
  rw [Finset.sum_range]
  simp only [← pay3_at x d s w b y ⟨a.val * 512 + r.val, ht⟩]
  exact mean_at (k0_pay3 (F := Ideal) (k0_pay10 (F := Ideal) x d s) w b y) (.inl rfl) rfl a r

/-- The gradient, of any left operand. -/
theorem grad_gen (u : FVec Ideal S8192x18944 .bf16) (t : Fin 8192) (o : Fin 3584) :
    k0_pay5 (F := Ideal) u w b y (ix2 t o) = k0_pay3 (F := Ideal) u w b y (ix2 t o) * Ideal.ofBits .f32 0x33924925#32 := by
  unfold k0_pay5
  generalize k0_pay3 (F := Ideal) u w b y = v
  pointwise

theorem pay5_at (t : Fin 8192) (o : Fin 3584) :
    k0_pay5 (F := Ideal) (k0_pay10 (F := Ideal) x d s) w b y (ix2 t o)
      = grad (refX x d s) (refW w) (refB b) (refY y) t.val o.val := by
  have e := pay3_at x d s w b y t o
  generalize k0_pay10 (F := Ideal) x d s = u at e ⊢
  unfold grad
  rw [grad_gen, e]

/-- The sum over the tokens. -/
theorem col_at (v : FVec Ideal S8192x3584 .bf16) (h1 h2) (o : Fin 3584) :
    shapeCast S1x3584 (multiReduction .add [0] S3584 (extf .f32 v bitsLt_bf16_f32) 0x00000000#32
      reduces_S8192x3584_S3584 h1 h2) shapeCasts_S3584_S1x3584 (ix2 0 o) = ∑ t : Fin 8192, v (ix2 t o) := by
  pointwise

theorem pay6_at (o : Fin 3584) :
    k0_pay6 (F := Ideal) (k0_pay10 (F := Ideal) x d s) w b y (ix2 0 o)
      = bgrad (refX x d s) (refW w) (refB b) (refY y) 8192 o.val := by
  unfold bgrad
  rw [Finset.sum_range]
  simp only [← pay5_at x d s w b y]
  exact col_at (k0_pay5 (F := Ideal) (k0_pay10 (F := Ideal) x d s) w b y) (.inl rfl) rfl o

end Layer

end Cert.ReferenceIdeal.Gen

end
-- ==== Proof.RefValue.lean ====
module
public import proofs.«01_k».proof.Proof.Gen.ReferenceIdeal.Value
public import Idealize.ShloMosaic.Lib.Pipeline.ValueKit.Geometry
public import Idealize.ShloMosaic.Lib.Pipeline.ValueKit.Acc
public import proofs.«01_k».proof.Proof.RefPay
public import Idealize.ShloMosaic.Lib.Pipeline.Value

/-!
  What the reference's six result arrays hold after the run. Its call has one grid point, whose blocks are the whole
  arrays.
-/

@[expose] public section

set_option maxRecDepth 16384

noncomputable section

namespace Cert.ReferenceIdeal.Gen

open Idealize.ShloMosaic Idealize.ShloMosaic.TcCoe Idealize.ShloMosaic.Tactic
open Idealize.SL.Sem
open Idealize.ShloMosaic.Pipeline
open Cert.Spec Cert.ReferenceIdeal.Value

variable (m : (ℓ : Loc nD τ sig) → Buf (Elt Ideal) ℓ) (c : Dev nD)

/-! ## The arguments' blocks are the arguments -/

theorem in0 (t : Fin cfg0.N) : (iblk m c 0 t : Vec Ideal S8192x18944 .bf16) = V m c main_arg0 := by
  have e0 : win0_0.index t (0 : Fin 2) = 0 := (by decide +kernel : ∀ t : Fin grid0.N, win0_0.index t (0 : Fin 2) = 0) t
  have e1 : win0_0.index t (1 : Fin 2) = 0 := (by decide +kernel : ∀ t : Fin grid0.N, win0_0.index t (1 : Fin 2) = 0) t
  funext y
  unfold iblk
  rw [View.read_apply]
  show V m c main_arg0 _ = V m c main_arg0 _
  congr 1
  funext a
  apply Fin.ext
  match a with
  | ⟨0, _⟩ => show win0_0.index t (0 : Fin 2) * 8192 + 1 * (y 0).val = (y 0).val; rw [e0]; omega
  | ⟨1, _⟩ => show win0_0.index t (1 : Fin 2) * 18944 + 1 * (y 1).val = (y 1).val; rw [e1]; omega

theorem in1 (t : Fin cfg0.N) : (iblk m c 1 t : Vec Ideal S1x18944 .f32) = V m c main_v0 := by
  have e0 : win0_1.index t (0 : Fin 2) = 0 := (by decide +kernel : ∀ t : Fin grid0.N, win0_1.index t (0 : Fin 2) = 0) t
  have e1 : win0_1.index t (1 : Fin 2) = 0 := (by decide +kernel : ∀ t : Fin grid0.N, win0_1.index t (1 : Fin 2) = 0) t
  funext y
  unfold iblk
  rw [View.read_apply]
  show V m c main_v0 _ = V m c main_v0 _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 18944 + 1 * (y 1).val = (y 1).val; rw [e1]; omega

theorem in2 (t : Fin cfg0.N) : (iblk m c 2 t : Vec Ideal S1x18944 .f32) = V m c main_v1 := by
  have e0 : win0_2.index t (0 : Fin 2) = 0 := (by decide +kernel : ∀ t : Fin grid0.N, win0_2.index t (0 : Fin 2) = 0) t
  have e1 : win0_2.index t (1 : Fin 2) = 0 := (by decide +kernel : ∀ t : Fin grid0.N, win0_2.index t (1 : Fin 2) = 0) t
  funext y
  unfold iblk
  rw [View.read_apply]
  show V m c main_v1 _ = V m c main_v1 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 18944 + 1 * (y 1).val = (y 1).val; rw [e1]; omega

theorem in3 (t : Fin cfg0.N) : (iblk m c 3 t : Vec Ideal S3584x18944 .bf16) = V m c main_arg3 := by
  have e0 : win0_3.index t (0 : Fin 2) = 0 := (by decide +kernel : ∀ t : Fin grid0.N, win0_3.index t (0 : Fin 2) = 0) t
  have e1 : win0_3.index t (1 : Fin 2) = 0 := (by decide +kernel : ∀ t : Fin grid0.N, win0_3.index t (1 : Fin 2) = 0) t
  funext y
  unfold iblk
  rw [View.read_apply]
  show V m c main_arg3 _ = V m c main_arg3 _
  congr 1
  funext a
  apply Fin.ext
  match a with
  | ⟨0, _⟩ => show win0_3.index t (0 : Fin 2) * 3584 + 1 * (y 0).val = (y 0).val; rw [e0]; omega
  | ⟨1, _⟩ => show win0_3.index t (1 : Fin 2) * 18944 + 1 * (y 1).val = (y 1).val; rw [e1]; omega

theorem in4 (t : Fin cfg0.N) : (iblk m c 4 t : Vec Ideal S1x3584 .f32) = V m c main_arg4 := by
  have e0 : win0_4.index t (0 : Fin 2) = 0 := (by decide +kernel : ∀ t : Fin grid0.N, win0_4.index t (0 : Fin 2) = 0) t
  have e1 : win0_4.index t (1 : Fin 2) = 0 := (by decide +kernel : ∀ t : Fin grid0.N, win0_4.index t (1 : Fin 2) = 0) t
  funext y
  unfold iblk
  rw [View.read_apply]
  show V m c main_arg4 _ = V m c main_arg4 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 3584 + 1 * (y 1).val = (y 1).val; rw [e1]; omega

theorem in5 (t : Fin cfg0.N) : (iblk m c 5 t : Vec Ideal S8192x3584 .bf16) = V m c main_arg5 := by
  have e0 : win0_5.index t (0 : Fin 2) = 0 := (by decide +kernel : ∀ t : Fin grid0.N, win0_5.index t (0 : Fin 2) = 0) t
  have e1 : win0_5.index t (1 : Fin 2) = 0 := (by decide +kernel : ∀ t : Fin grid0.N, win0_5.index t (1 : Fin 2) = 0) t
  funext y
  unfold iblk
  rw [View.read_apply]
  show V m c main_arg5 _ = V m c main_arg5 _
  congr 1
  funext a
  apply Fin.ext
  match a with
  | ⟨0, _⟩ => show win0_5.index t (0 : Fin 2) * 8192 + 1 * (y 0).val = (y 0).val; rw [e0]; omega
  | ⟨1, _⟩ => show win0_5.index t (1 : Fin 2) * 3584 + 1 * (y 1).val = (y 1).val; rw [e1]; omega

/-! ## The layer's quantities, from the arrays -/

/-- The normalised activations, the weights, the bias and the targets. -/
def rX : ℕ → ℕ → EReal := refX (V m c main_arg0) (V m c main_v1) (V m c main_v0)
def rW : ℕ → ℕ → EReal := refW (V m c main_arg3)
def rB : ℕ → ℕ → EReal := refB (V m c main_arg4)
def rY : ℕ → ℕ → EReal := refY (V m c main_arg5)

/-- The one grid point. -/
def p0 : Fin cfg0.N := ⟨0, by decide⟩

/-! ## What the point writes back is the layer's quantity -/

theorem out6_at (t : Fin 8192) (j : Fin 18944) :
    out0_6 (F := Ideal) (V m c main_arg0) (V m c main_v0) (V m c main_v1) (V m c main_arg3) (V m c main_arg4) (V m c main_arg5) (ix2 t j)
      = cod (rX m c) t.val j.val := by
  unfold out0_6
  simp (disch := decide) only [View.canon_cons_unit_lit', View.ld_unit_lit']
  exact pay11_at _ _ _ t j

theorem out7_at (t : Fin 8192) (g : Fin 148) :
    out0_7 (F := Ideal) (V m c main_arg0) (V m c main_v0) (V m c main_v1) (V m c main_arg3) (V m c main_arg4) (V m c main_arg5) (ix2 t g)
      = scl (rX m c) t.val g.val := by
  unfold out0_7
  simp (disch := decide) only [View.canon_cons_unit_lit', View.ld_unit_lit']
  exact pay8_at _ _ _ t g

theorem out8_at (t : Fin 8192) (o : Fin 3584) :
    out0_8 (F := Ideal) (V m c main_arg0) (V m c main_v0) (V m c main_v1) (V m c main_arg3) (V m c main_arg4) (V m c main_arg5) (ix2 t o)
      = out (rX m c) (rW m c) (rB m c) t.val o.val := by
  unfold out0_8 k0_pay12
  simp (disch := decide) only [View.canon_cons_unit_lit', View.ld_unit_lit']
  exact pay2_at _ _ _ _ _ t o

theorem out9_at (t : Fin 8192) (o : Fin 3584) :
    out0_9 (F := Ideal) (V m c main_arg0) (V m c main_v0) (V m c main_v1) (V m c main_arg3) (V m c main_arg4) (V m c main_arg5) (ix2 t o)
      = grad (rX m c) (rW m c) (rB m c) (rY m c) t.val o.val := by
  unfold out0_9 k0_pay12
  simp (disch := decide) only [View.canon_cons_unit_lit', View.ld_unit_lit']
  exact pay5_at _ _ _ _ _ _ t o

theorem out10_at (a : Fin 16) (r : Fin 512) :
    out0_10 (F := Ideal) (V m c main_arg0) (V m c main_v0) (V m c main_v1) (V m c main_arg3) (V m c main_arg4) (V m c main_arg5) (ix3 a 0 r)
      = loss (rX m c) (rW m c) (rB m c) (rY m c) (512 * a.val + r.val) := by
  unfold out0_10 k0_pay12
  simp (disch := decide) only [View.canon_cons_unit_lit', View.ld_unit_lit']
  exact pay4_at _ _ _ _ _ _ a r

theorem out11_at (o : Fin 3584) :
    out0_11 (F := Ideal) (V m c main_arg0) (V m c main_v0) (V m c main_v1) (V m c main_arg3) (V m c main_arg4) (V m c main_arg5) (ix2 0 o)
      = bgrad (rX m c) (rW m c) (rB m c) (rY m c) 8192 o.val := by
  unfold out0_11 k0_pay12
  simp (disch := decide) only [View.canon_cons_unit_lit', View.ld_unit_lit']
  exact pay6_at _ _ _ _ _ _ o

/-! ## What the arrays hold after the run -/

theorem arr6 : (dats m 0 c).arrAt 6 cfg0.N = out0_6 (F := Ideal) (V m c main_arg0) (V m c main_v0) (V m c main_v1)
    (V m c main_arg3) (V m c main_arg4) (V m c main_arg5) := by
  have e0 : win0_6.index p0 (0 : Fin 2) = 0 := by decide +kernel
  have e1 : win0_6.index p0 (1 : Fin 2) = 0 := by decide +kernel
  have hb := blocks6 m c p0 (by decide +kernel)
  rw [flushed6, in0, in1, in2, in3, in4, in5] at hb
  generalize out0_6 (F := Ideal) (V m c main_arg0) (V m c main_v0) (V m c main_v1) (V m c main_arg3) (V m c main_arg4)
    (V m c main_arg5) = A at hb ⊢
  generalize (dats m 0 c).arrAt 6 cfg0.N = B at hb ⊢
  funext y
  have h := congrFun hb y
  have ey : ((cfg0.win 6).blk p0).view.emb y = y := by
    funext a
    apply Fin.ext
    match a with
    | ⟨0, _⟩ => show win0_6.index p0 (0 : Fin 2) * 8192 + 1 * (y 0).val = (y 0).val; rw [e0]; omega
    | ⟨1, _⟩ => show win0_6.index p0 (1 : Fin 2) * 18944 + 1 * (y 1).val = (y 1).val; rw [e1]; omega
  have h2 : B (((cfg0.win 6).blk p0).view.emb y) = A y := h
  rw [ey] at h2
  exact h2

theorem R6_at (t : Fin 8192) (j : Fin 18944) : (dats m 0 c).arrAt 6 cfg0.N (ix2 t j) = cod (rX m c) t.val j.val := by
  rw [arr6]
  exact out6_at m c t j

theorem arr7 : (dats m 0 c).arrAt 7 cfg0.N = out0_7 (F := Ideal) (V m c main_arg0) (V m c main_v0) (V m c main_v1)
    (V m c main_arg3) (V m c main_arg4) (V m c main_arg5) := by
  have e0 : win0_7.index p0 (0 : Fin 2) = 0 := by decide +kernel
  have e1 : win0_7.index p0 (1 : Fin 2) = 0 := by decide +kernel
  have hb := blocks7 m c p0 (by decide +kernel)
  rw [flushed7, in0, in1, in2, in3, in4, in5] at hb
  generalize out0_7 (F := Ideal) (V m c main_arg0) (V m c main_v0) (V m c main_v1) (V m c main_arg3) (V m c main_arg4)
    (V m c main_arg5) = A at hb ⊢
  generalize (dats m 0 c).arrAt 7 cfg0.N = B at hb ⊢
  funext y
  have h := congrFun hb y
  have ey : ((cfg0.win 7).blk p0).view.emb y = y := by
    funext a
    apply Fin.ext
    match a with
    | ⟨0, _⟩ => show win0_7.index p0 (0 : Fin 2) * 8192 + 1 * (y 0).val = (y 0).val; rw [e0]; omega
    | ⟨1, _⟩ => show win0_7.index p0 (1 : Fin 2) * 148 + 1 * (y 1).val = (y 1).val; rw [e1]; omega
  have h2 : B (((cfg0.win 7).blk p0).view.emb y) = A y := h
  rw [ey] at h2
  exact h2

theorem R7_at (t : Fin 8192) (g : Fin 148) : (dats m 0 c).arrAt 7 cfg0.N (ix2 t g) = scl (rX m c) t.val g.val := by
  rw [arr7]
  exact out7_at m c t g

theorem arr8 : (dats m 0 c).arrAt 8 cfg0.N = out0_8 (F := Ideal) (V m c main_arg0) (V m c main_v0) (V m c main_v1)
    (V m c main_arg3) (V m c main_arg4) (V m c main_arg5) := by
  have e0 : win0_8.index p0 (0 : Fin 2) = 0 := by decide +kernel
  have e1 : win0_8.index p0 (1 : Fin 2) = 0 := by decide +kernel
  have hb := blocks8 m c p0 (by decide +kernel)
  rw [flushed8, in0, in1, in2, in3, in4, in5] at hb
  generalize out0_8 (F := Ideal) (V m c main_arg0) (V m c main_v0) (V m c main_v1) (V m c main_arg3) (V m c main_arg4)
    (V m c main_arg5) = A at hb ⊢
  generalize (dats m 0 c).arrAt 8 cfg0.N = B at hb ⊢
  funext y
  have h := congrFun hb y
  have ey : ((cfg0.win 8).blk p0).view.emb y = y := by
    funext a
    apply Fin.ext
    match a with
    | ⟨0, _⟩ => show win0_8.index p0 (0 : Fin 2) * 8192 + 1 * (y 0).val = (y 0).val; rw [e0]; omega
    | ⟨1, _⟩ => show win0_8.index p0 (1 : Fin 2) * 3584 + 1 * (y 1).val = (y 1).val; rw [e1]; omega
  have h2 : B (((cfg0.win 8).blk p0).view.emb y) = A y := h
  rw [ey] at h2
  exact h2

theorem R8_at (t : Fin 8192) (o : Fin 3584) : (dats m 0 c).arrAt 8 cfg0.N (ix2 t o) = out (rX m c) (rW m c) (rB m c) t.val o.val := by
  rw [arr8]
  exact out8_at m c t o

theorem arr9 : (dats m 0 c).arrAt 9 cfg0.N = out0_9 (F := Ideal) (V m c main_arg0) (V m c main_v0) (V m c main_v1)
    (V m c main_arg3) (V m c main_arg4) (V m c main_arg5) := by
  have e0 : win0_9.index p0 (0 : Fin 2) = 0 := by decide +kernel
  have e1 : win0_9.index p0 (1 : Fin 2) = 0 := by decide +kernel
  have hb := blocks9 m c p0 (by decide +kernel)
  rw [flushed9, in0, in1, in2, in3, in4, in5] at hb
  generalize out0_9 (F := Ideal) (V m c main_arg0) (V m c main_v0) (V m c main_v1) (V m c main_arg3) (V m c main_arg4)
    (V m c main_arg5) = A at hb ⊢
  generalize (dats m 0 c).arrAt 9 cfg0.N = B at hb ⊢
  funext y
  have h := congrFun hb y
  have ey : ((cfg0.win 9).blk p0).view.emb y = y := by
    funext a
    apply Fin.ext
    match a with
    | ⟨0, _⟩ => show win0_9.index p0 (0 : Fin 2) * 8192 + 1 * (y 0).val = (y 0).val; rw [e0]; omega
    | ⟨1, _⟩ => show win0_9.index p0 (1 : Fin 2) * 3584 + 1 * (y 1).val = (y 1).val; rw [e1]; omega
  have h2 : B (((cfg0.win 9).blk p0).view.emb y) = A y := h
  rw [ey] at h2
  exact h2

theorem R9_at (t : Fin 8192) (o : Fin 3584) : (dats m 0 c).arrAt 9 cfg0.N (ix2 t o) = grad (rX m c) (rW m c) (rB m c) (rY m c) t.val o.val := by
  rw [arr9]
  exact out9_at m c t o

theorem arr10 : (dats m 0 c).arrAt 10 cfg0.N = out0_10 (F := Ideal) (V m c main_arg0) (V m c main_v0) (V m c main_v1)
    (V m c main_arg3) (V m c main_arg4) (V m c main_arg5) := by
  have e0 : win0_10.index p0 (0 : Fin 3) = 0 := by decide +kernel
  have e1 : win0_10.index p0 (1 : Fin 3) = 0 := by decide +kernel
  have e2 : win0_10.index p0 (2 : Fin 3) = 0 := by decide +kernel
  have hb := blocks10 m c p0 (by decide +kernel)
  rw [flushed10, in0, in1, in2, in3, in4, in5] at hb
  generalize out0_10 (F := Ideal) (V m c main_arg0) (V m c main_v0) (V m c main_v1) (V m c main_arg3) (V m c main_arg4)
    (V m c main_arg5) = A at hb ⊢
  generalize (dats m 0 c).arrAt 10 cfg0.N = B at hb ⊢
  funext y
  have h := congrFun hb y
  have ey : ((cfg0.win 10).blk p0).view.emb y = y := by
    funext a
    apply Fin.ext
    match a with
    | ⟨0, _⟩ => show win0_10.index p0 (0 : Fin 3) * 16 + 1 * (y 0).val = (y 0).val; rw [e0]; omega
    | ⟨1, _⟩ => show win0_10.index p0 (1 : Fin 3) * 1 + 1 * (y 1).val = (y 1).val; rw [e1]; omega
    | ⟨2, _⟩ => show win0_10.index p0 (2 : Fin 3) * 512 + 1 * (y 2).val = (y 2).val; rw [e2]; omega
  have h2 : B (((cfg0.win 10).blk p0).view.emb y) = A y := h
  rw [ey] at h2
  exact h2

theorem R10_at (a : Fin 16) (r : Fin 512) : (dats m 0 c).arrAt 10 cfg0.N (ix3 a 0 r) = loss (rX m c) (rW m c) (rB m c) (rY m c) (512 * a.val + r.val) := by
  rw [arr10]
  exact out10_at m c a r

theorem arr11 : (dats m 0 c).arrAt 11 cfg0.N = out0_11 (F := Ideal) (V m c main_arg0) (V m c main_v0) (V m c main_v1)
    (V m c main_arg3) (V m c main_arg4) (V m c main_arg5) := by
  have e0 : win0_11.index p0 (0 : Fin 2) = 0 := by decide +kernel
  have e1 : win0_11.index p0 (1 : Fin 2) = 0 := by decide +kernel
  have hb := blocks11 m c p0 (by decide +kernel)
  rw [flushed11, in0, in1, in2, in3, in4, in5] at hb
  generalize out0_11 (F := Ideal) (V m c main_arg0) (V m c main_v0) (V m c main_v1) (V m c main_arg3) (V m c main_arg4)
    (V m c main_arg5) = A at hb ⊢
  generalize (dats m 0 c).arrAt 11 cfg0.N = B at hb ⊢
  funext y
  have h := congrFun hb y
  have ey : ((cfg0.win 11).blk p0).view.emb y = y := by
    funext a
    apply Fin.ext
    match a with
    | ⟨0, _⟩ => show win0_11.index p0 (0 : Fin 2) * 1 + 1 * (y 0).val = (y 0).val; rw [e0]; omega
    | ⟨1, _⟩ => show win0_11.index p0 (1 : Fin 2) * 3584 + 1 * (y 1).val = (y 1).val; rw [e1]; omega
  have h2 : B (((cfg0.win 11).blk p0).view.emb y) = A y := h
  rw [ey] at h2
  exact h2

theorem R11_at (o : Fin 3584) : (dats m 0 c).arrAt 11 cfg0.N (ix2 0 o) = bgrad (rX m c) (rW m c) (rB m c) (rY m c) 8192 o.val := by
  rw [arr11]
  exact out11_at m c o

end Cert.ReferenceIdeal.Gen

end
-- ==== Proof.Agree.lean ====
module
public import proofs.«01_k».proof.Proof.Fold
public import proofs.«01_k».proof.Proof.RefValue

/-!
  The kernel and the reference, run from equal arguments, leave equal results.
-/

@[expose] public section

set_option maxRecDepth 16384

noncomputable section

namespace Cert.KernelIdeal.Gen

open Idealize.ShloMosaic Idealize.ShloMosaic.TcCoe Idealize.ShloMosaic.StableHlo Idealize.SL.Sem

variable (m : (ℓ : Loc nD τ sig) → Buf (Elt Ideal) ℓ) (c : Dev nD)

/-- The scales as the call finds them: the argument, as one row. -/
theorem V_v0 : V m c main_v0 = broadcastInDim S1x18944 ![1] bcast_S18944_S1x18944_1 (m ((c : Thread nD τ).loc main_arg1)) := by
  unfold_abbrev_sides
  after_results

/-- The shifts as the call finds them: the argument, as one row. -/
theorem V_v1 : V m c main_v1 = broadcastInDim S1x18944 ![1] bcast_S18944_S1x18944_1 (m ((c : Thread nD τ).loc main_arg2)) := by
  unfold_abbrev_sides
  after_results

end Cert.KernelIdeal.Gen

namespace Cert.ReferenceIdeal.Gen

open Idealize.ShloMosaic Idealize.ShloMosaic.TcCoe Idealize.ShloMosaic.StableHlo Idealize.SL.Sem

variable (m : (ℓ : Loc nD τ sig) → Buf (Elt Ideal) ℓ) (c : Dev nD)

/-- The scales as the call finds them: the argument, as one row. -/
theorem V_v0 : V m c main_v0 = broadcastInDim S1x18944 ![1] bcast_S18944_S1x18944_1 (m ((c : Thread nD τ).loc main_arg1)) := by
  unfold_abbrev_sides
  after_results

/-- The shifts as the call finds them: the argument, as one row. -/
theorem V_v1 : V m c main_v1 = broadcastInDim S1x18944 ![1] bcast_S18944_S1x18944_1 (m ((c : Thread nD τ).loc main_arg2)) := by
  unfold_abbrev_sides
  after_results

end Cert.ReferenceIdeal.Gen

namespace Cert.Proof

open Idealize.ShloMosaic Idealize.ShloMosaic.TcCoe Idealize.SL.Sem
open Cert.Spec

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two memories hold the same arguments on core `c`. -/
structure Same (c : Dev KernelIdeal.nD) : Prop where
  a0 : m' ((c.tc : Thread ReferenceIdeal.nD ReferenceIdeal.τ).loc ReferenceIdeal.main_arg0)
    = m ((c.tc : Thread KernelIdeal.nD KernelIdeal.τ).loc KernelIdeal.main_arg0)
  a1 : m' ((c.tc : Thread ReferenceIdeal.nD ReferenceIdeal.τ).loc ReferenceIdeal.main_arg1)
    = m ((c.tc : Thread KernelIdeal.nD KernelIdeal.τ).loc KernelIdeal.main_arg1)
  a2 : m' ((c.tc : Thread ReferenceIdeal.nD ReferenceIdeal.τ).loc ReferenceIdeal.main_arg2)
    = m ((c.tc : Thread KernelIdeal.nD KernelIdeal.τ).loc KernelIdeal.main_arg2)
  a3 : m' ((c.tc : Thread ReferenceIdeal.nD ReferenceIdeal.τ).loc ReferenceIdeal.main_arg3)
    = m ((c.tc : Thread KernelIdeal.nD KernelIdeal.τ).loc KernelIdeal.main_arg3)
  a4 : m' ((c.tc : Thread ReferenceIdeal.nD ReferenceIdeal.τ).loc ReferenceIdeal.main_arg4)
    = m ((c.tc : Thread KernelIdeal.nD KernelIdeal.τ).loc KernelIdeal.main_arg4)
  a5 : m' ((c.tc : Thread ReferenceIdeal.nD ReferenceIdeal.τ).loc ReferenceIdeal.main_arg5)
    = m ((c.tc : Thread KernelIdeal.nD KernelIdeal.τ).loc KernelIdeal.main_arg5)

variable {m m'} {c : Dev KernelIdeal.nD} (h : Same m m' c)

include h

/-- The normalised activations agree. -/
theorem X_eq : ReferenceIdeal.Gen.rX m' c = KernelIdeal.Gen.kX m c := by
  unfold ReferenceIdeal.Gen.rX ReferenceIdeal.Gen.refX KernelIdeal.Gen.kX
  rw [ReferenceIdeal.Gen.V_main_arg0, ReferenceIdeal.Gen.V_v0, ReferenceIdeal.Gen.V_v1, KernelIdeal.Gen.V_main_arg0,
    KernelIdeal.Gen.V_v0, KernelIdeal.Gen.V_v1, h.a0, h.a1, h.a2]

/-- The weights agree. -/
theorem W_eq : ReferenceIdeal.Gen.rW m' c = KernelIdeal.Gen.kW m c := by
  unfold ReferenceIdeal.Gen.rW ReferenceIdeal.Gen.refW KernelIdeal.Gen.kW
  rw [ReferenceIdeal.Gen.V_main_arg3, KernelIdeal.Gen.V_main_arg3, h.a3]

/-- The biases agree. -/
theorem B_eq : ReferenceIdeal.Gen.rB m' c = KernelIdeal.Gen.kB m c := by
  unfold ReferenceIdeal.Gen.rB ReferenceIdeal.Gen.refB KernelIdeal.Gen.kB
  rw [ReferenceIdeal.Gen.V_main_arg4, KernelIdeal.Gen.V_main_arg4, h.a4]

/-- The targets agree. -/
theorem Y_eq : ReferenceIdeal.Gen.rY m' c = KernelIdeal.Gen.kY m c := by
  unfold ReferenceIdeal.Gen.rY ReferenceIdeal.Gen.refY KernelIdeal.Gen.kY
  rw [ReferenceIdeal.Gen.V_main_arg5, KernelIdeal.Gen.V_main_arg5, h.a5]

/-- The codes agree. -/
theorem res6 : (ReferenceIdeal.Gen.dats m' 0 c).arrAt 6 ReferenceIdeal.cfg0.N = KernelIdeal.Value.G6 m c := by
  funext i
  have ei : i = ix2 (i 0) (i 1) := by
    funext a
    match a with
    | ⟨0, _⟩ => rfl
    | ⟨1, _⟩ => rfl
  rw [ei]
  refine (ReferenceIdeal.Gen.R6_at m' c (i 0) (i 1)).trans (Eq.trans ?_ (KernelIdeal.Gen.G6_at m c (i 0) (i 1)).symm)
  rw [X_eq h]

/-- The scales agree. -/
theorem res7 : (ReferenceIdeal.Gen.dats m' 0 c).arrAt 7 ReferenceIdeal.cfg0.N = KernelIdeal.Value.G7 m c := by
  funext i
  have ei : i = ix2 (i 0) (i 1) := by
    funext a
    match a with
    | ⟨0, _⟩ => rfl
    | ⟨1, _⟩ => rfl
  rw [ei]
  refine (ReferenceIdeal.Gen.R7_at m' c (i 0) (i 1)).trans (Eq.trans ?_ (KernelIdeal.Gen.G7_at m c (i 0) (i 1)).symm)
  rw [X_eq h]

/-- The outputs agree. -/
theorem res8 : (ReferenceIdeal.Gen.dats m' 0 c).arrAt 8 ReferenceIdeal.cfg0.N = KernelIdeal.Value.G8 m c := by
  funext i
  have ei : i = ix2 (i 0) (i 1) := by
    funext a
    match a with
    | ⟨0, _⟩ => rfl
    | ⟨1, _⟩ => rfl
  rw [ei]
  refine (ReferenceIdeal.Gen.R8_at m' c (i 0) (i 1)).trans (Eq.trans ?_ (KernelIdeal.Gen.G8_at m c (i 0) (i 1)).symm)
  rw [X_eq h, W_eq h, B_eq h]

/-- The output gradients agree. -/
theorem res9 : (ReferenceIdeal.Gen.dats m' 0 c).arrAt 9 ReferenceIdeal.cfg0.N = KernelIdeal.Value.G9 m c := by
  funext i
  have ei : i = ix2 (i 0) (i 1) := by
    funext a
    match a with
    | ⟨0, _⟩ => rfl
    | ⟨1, _⟩ => rfl
  rw [ei]
  refine (ReferenceIdeal.Gen.R9_at m' c (i 0) (i 1)).trans (Eq.trans ?_ (KernelIdeal.Gen.G9_at m c (i 0) (i 1)).symm)
  rw [X_eq h, W_eq h, B_eq h, Y_eq h]

/-- The token losses agree. -/
theorem res10 : (ReferenceIdeal.Gen.dats m' 0 c).arrAt 10 ReferenceIdeal.cfg0.N = KernelIdeal.Value.G10 m c := by
  funext i
  have ei : i = ix3 (i 0) 0 (i 2) := by
    funext a
    match a with
    | ⟨0, _⟩ => rfl
    | ⟨1, _⟩ => exact Fin.ext (by show (i 1).val = 0; have : (i 1).val < 1 := (i 1).isLt; omega)
    | ⟨2, _⟩ => rfl
  rw [ei]
  refine (ReferenceIdeal.Gen.R10_at m' c (i 0) (i 2)).trans (Eq.trans ?_ (KernelIdeal.Gen.G10_at m c (i 0) (i 2)).symm)
  rw [X_eq h, W_eq h, B_eq h, Y_eq h]

/-- The bias gradients agree. -/
theorem res11 : (ReferenceIdeal.Gen.dats m' 0 c).arrAt 11 ReferenceIdeal.cfg0.N = KernelIdeal.Value.G11 m c := by
  funext i
  have ei : i = ix2 0 (i 1) := by
    funext a
    match a with
    | ⟨0, _⟩ => exact Fin.ext (by show (i 0).val = 0; have : (i 0).val < 1 := (i 0).isLt; omega)
    | ⟨1, _⟩ => rfl
  rw [ei]
  refine (ReferenceIdeal.Gen.R11_at m' c (i 1)).trans (Eq.trans ?_ (KernelIdeal.Gen.G11_at m c (i 1)).symm)
  rw [X_eq h, W_eq h, B_eq h, Y_eq h]

end Cert.Proof

end
-- ==== Proof.BackFrame.Runs.lean ====
/-
  The backward call at the machine's floats: its branch condition, its staging buffers, and the frame claim from
  any run of its pipeline that keeps the input arrays.
-/
module

public import proofs.«01_k».proof.Proof.Gen.Backward.Skeleton
public import proofs.«01_k».proof.Proof.Gen.Backward.Loops
public import proofs.«01_k».proof.Proof.Gen.Backward.Frame

@[expose] public section

-- membership in a rectangle of production extents (`View.cover_of_tiled`): the elaborator's structural look
-- recurses once per coordinate of the long axes
set_option maxRecDepth 16384

noncomputable section

namespace Cert.Backward.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Backward`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 74 — by arithmetic of the point. -/
theorem hcond0_0 : ∀ t : Fin cfg0.N, cond0_0 (grid0.coords t) ↔ t.val < 74 :=
  (fun t => by
    have ht : t.val < 148 := Nat.lt_of_lt_of_eq t.isLt N_0
    have e0 : (grid0.coords t 0).val = t.val / 74 % 2 := Pipeline.Grid.coords_val t 0 (by decide) rfl
    have e1 : (grid0.coords t 1).val = t.val / 1 % 74 := Pipeline.Grid.coords_val t 1 (by decide) rfl
    simp only [cond0_0, k0_cond1, e0, e1]
    word_cmp
   : ∀ t : Fin grid0.N, cond0_0 (grid0.coords t) ↔ t.val < 74)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4096x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3584x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x18944 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x18944 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x18944 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x18944 .f32 := win0_11.stage (cfg0.slots t 11)
abbrev hs0_11 (t : Fin cfg0.N) : (ms0_11 t).IsWhole := hstage0_11 ((cfg0.slots t 11).cast nbuf0_11)

end Cert.Backward.Gen

end
-- ==== Proof.BackFrame.RunA.lean ====
/-
  One execution of the backward body at the points that first zero their columns: it ends, its inputs as they were.
-/
module

public import proofs.«01_k».proof.Proof.BackFrame.Runs

@[expose] public section

-- membership in a rectangle of production extents (`View.cover_of_tiled`): the elaborator's structural look
-- recurses once per coordinate of the long axes
set_option maxRecDepth 16384

noncomputable section

namespace Cert.Backward.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 1, … 73: 74 of 148): on whole staging memrefs — the inputs' at their contents,
    the FORGOTTEN outputs' (8, 9, 10, 11) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S4096x3584 .bf16) (harg2 : arg2.IsWhole) (arg3 : Memref sig .tc .vmem S3584x256 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S4096x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S3584x128 .f32) (harg9 : arg9.IsWhole) (arg10 : Memref sig .tc .vmem S8x18944 .f32) (harg10 : arg10.IsWhole) (arg11 : Memref sig .tc .vmem S8x18944 .f32) (harg11 : arg11.IsWhole) (arg12 : Memref sig .tc .vmem S8x18944 .f32) (harg12 : arg12.IsWhole) (arg13 : Memref sig .tc .vmem S8x18944 .f32) (harg13 : arg13.IsWhole) (hc0 : cond0_0 i)
    (x0 : Vec F S4096x3584 .bf16) (x1 : Vec F S3584x256 .bf16) (x2 : Vec F S3584x256 .bf16) (x3 : Vec F S3584x256 .bf16) (x4 : Vec F S4096x256 .bf16) (x5 : Vec F S1x256 .f32) (x6 : Vec F S1x256 .f32) (x7 : Vec F S3584x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_backward i arg2 harg2 arg3 harg3 arg4 harg4 arg5 harg5 arg6 harg6 arg7 harg7 arg8 harg8 arg9 harg9 arg10 harg10 arg11 harg11 arg12 harg12 arg13 harg13) K := by
    intro E K
    simp only [cc0_backward_eq_skeleton]; unfold cc0_backward_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Backward.Gen

end
-- ==== Proof.BackFrame.RunB.lean ====
/-
  One execution of the backward body at the points that add to what is there: it ends, its inputs as they were.
-/
module

public import proofs.«01_k».proof.Proof.BackFrame.RunA

@[expose] public section

-- membership in a rectangle of production extents (`View.cover_of_tiled`): the elaborator's structural look
-- recurses once per coordinate of the long axes
set_option maxRecDepth 16384

noncomputable section

namespace Cert.Backward.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 74, 75, … 147: 74 of 148): on whole staging memrefs — the inputs' at their contents,
    the FORGOTTEN outputs' (8, 9, 10, 11) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S4096x3584 .bf16) (harg2 : arg2.IsWhole) (arg3 : Memref sig .tc .vmem S3584x256 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S4096x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S3584x128 .f32) (harg9 : arg9.IsWhole) (arg10 : Memref sig .tc .vmem S8x18944 .f32) (harg10 : arg10.IsWhole) (arg11 : Memref sig .tc .vmem S8x18944 .f32) (harg11 : arg11.IsWhole) (arg12 : Memref sig .tc .vmem S8x18944 .f32) (harg12 : arg12.IsWhole) (arg13 : Memref sig .tc .vmem S8x18944 .f32) (harg13 : arg13.IsWhole) (hc0 : ¬cond0_0 i)
    (x0 : Vec F S4096x3584 .bf16) (x1 : Vec F S3584x256 .bf16) (x2 : Vec F S3584x256 .bf16) (x3 : Vec F S3584x256 .bf16) (x4 : Vec F S4096x256 .bf16) (x5 : Vec F S1x256 .f32) (x6 : Vec F S1x256 .f32) (x7 : Vec F S3584x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_backward i arg2 harg2 arg3 harg3 arg4 harg4 arg5 harg5 arg6 harg6 arg7 harg7 arg8 harg8 arg9 harg9 arg10 harg10 arg11 harg11 arg12 harg12 arg13 harg13) K := by
    intro E K
    simp only [cc0_backward_eq_skeleton]; unfold cc0_backward_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Backward.Gen

end
-- ==== Proof.BackFrame.Frame.lean ====
/-
  The frame of the backward call: the program ends and leaves its arguments as they were.
-/
module

public import proofs.«01_k».proof.Proof.BackFrame.RunB
public import Idealize.ShloMosaic.Lib.Claim

@[expose] public section

-- membership in a rectangle of production extents (`View.cover_of_tiled`): the elaborator's structural look
-- recurses once per coordinate of the long axes
set_option maxRecDepth 16384

noncomputable section

namespace Cert.Backward.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8, 9, 10, 11): nothing reads what the kernel leaves in them, so nothing
    of it is named (Lib/Pipeline/Dat.lean `Dat.toRForget`). -/
def forgets0 : Fin 12 → Bool := fun w => w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  have hN : t.val < 148 := lt_of_lt_of_eq t.isLt (show cfg0.N = 148 from N_0)
  by_cases h0 : t.val < 74
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_ofR m ρ (fun c => (dats m 0 c).toRForget forgets0) (A_eq m) (run_main m ρ)

/-- THE FRAME: `Cert.quiescent_Backward`'s statement (Defs.lean) at any `F` — Proof.lean cites it at `Bits`:
    `theorem Cert.Proof.claim : Cert.Claim := ⟨Cert.Backward.Gen.facts, fun m ρ _ => Cert.Backward.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Backward.Gen

end
-- ==== Proof.BackRun.Runs.lean ====
/-
  The backward call at the machine's floats: its branch condition, its staging buffers, and the frame claim from
  any run of its pipeline that keeps the input arrays.
-/
module

public import proofs.«01_k».proof.Proof.Gen.BackwardIdeal.Skeleton
public import proofs.«01_k».proof.Proof.Gen.BackwardIdeal.Loops
public import proofs.«01_k».proof.Proof.Gen.BackwardIdeal.Frame

@[expose] public section

-- membership in a rectangle of production extents (`View.cover_of_tiled`): the elaborator's structural look
-- recurses once per coordinate of the long axes
set_option maxRecDepth 16384

noncomputable section

namespace Cert.BackwardIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Backward`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 74 — by arithmetic of the point. -/
theorem hcond0_0 : ∀ t : Fin cfg0.N, cond0_0 (grid0.coords t) ↔ t.val < 74 :=
  (fun t => by
    have ht : t.val < 148 := Nat.lt_of_lt_of_eq t.isLt N_0
    have e0 : (grid0.coords t 0).val = t.val / 74 % 2 := Pipeline.Grid.coords_val t 0 (by decide) rfl
    have e1 : (grid0.coords t 1).val = t.val / 1 % 74 := Pipeline.Grid.coords_val t 1 (by decide) rfl
    simp only [cond0_0, k0_cond1, e0, e1]
    word_cmp
   : ∀ t : Fin grid0.N, cond0_0 (grid0.coords t) ↔ t.val < 74)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4096x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3584x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x18944 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x18944 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x18944 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x18944 .f32 := win0_11.stage (cfg0.slots t 11)
abbrev hs0_11 (t : Fin cfg0.N) : (ms0_11 t).IsWhole := hstage0_11 ((cfg0.slots t 11).cast nbuf0_11)

end Cert.BackwardIdeal.Gen

end
-- ==== Proof.BackSpec.lean ====
module
public import proofs.«01_k».proof.Proof.Spec

/-!
  The quantities of the backward call, over the extended reals and indexed by natural numbers.  `X t j` is the
  normalised activation of token `t` and channel `j`, `G t o` the gradient of the output and `W o j` the dequantised
  weight.
-/

@[expose] public section

noncomputable section

namespace Cert.Spec

open Idealize.ShloMosaic

section Back

variable (X G W : ℕ → ℕ → EReal)

/-- The gradient with respect to the dequantised activation: the product of the output's gradient and the weights. -/
def bprod (t j : ℕ) : EReal := ∑ o : Fin 3584, G t o.val * W o.val j

/-- That gradient where the activation was not clipped, `0` where it was. -/
def gxs (t j : ℕ) : EReal :=
  Scalar.select (Ideal.cmp .ole (max (Ideal.div (X t j) (scl X t (j / 128))) (-Ideal.div (X t j) (scl X t (j / 128))))
    (Ideal.ofBits .f32 0x42FE0000#32)) (bprod G W t j) (Ideal.ofBits .f32 0#32)

/-- The gradient times the activation. -/
def gxx (t j : ℕ) : EReal := gxs X G W t j * X t j

/-- The gradient with respect to the normalised weight times the dequantised activation, `W` here being the weight where
    it was not clipped and `0` elsewhere. -/
def gxw (t j : ℕ) : EReal := bprod G W t j * deq X t j

/-- The gradient with respect to the normalised weight, of the tokens of one residue modulo eight, summed over the outputs,
    `W` here being the weight where it was not clipped and `0` elsewhere. -/
def wsum (a j : ℕ) : EReal :=
  ∑ o : Fin 3584, (∑ b : Fin 1024, G (8 * b.val + a) o.val * deq X (8 * b.val + a) j) * W o.val j

end Back

/-- The sum of every eighth row of a column over the block of `64` rows so spaced that starts at row `R`. -/
def fold8 (f : ℕ → ℕ → EReal) (R j : ℕ) : EReal := ∑ a : Fin 64, f (R + 8 * a.val) j

/-- The sum of every eighth row of a column over half `h` of the tokens, from row `a` of it on. -/
def half (f : ℕ → ℕ → EReal) (h a j : ℕ) : EReal := ∑ c ∈ Finset.range 8, fold8 f (4096 * h + 512 * c + a) j

/-- The sum of every eighth row of a column over all tokens, from row `a` on. -/
def rows (f : ℕ → ℕ → EReal) (a j : ℕ) : EReal := ∑ b : Fin 1024, f (8 * b.val + a) j

/-- A sum over `w n` numbers, by blocks of `w`. -/
theorem sum_blocks (w : ℕ) (g : ℕ → EReal) (n : ℕ) :
    ∑ b ∈ Finset.range (w * n), g b = ∑ c ∈ Finset.range n, ∑ x ∈ Finset.range w, g (w * c + x) := by
  induction n with
  | zero => simp
  | succ n ih => rw [Nat.mul_succ, Finset.sum_range_add, ih, Finset.sum_range_succ (fun c => ∑ x ∈ Finset.range w, g (w * c + x)) n]

/-- The sum of every eighth row of a column over the `3584` outputs, from row `a` on. -/
def wrows (f : ℕ → ℕ → EReal) (a j : ℕ) : EReal := ∑ b : Fin 448, f (8 * b.val + a) j

/-- The same sum, by blocks of `128` outputs. -/
theorem wrows_eq (f : ℕ → ℕ → EReal) (a j : ℕ) :
    ∑ k ∈ Finset.range 28, ∑ b : Fin 16, f (128 * k + (8 * b.val + a)) j = wrows f a j := by
  unfold wrows
  rw [← Finset.sum_range (fun b => f (8 * b + a) j), show 448 = 16 * 28 from rfl, sum_blocks 16]
  refine Finset.sum_congr rfl fun k _ => ?_
  rw [← Finset.sum_range (fun b => f (128 * k + (8 * b + a)) j)]
  refine Finset.sum_congr rfl fun b _ => ?_
  rw [show 128 * k + (8 * b + a) = 8 * (16 * k + b) + a by omega]

/-- A weight times the gradient of its output's bias. -/
def biasw (W : ℕ → ℕ → EReal) (g : ℕ → EReal) (o j : ℕ) : EReal := W o j * g o

/-- The two halves together are all tokens. -/
theorem half_add (f : ℕ → ℕ → EReal) (a j : ℕ) : half f 0 a j + half f 1 a j = rows f a j := by
  unfold half rows fold8
  rw [← Finset.sum_range (fun b => f (8 * b + a) j), show 1024 = 64 * 16 from rfl, sum_blocks 64, show 16 = 8 + 8 from rfl, Finset.sum_range_add]
  refine congrArg₂ (fun p q : EReal => p + q) ?_ ?_ <;>
    refine Finset.sum_congr rfl fun c _ => ?_
  · rw [← Finset.sum_range (fun x => f (4096 * 0 + 512 * c + a + 8 * x) j)]
    refine Finset.sum_congr rfl fun x _ => ?_
    rw [show 4096 * 0 + 512 * c + a + 8 * x = 8 * (64 * c + x) + a by omega]
  · rw [← Finset.sum_range (fun x => f (4096 * 1 + 512 * c + a + 8 * x) j)]
    refine Finset.sum_congr rfl fun x _ => ?_
    rw [show 4096 * 1 + 512 * c + a + 8 * x = 8 * (64 * (8 + c) + x) + a by omega]

end Cert.Spec
-- ==== Proof.BackPay.lean ====
module
public import proofs.«01_k».proof.Proof.Gen.BackwardIdeal.Skeleton
public import proofs.«01_k».proof.Proof.BackSpec
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ShapeOps
public import Idealize.ShloMosaic.Lib.Pointwise.Contract

/-!
  What the backward body computes of one chunk of 512 rows and one group of 128 channels: the masked gradient, its
  product with the activation, and their sums over every eighth row, added to what the results held.
-/

@[expose] public section

set_option maxRecDepth 16384

noncomputable section

namespace Cert.BackwardIdeal.Gen

open Idealize.ShloMosaic Idealize.ShloMosaic.TcCoe Idealize.ShloMosaic.Tactic
open Idealize.SL.Sem
open Idealize.ShloMosaic.Pipeline
open Cert.Spec

/-- The product of a chunk of the gradient and a block of the weights. -/
theorem pay17_at (g : Vec Ideal S512x3584 .bf16) (w : Vec Ideal S3584x256 .bf16) (r : Fin 512) (l : Fin 256) :
    k0_pay17 g w (ix2 r l) = ∑ o : Fin 3584, g (ix2 r o) * w (ix2 o l) := by
  unfold k0_pay17
  pointwise

/-- The same product, of the second of the body's two products. -/
theorem pay18_at (g : Vec Ideal S512x3584 .bf16) (w : Vec Ideal S3584x256 .bf16) (r : Fin 512) (l : Fin 256) :
    k0_pay18 g w (ix2 r l) = ∑ o : Fin 3584, g (ix2 r o) * w (ix2 o l) := pay17_at g w r l

/-- The sum over every eighth row. -/
theorem fold_at (v : FVec Ideal S512x128 .f32) (h1 h2) (r : Fin 8) (l : Fin 128) :
    multiReduction .add [0] S8x128 (shapeCast S64x8x128 v shapeCasts_S512x128_S64x8x128) 0x00000000#32 reduces_S64x8x128_S8x128 h1 h2 (ix2 r l)
      = ∑ a : Fin 64, v (ix2 ⟨8 * a.val + r.val, by have := a.isLt; have := r.isLt; omega⟩ l) := by
  pointwise
  exact Finset.sum_congr rfl fun a _ => congrArg (fun n => v (ix2 n l)) (Fin.ext (by show a.val * 8 + r.val = 8 * a.val + r.val; omega))

/-- A sum of vectors at an index. -/
theorem addf_at (p q : FVec Ideal S8x128 .f32) (i : S8x128.Idx) : addf p q i = (p i : EReal) + q i := rfl

/-- The masked choice. -/
theorem mask_at (q w : FVec Ideal S512x128 .f32) (i : S512x128.Idx) :
    select (cmpf .ole (absf q) (broadcast S512x128 (Scalar.ofBits (F := Ideal) .f32 0x42FE0000#32))) w
      (broadcast S512x128 (Scalar.ofBits (F := Ideal) .f32 0x00000000#32)) i
    = Scalar.select (Ideal.cmp .ole (max (q i) (-q i)) (Ideal.ofBits .f32 0x42FE0000#32)) (w i) (Ideal.ofBits .f32 0#32) := by
  pointwise
  rfl

section At

variable (a : Vec Ideal S512x128 .bf16) (b c : Vec Ideal S1x128 .f32)
variable (X : ℕ → ℕ → EReal) (R Q : ℕ)

/-- The group's scale at row `r` is the scale of group `Q` of token `R + r`. -/
theorem pay20_at (h : ∀ (r : Fin 512) (l : Fin 128),
      Ideal.div (a (ix2 r l) - b (ix2 0 l)) (c (ix2 0 l)) = X (R + r.val) (128 * Q + l.val)) (r : Fin 512) (z : Fin 1) :
    k0_pay20 a b c (ix2 r z) = scl X (R + r.val) Q := by
  unfold k0_pay20 k0_pay19
  pointwise
  unfold scl gmax
  simp only [h]
  rfl

theorem pay19_at (h : ∀ (r : Fin 512) (l : Fin 128),
      Ideal.div (a (ix2 r l) - b (ix2 0 l)) (c (ix2 0 l)) = X (R + r.val) (128 * Q + l.val)) (r : Fin 512) (l : Fin 128) :
    k0_pay19 a b c (ix2 r l) = X (R + r.val) (128 * Q + l.val) := by
  rw [← h]
  unfold k0_pay19
  pointwise

theorem pay21_at (h : ∀ (r : Fin 512) (l : Fin 128),
      Ideal.div (a (ix2 r l) - b (ix2 0 l)) (c (ix2 0 l)) = X (R + r.val) (128 * Q + l.val)) (r : Fin 512) (l : Fin 128) :
    k0_pay21 a b c (ix2 r l) = Ideal.div (X (R + r.val) (128 * Q + l.val)) (scl X (R + r.val) Q) := by
  have e := pay20_at a b c X R Q h r 0
  have e' := pay19_at a b c X R Q h r l
  unfold k0_pay21
  generalize k0_pay20 a b c = s at e ⊢
  generalize k0_pay19 a b c = s' at e' ⊢
  pointwise
  rw [e, e']

variable (G W : ℕ → ℕ → EReal) (M : FVec Ideal S512x256 .f32)

theorem div128 (l : Fin 128) : (128 * Q + l.val) / 128 = Q := by omega

/-- The masked gradient of the first group of a block. -/
theorem pay24_at (h : ∀ (r : Fin 512) (l : Fin 128),
      Ideal.div (a (ix2 r l) - b (ix2 0 l)) (c (ix2 0 l)) = X (R + r.val) (128 * Q + l.val))
    (hM : ∀ (r : Fin 512) (l : Fin 128), M (ix2 r ⟨l.val, by omega⟩) = bprod G W (R + r.val) (128 * Q + l.val))
    (r : Fin 512) (l : Fin 128) :
    k0_pay24 M (k0_pay21 a b c) (ix2 r l) = gxs X G W (R + r.val) (128 * Q + l.val) := by
  have e := pay21_at a b c X R Q h r l
  unfold k0_pay24
  generalize k0_pay21 a b c = q at e ⊢
  refine (mask_at q _ (ix2 r l)).trans ?_
  unfold gxs
  rw [e, div128, ← hM]
  congr 1
  pointwise

/-- The masked gradient of the second group of a block. -/
theorem pay33_at (h : ∀ (r : Fin 512) (l : Fin 128),
      Ideal.div (a (ix2 r l) - b (ix2 0 l)) (c (ix2 0 l)) = X (R + r.val) (128 * Q + l.val))
    (hM : ∀ (r : Fin 512) (l : Fin 128), M (ix2 r ⟨128 + l.val, by omega⟩) = bprod G W (R + r.val) (128 * Q + l.val))
    (r : Fin 512) (l : Fin 128) :
    k0_pay33 M (k0_pay28 a) b c (ix2 r l) = gxs X G W (R + r.val) (128 * Q + l.val) := by
  have e := pay21_at a b c X R Q h r l
  unfold k0_pay33
  rw [show k0_pay31 (k0_pay28 a) b c = k0_pay21 a b c from rfl]
  generalize k0_pay21 a b c = q at e ⊢
  refine (mask_at q _ (ix2 r l)).trans ?_
  unfold gxs
  rw [e, div128, ← hM]
  congr 1
  pointwise

/-- What the first group leaves in the first result: what was there and the chunk's sums of gradient times activation. -/
theorem pay25_at (h : ∀ (r : Fin 512) (l : Fin 128),
      Ideal.div (a (ix2 r l) - b (ix2 0 l)) (c (ix2 0 l)) = X (R + r.val) (128 * Q + l.val))
    (hM : ∀ (r : Fin 512) (l : Fin 128), M (ix2 r ⟨l.val, by omega⟩) = bprod G W (R + r.val) (128 * Q + l.val))
    (old : Vec Ideal S8x128 .f32) (r : Fin 8) (l : Fin 128) :
    k0_pay25 M (k0_pay19 a b c) (k0_pay21 a b c) old (ix2 r l)
      = old (ix2 r l) + fold8 (gxx X G W) (R + r.val) (128 * Q + l.val) := by
  have e1 := fun r l => pay24_at a b c X R Q G W M h hM r l
  have e2 := fun r l => pay19_at a b c X R Q h r l
  unfold k0_pay25
  generalize k0_pay24 M (k0_pay21 a b c) = u at e1 ⊢
  generalize k0_pay19 a b c = v at e2 ⊢
  unfold fold8 gxx
  have e0 : shapeCast S8x128 old shapeCasts_S8x128_S8x128 (ix2 r l) = old (ix2 r l) := by pointwise
  dsimp only
  rw [addf_at]
  refine congrArg₂ (fun p q : EReal => p + q) e0 ((fold_at _ _ _ r l).trans (Finset.sum_congr rfl fun a _ => ?_))
  show u _ * v _ = _
  rw [e1, e2]
  simp only [Nat.add_assoc, Nat.add_comm r.val]

/-- What the first group leaves in the second result: what was there and the chunk's sums of the gradient. -/
theorem pay26_at (h : ∀ (r : Fin 512) (l : Fin 128),
      Ideal.div (a (ix2 r l) - b (ix2 0 l)) (c (ix2 0 l)) = X (R + r.val) (128 * Q + l.val))
    (hM : ∀ (r : Fin 512) (l : Fin 128), M (ix2 r ⟨l.val, by omega⟩) = bprod G W (R + r.val) (128 * Q + l.val))
    (old : Vec Ideal S8x128 .f32) (r : Fin 8) (l : Fin 128) :
    k0_pay26 M (k0_pay21 a b c) old (ix2 r l)
      = old (ix2 r l) + fold8 (gxs X G W) (R + r.val) (128 * Q + l.val) := by
  have e1 := fun r l => pay24_at a b c X R Q G W M h hM r l
  unfold k0_pay26
  generalize k0_pay24 M (k0_pay21 a b c) = u at e1 ⊢
  unfold fold8
  have e0 : shapeCast S8x128 old shapeCasts_S8x128_S8x128 (ix2 r l) = old (ix2 r l) := by pointwise
  dsimp only
  rw [addf_at]
  refine congrArg₂ (fun p q : EReal => p + q) e0 ((fold_at _ _ _ r l).trans (Finset.sum_congr rfl fun a _ => ?_))
  rw [e1]
  simp only [Nat.add_assoc, Nat.add_comm r.val]

/-- What the second group leaves in the first result. -/
theorem pay2_at (h : ∀ (r : Fin 512) (l : Fin 128),
      Ideal.div (a (ix2 r l) - b (ix2 0 l)) (c (ix2 0 l)) = X (R + r.val) (128 * Q + l.val))
    (hM : ∀ (r : Fin 512) (l : Fin 128), M (ix2 r ⟨128 + l.val, by omega⟩) = bprod G W (R + r.val) (128 * Q + l.val))
    (old : Vec Ideal S8x128 .f32) (r : Fin 8) (l : Fin 128) :
    k0_pay2 (k0_pay29 (k0_pay28 a) b c) (k0_pay33 M (k0_pay28 a) b c) (k0_pay34 old) (ix2 r l)
      = old (ix2 r l) + fold8 (gxx X G W) (R + r.val) (128 * Q + l.val) := by
  have e1 := fun r l => pay33_at a b c X R Q G W M h hM r l
  have e2 := fun r l => pay19_at a b c X R Q h r l
  rw [show k0_pay29 (k0_pay28 a) b c = k0_pay19 a b c from rfl]
  unfold k0_pay2 k0_pay34
  generalize k0_pay33 M (k0_pay28 a) b c = u at e1 ⊢
  generalize k0_pay19 a b c = v at e2 ⊢
  unfold fold8 gxx
  have e0 : shapeCast S8x128 old shapeCasts_S8x128_S8x128 (ix2 r l) = old (ix2 r l) := by pointwise
  dsimp only
  rw [addf_at]
  refine congrArg₂ (fun p q : EReal => p + q) e0 ((fold_at _ _ _ r l).trans (Finset.sum_congr rfl fun a _ => ?_))
  show u _ * v _ = _
  rw [e1, e2]
  simp only [Nat.add_assoc, Nat.add_comm r.val]

/-- What the second group leaves in the second result. -/
theorem pay3_at (h : ∀ (r : Fin 512) (l : Fin 128),
      Ideal.div (a (ix2 r l) - b (ix2 0 l)) (c (ix2 0 l)) = X (R + r.val) (128 * Q + l.val))
    (hM : ∀ (r : Fin 512) (l : Fin 128), M (ix2 r ⟨128 + l.val, by omega⟩) = bprod G W (R + r.val) (128 * Q + l.val))
    (old : Vec Ideal S8x128 .f32) (r : Fin 8) (l : Fin 128) :
    k0_pay3 (k0_pay33 M (k0_pay28 a) b c) old (ix2 r l)
      = old (ix2 r l) + fold8 (gxs X G W) (R + r.val) (128 * Q + l.val) := by
  have e1 := fun r l => pay33_at a b c X R Q G W M h hM r l
  unfold k0_pay3
  generalize k0_pay33 M (k0_pay28 a) b c = u at e1 ⊢
  unfold fold8
  have e0 : shapeCast S8x128 old shapeCasts_S8x128_S8x128 (ix2 r l) = old (ix2 r l) := by pointwise
  dsimp only
  rw [addf_at]
  refine congrArg₂ (fun p q : EReal => p + q) e0 ((fold_at _ _ _ r l).trans (Finset.sum_congr rfl fun a _ => ?_))
  rw [e1]
  simp only [Nat.add_assoc, Nat.add_comm r.val]

/-- The dequantised activation of row `r`. -/
theorem pay32_at (h : ∀ (r : Fin 512) (l : Fin 128),
      Ideal.div (a (ix2 r l) - b (ix2 0 l)) (c (ix2 0 l)) = X (R + r.val) (128 * Q + l.val)) (r : Fin 512) (l : Fin 128) :
    k0_pay32 (k0_pay28 a) b c (ix2 r l) = deq X (R + r.val) (128 * Q + l.val) := by
  have e := pay20_at a b c X R Q h r 0
  have e' := pay21_at a b c X R Q h r l
  unfold k0_pay32
  rw [show k0_pay31 (k0_pay28 a) b c = k0_pay21 a b c from rfl, show k0_pay30 (k0_pay28 a) b c = k0_pay20 a b c from rfl]
  generalize k0_pay20 a b c = s at e ⊢
  generalize k0_pay21 a b c = s' at e' ⊢
  pointwise
  rw [e, e']
  unfold deq qv
  rw [div128]

/-- The sums of a product of one group's columns of the second product and the dequantised activations, added. -/
theorem sums_at (u v : FVec Ideal S512x128 .f32) (f : ℕ → ℕ → EReal)
    (e : ∀ (r : Fin 512) (l : Fin 128), (u (ix2 r l) : EReal) * v (ix2 r l) = f (R + r.val) (128 * Q + l.val))
    (old : Vec Ideal S8x128 .f32) (h1 h2) (r : Fin 8) (l : Fin 128) :
    addf (shapeCast S8x128 old shapeCasts_S8x128_S8x128)
        (multiReduction .add [0] S8x128 (shapeCast S64x8x128 (mulf u v) shapeCasts_S512x128_S64x8x128) 0x00000000#32 reduces_S64x8x128_S8x128 h1 h2) (ix2 r l)
      = old (ix2 r l) + fold8 f (R + r.val) (128 * Q + l.val) := by
  unfold fold8
  have e0 : shapeCast S8x128 old shapeCasts_S8x128_S8x128 (ix2 r l) = old (ix2 r l) := by pointwise
  rw [addf_at]
  refine congrArg₂ (fun p q : EReal => p + q) e0 ((fold_at _ _ _ r l).trans (Finset.sum_congr rfl fun a _ => ?_))
  show (u _ : EReal) * v _ = _
  rw [e]
  simp only [Nat.add_assoc, Nat.add_comm r.val]

/-- What the first group leaves in the third result. -/
theorem pay27_at (h : ∀ (r : Fin 512) (l : Fin 128),
      Ideal.div (a (ix2 r l) - b (ix2 0 l)) (c (ix2 0 l)) = X (R + r.val) (128 * Q + l.val))
    (hM : ∀ (r : Fin 512) (l : Fin 128), M (ix2 r ⟨l.val, by omega⟩) = bprod G W (R + r.val) (128 * Q + l.val))
    (old : Vec Ideal S8x128 .f32) (r : Fin 8) (l : Fin 128) :
    k0_pay27 M (k0_pay22 a b c) (k0_pay23 a b c) old (ix2 r l)
      = old (ix2 r l) + fold8 (gxw X G W) (R + r.val) (128 * Q + l.val) := by
  have e1 := fun r l => pay32_at a b c X R Q h r l
  rw [show k0_pay27 M (k0_pay22 a b c) (k0_pay23 a b c) old
      = addf (shapeCast S8x128 old shapeCasts_S8x128_S8x128) (multiReduction .add [0] S8x128 (shapeCast S64x8x128
        (mulf (extractStridedSlice S512x128 ![0, 0] M slices_S512x256_o0_0_S512x128) (k0_pay32 (k0_pay28 a) b c)) shapeCasts_S512x128_S64x8x128)
        0x00000000#32 reduces_S64x8x128_S8x128 (.inl rfl) rfl) from rfl]
  generalize k0_pay32 (k0_pay28 a) b c = v at e1 ⊢
  refine sums_at R Q _ v (gxw X G W) (fun r l => ?_) old _ _ r l
  rw [e1]
  unfold gxw
  rw [← hM]
  congr 1
  pointwise

/-- What the second group leaves in the third result. -/
theorem pay4_at (h : ∀ (r : Fin 512) (l : Fin 128),
      Ideal.div (a (ix2 r l) - b (ix2 0 l)) (c (ix2 0 l)) = X (R + r.val) (128 * Q + l.val))
    (hM : ∀ (r : Fin 512) (l : Fin 128), M (ix2 r ⟨128 + l.val, by omega⟩) = bprod G W (R + r.val) (128 * Q + l.val))
    (old : Vec Ideal S8x128 .f32) (r : Fin 8) (l : Fin 128) :
    k0_pay4 M (k0_pay32 (k0_pay28 a) b c) old (ix2 r l)
      = old (ix2 r l) + fold8 (gxw X G W) (R + r.val) (128 * Q + l.val) := by
  have e1 := fun r l => pay32_at a b c X R Q h r l
  generalize k0_pay32 (k0_pay28 a) b c = v at e1 ⊢
  unfold k0_pay4
  dsimp only
  refine sums_at R Q _ v (gxw X G W) (fun r l => ?_) old _ _ r l
  rw [e1]
  unfold gxw
  rw [← hM]
  congr 1
  pointwise

end At

end Cert.BackwardIdeal.Gen
-- ==== Proof.BackTrip.lean ====
module
public import proofs.«01_k».proof.Proof.Gen.BackwardIdeal.Loops
public import proofs.«01_k».proof.Proof.BackPay
public import Idealize.ShloMosaic.Lib.WritesUnit
public import Idealize.ShloMosaic.Lib.VecWindow
public import Idealize.ShloMosaic.Lib.Pipeline.FrameBody

/-!
  What one trip of the backward body's loop leaves in the first three results: in the columns of the point's block it
  adds the sums over the trip's chunk of 512 rows, elsewhere nothing changes.  And what all eight trips leave.
-/

@[expose] public section

set_option maxRecDepth 16384

noncomputable section

namespace Cert.BackwardIdeal.Gen

open Idealize.ShloMosaic Idealize.ShloMosaic.TcCoe Idealize.ShloMosaic.Tactic
open Idealize.SL Idealize.SL.RA Idealize.SL.BI
open scoped Idealize.SL.BI
open Idealize.SL.Sem
open Cert.Spec

/-! ## The offsets -/

theorem off2_eq (k : Fin k0_t1_loop.trips) : k0_off2 k = ![512 * k.val, 0] := by
  have hk : k.val < 8 := Nat.lt_of_lt_of_le k.isLt k0_t1_abs.2.1
  unfold k0_off2
  interval_cases k.val <;> rfl

theorem off3_eq (k : Fin k0_t1_loop.trips) : k0_off3 k = ![512 * k.val, 0] := off2_eq k

theorem off5_eq (k : Fin k0_t1_loop.trips) : k0_off5 k = ![512 * k.val, 128] := by
  have hk : k.val < 8 := Nat.lt_of_lt_of_le k.isLt k0_t1_abs.2.1
  unfold k0_off5
  interval_cases k.val <;> rfl

theorem off4_eq (i : grid0.Coords) (q : ℕ) (hq : q < 256) : k0_off4 i (BitVec.ofNat 32 q) = ![0, 256 * (i 1).val + q] := by
  have hi : (i 1).val < 74 := (i 1).isLt
  have e : (BitVec.ofNat 32 (i 1).val * 256#32 + BitVec.ofNat 32 q).toNat = 256 * (i 1).val + q := by
    simp
    omega
  show ![0, (BitVec.ofNat 32 (i 1).val * 256#32 + BitVec.ofNat 32 q).toNat] = _
  rw [e]

theorem off4_inb (i : grid0.Coords) (q : ℕ) (hq : q + 128 ≤ 256) (a : Fin S8x18944.rank) :
    (![0, 256 * (i 1).val + q] : Fin 2 → ℕ) a + S8x128.size a ≤ S8x18944.size a := by
  have hi : (i 1).val < 74 := (i 1).isLt
  revert a
  refine Fin.forall_fin_two.mpr ⟨?_, ?_⟩
  · show 0 + 8 ≤ 8
    omega
  · show 256 * (i 1).val + q + 128 ≤ 18944
    omega

/-- A column `128` wide in a row of results, replaced. -/
theorem put_at (x : S8x18944.Idx → EReal) (c : ℕ) (w : S8x128.Idx → EReal) (r : Fin 8) (q : Fin 18944) :
    VecWindow.put x ![0, c] S8x128.size w (ix2 r q)
      = if h : c ≤ q.val ∧ q.val < c + 128 then w (ix2 r ⟨q.val - c, by omega⟩) else x (ix2 r q) := by
  unfold VecWindow.put
  have hr : r.val < 8 := r.isLt
  by_cases h : c ≤ q.val ∧ q.val < c + 128
  · have h' : ∀ a, (![0, c] : Fin 2 → ℕ) a ≤ ((ix2 r q : S8x18944.Idx) a).val ∧ ((ix2 r q : S8x18944.Idx) a).val < (![0, c] : Fin 2 → ℕ) a + S8x128.size a :=
      Fin.forall_fin_two.mpr ⟨⟨Nat.zero_le _, by show r.val < 0 + 8; omega⟩, h⟩
    rw [dif_pos h, dif_pos h']
    refine congrArg w (funext fun a => ?_)
    fin_cases a
    · exact Fin.ext (Nat.sub_zero _)
    · rfl
  · rw [dif_neg h, dif_neg]
    intro h'
    exact h (h' 1)

/-- What a point leaves in a result, `Y` having been there: in the columns of block `j` the sums over the `4096` tokens from
`R` on are added, elsewhere nothing changes. -/
def Adds (f : ℕ → ℕ → EReal) (R j : ℕ) (Y D : Vec Ideal S8x18944 .f32) : Prop :=
  ∀ (a : Fin 8) (q : Fin 18944), D (ix2 a q)
    = if q.val / 256 = j then Y (ix2 a q) + ∑ c ∈ Finset.range 8, fold8 f (R + 512 * c + a.val) q.val else Y (ix2 a q)

/-- A result with the columns of block `j` zeroed. -/
def zeroed (j : ℕ) (Y : Vec Ideal S8x18944 .f32) : Vec Ideal S8x18944 .f32 := fun p => if (p 1).val / 256 = j then 0 else Y p

/-- Writing the columns of the point's block. -/
theorem block_read (v : Memref sig .tc .vmem S8x18944 .f32) (i : grid0.Coords) (f : BufTy.Contents (Elt Ideal) v.view.ty) (inb : _)
    (p : FVec Ideal S8x256 .f32) (a : Fin 8) (q : Fin 18944) :
    v.view.read (Elt Ideal) (v.view.writes (Elt Ideal) f [⟨Rect.unit (s := S8x18944) (k0_off1 i) S8x256.size inb, p⟩]) (ix2 a q)
      = if h : q.val / 256 = (i 1).val then p (ix2 a ⟨q.val - 256 * (i 1).val, by omega⟩) else v.view.read (Elt Ideal) f (ix2 a q) := by
  have hi : (i 1).val < 74 := (i 1).isLt
  have e : (BitVec.ofNat 32 (i 1).val * 256#32).toNat = 256 * (i 1).val := by
    simp
    omega
  have ho : k0_off1 i = ![0, 256 * (i 1).val] := by
    show ![0, (BitVec.ofNat 32 (i 1).val * 256#32).toNat] = _
    rw [e]
  rw [View.read_writes_cons_put _ _ _ _ _ ho, View.writes_nil]
  unfold VecWindow.put
  have ha : a.val < 8 := a.isLt
  by_cases h : q.val / 256 = (i 1).val
  · have h' : ∀ b, (![0, 256 * (i 1).val] : Fin 2 → ℕ) b ≤ ((ix2 a q : S8x18944.Idx) b).val ∧ ((ix2 a q : S8x18944.Idx) b).val < (![0, 256 * (i 1).val] : Fin 2 → ℕ) b + S8x256.size b :=
      Fin.forall_fin_two.mpr ⟨⟨Nat.zero_le _, by show a.val < 0 + 8; omega⟩,
        ⟨by show 256 * (i 1).val ≤ q.val; omega, by show q.val < 256 * (i 1).val + 256; omega⟩⟩
    rw [dif_pos h, dif_pos h']
    refine congrArg p (funext fun b => ?_)
    fin_cases b
    · exact Fin.ext (Nat.sub_zero _)
    · rfl
  · rw [dif_neg h, dif_neg]
    intro h'
    have h1 : 256 * (i 1).val ≤ q.val ∧ q.val < 256 * (i 1).val + 256 := h' 1
    omega

/-- Zeroing the columns of the point's block. -/
theorem zero_read (v : Memref sig .tc .vmem S8x18944 .f32) (i : grid0.Coords) (f : BufTy.Contents (Elt Ideal) v.view.ty) (inb : _)
    (a : Fin 8) (q : Fin 18944) :
    v.view.read (Elt Ideal) (v.view.writes (Elt Ideal) f [⟨Rect.unit (s := S8x18944) (k0_off1 i) S8x256.size inb, k0_pay5 (F := Ideal)⟩]) (ix2 a q)
      = zeroed (i 1).val (v.view.read (Elt Ideal) f) (ix2 a q) := by
  rw [block_read]
  unfold zeroed
  show _ = if q.val / 256 = (i 1).val then 0 else _
  by_cases h : q.val / 256 = (i 1).val
  · rw [dif_pos h, if_pos h]
    exact Ideal.ofBits_zero_f32
  · rw [dif_neg h, if_neg h]

theorem trips_eq : k0_t1_loop.trips = 8 := by decide

section Trip

variable (𝒱 : Variants) (c : Dev nD) (bd : Option 𝒱.V) (i : grid0.Coords) (arg2 : Memref sig .tc .vmem S4096x3584 .bf16) (harg2 : arg2.IsWhole) (arg3 : Memref sig .tc .vmem S3584x256 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S4096x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S3584x128 .f32) (harg9 : arg9.IsWhole) (arg10 : Memref sig .tc .vmem S8x18944 .f32) (harg10 : arg10.IsWhole) (arg11 : Memref sig .tc .vmem S8x18944 .f32) (harg11 : arg11.IsWhole) (arg12 : Memref sig .tc .vmem S8x18944 .f32) (harg12 : arg12.IsWhole) (arg13 : Memref sig .tc .vmem S8x18944 .f32) (harg13 : arg13.IsWhole) (arg1 : BitVec 32) (X_arg2 : BufTy.Contents (Elt Ideal) arg2.view.ty) (X_arg3 : BufTy.Contents (Elt Ideal) arg3.view.ty) (X_arg4 : BufTy.Contents (Elt Ideal) arg4.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips)

/-- What the trip reads: at row `r` of the block of tokens that starts at `R`, the normalised activations and the product. -/
structure Reads (X G W : ℕ → ℕ → EReal) (R j : ℕ) (g : Vec Ideal S4096x3584 .bf16) (w : Vec Ideal S3584x256 .bf16)
    (x : Vec Ideal S4096x256 .bf16) (s d : Vec Ideal S1x256 .f32) : Prop where
  act : ∀ (r : Fin 4096) (l : Fin 256), Ideal.div (x (ix2 r l) - d (ix2 0 l)) (s (ix2 0 l)) = X (R + r.val) (256 * j + l.val)
  prod : ∀ (r : Fin 4096) (l : Fin 256), ∑ o : Fin 3584, g (ix2 r o) * w (ix2 o l) = bprod G W (R + r.val) (256 * j + l.val)

variable (X G W : ℕ → ℕ → EReal) (R : ℕ)
variable (h : Reads X G W R (i 1).val (arg2.view.read (Elt Ideal) X_arg2) (arg3.view.read (Elt Ideal) X_arg3)
  (arg6.view.read (Elt Ideal) X_arg6) (arg7.view.read (Elt Ideal) X_arg7) (arg8.view.read (Elt Ideal) X_arg8))
include h

/-- The trip's product. -/
theorem trip_prod (r : Fin 512) (l : Fin 256) :
    trip_k0_t1.sl.r (F := Ideal) arg2 arg3 X_arg2 X_arg3 k (ix2 r l) = bprod G W (R + 512 * k.val + r.val) (256 * (i 1).val + l.val) := by
  have hk : k.val < 8 := Nat.lt_of_lt_of_le k.isLt k0_t1_abs.2.1
  have hr : r.val < 512 := r.isLt
  unfold trip_k0_t1.sl.r
  rw [pay17_at]
  rw [show R + 512 * k.val + r.val = R + (⟨512 * k.val + r.val, by omega⟩ : Fin 4096).val from by simp only []; omega, ← h.prod]
  refine Finset.sum_congr rfl fun o _ => ?_
  rw [View.readAt_unit _ _ _ (off2_eq k) (by rw [← off2_eq k]; exact k0_off2_inb k), View.readAt_full]
  refine congrArg (fun p : EReal => p * arg3.view.read (Elt Ideal) X_arg3 (ix2 o l)) (congrArg (arg2.view.read (Elt Ideal) X_arg2) (funext fun a => ?_))
  fin_cases a
  · exact Fin.ext (by show 512 * k.val + 1 * r.val = 512 * k.val + r.val; omega)
  · exact Fin.ext (by show 0 + 1 * o.val = o.val; omega)

/-- The first group's activations. -/
theorem trip_act0 (r : Fin 512) (l : Fin 128) :
    Ideal.div (View.readAt (Elt Ideal) arg6.view (Rect.unit (s := S4096x256) (k0_off3 k) S512x128.size (k0_off3_inb k)).toLoadRect X_arg6 (ix2 r l : S512x128.Idx)
        - View.readAt (Elt Ideal) arg8.view (Rect.unit (s := S1x256) ![0, 0] S1x128.size inb_S1x256_S1x128_0_0).toLoadRect X_arg8 (ix2 0 l : S1x128.Idx))
      (View.readAt (Elt Ideal) arg7.view (Rect.unit (s := S1x256) ![0, 0] S1x128.size inb_S1x256_S1x128_0_0).toLoadRect X_arg7 (ix2 0 l : S1x128.Idx))
    = X (R + 512 * k.val + r.val) (128 * (2 * (i 1).val) + l.val) := by
  have hk : k.val < 8 := Nat.lt_of_lt_of_le k.isLt k0_t1_abs.2.1
  have hr : r.val < 512 := r.isLt
  have hl : l.val < 128 := l.isLt
  have e := h.act ⟨512 * k.val + r.val, by omega⟩ ⟨l.val, by omega⟩
  rw [show R + 512 * k.val + r.val = R + (512 * k.val + r.val) by omega,
    show 128 * (2 * (i 1).val) + l.val = 256 * (i 1).val + l.val by omega, ← e,
    View.readAt_unit _ _ _ (off3_eq k) (by rw [← off3_eq k]; exact k0_off3_inb k)]
  have e1 : VecWindow.window (arg6.view.read (Elt Ideal) X_arg6) ![512 * k.val, 0] S512x128.size (by rw [← off3_eq k]; exact k0_off3_inb k) (ix2 r l)
      = arg6.view.read (Elt Ideal) X_arg6 (ix2 ⟨512 * k.val + r.val, by omega⟩ ⟨l.val, by omega⟩) := by
    refine congrArg (arg6.view.read (Elt Ideal) X_arg6) (funext fun a => ?_)
    fin_cases a
    · exact Fin.ext (by show 512 * k.val + 1 * r.val = 512 * k.val + r.val; omega)
    · exact Fin.ext (by show 0 + 1 * l.val = l.val; omega)
  have e2 : ∀ (v : Memref sig .tc .vmem S1x256 .f32) (Y : BufTy.Contents (Elt Ideal) v.view.ty),
      View.readAt (Elt Ideal) v.view (Rect.unit (s := S1x256) ![0, 0] S1x128.size inb_S1x256_S1x128_0_0).toLoadRect Y (ix2 0 l : S1x128.Idx)
      = v.view.read (Elt Ideal) Y (ix2 0 ⟨l.val, by omega⟩) := by
    intro v Y
    refine congrArg (v.view.read (Elt Ideal) Y) (funext fun a => ?_)
    fin_cases a
    · rfl
    · exact Fin.ext (by show 0 + 1 * l.val = l.val; omega)
  rw [e1, e2, e2]

/-- The second group's activations. -/
theorem trip_act1 (r : Fin 512) (l : Fin 128) :
    Ideal.div (View.readAt (Elt Ideal) arg6.view (Rect.unit (s := S4096x256) (k0_off5 k) S512x128.size (k0_off5_inb k)).toLoadRect X_arg6 (ix2 r l : S512x128.Idx)
        - View.readAt (Elt Ideal) arg8.view (Rect.unit (s := S1x256) ![0, 128] S1x128.size inb_S1x256_S1x128_0_128).toLoadRect X_arg8 (ix2 0 l : S1x128.Idx))
      (View.readAt (Elt Ideal) arg7.view (Rect.unit (s := S1x256) ![0, 128] S1x128.size inb_S1x256_S1x128_0_128).toLoadRect X_arg7 (ix2 0 l : S1x128.Idx))
    = X (R + 512 * k.val + r.val) (128 * (2 * (i 1).val + 1) + l.val) := by
  have hk : k.val < 8 := Nat.lt_of_lt_of_le k.isLt k0_t1_abs.2.1
  have hr : r.val < 512 := r.isLt
  have hl : l.val < 128 := l.isLt
  have e := h.act ⟨512 * k.val + r.val, by omega⟩ ⟨128 + l.val, by omega⟩
  rw [show R + 512 * k.val + r.val = R + (512 * k.val + r.val) by omega,
    show 128 * (2 * (i 1).val + 1) + l.val = 256 * (i 1).val + (128 + l.val) by omega, ← e,
    View.readAt_unit _ _ _ (off5_eq k) (by rw [← off5_eq k]; exact k0_off5_inb k)]
  have e1 : VecWindow.window (arg6.view.read (Elt Ideal) X_arg6) ![512 * k.val, 128] S512x128.size (by rw [← off5_eq k]; exact k0_off5_inb k) (ix2 r l)
      = arg6.view.read (Elt Ideal) X_arg6 (ix2 ⟨512 * k.val + r.val, by omega⟩ ⟨128 + l.val, by omega⟩) := by
    refine congrArg (arg6.view.read (Elt Ideal) X_arg6) (funext fun a => ?_)
    fin_cases a
    · exact Fin.ext (by show 512 * k.val + 1 * r.val = 512 * k.val + r.val; omega)
    · exact Fin.ext (by show 128 + 1 * l.val = 128 + l.val; omega)
  have e2 : ∀ (v : Memref sig .tc .vmem S1x256 .f32) (Y : BufTy.Contents (Elt Ideal) v.view.ty),
      View.readAt (Elt Ideal) v.view (Rect.unit (s := S1x256) ![0, 128] S1x128.size inb_S1x256_S1x128_0_128).toLoadRect Y (ix2 0 l : S1x128.Idx)
      = v.view.read (Elt Ideal) Y (ix2 0 ⟨128 + l.val, by omega⟩) := by
    intro v Y
    refine congrArg (v.view.read (Elt Ideal) Y) (funext fun a => ?_)
    fin_cases a
    · rfl
    · exact Fin.ext (by show 128 + 1 * l.val = 128 + l.val; omega)
  rw [e1, e2, e2]

variable (g10 : BufTy.Contents (Elt Ideal) arg10.view.ty) (g11 : BufTy.Contents (Elt Ideal) arg11.view.ty) (g12 : BufTy.Contents (Elt Ideal) arg12.view.ty)

/-- The first result after the trip. -/
theorem trip_read10 (a : Fin 8) (q : Fin 18944) :
    arg10.view.read (Elt Ideal) (arg10.view.writes (Elt Ideal) g10 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 X_arg2 X_arg3 X_arg4 X_arg6 X_arg7 X_arg8 k g10 g11 g12).1) (ix2 a q)
      = if q.val / 256 = (i 1).val then arg10.view.read (Elt Ideal) g10 (ix2 a q) + fold8 (gxx X G W) (R + 512 * k.val + a.val) q.val
        else arg10.view.read (Elt Ideal) g10 (ix2 a q) := by
  have hp := trip_prod i arg2 arg3 arg6 arg7 arg8 X_arg2 X_arg3 X_arg6 X_arg7 X_arg8 k X G W R h
  have ha0 := trip_act0 i arg2 arg3 arg6 arg7 arg8 X_arg2 X_arg3 X_arg6 X_arg7 X_arg8 k X G W R h
  have ha1 := trip_act1 i arg2 arg3 arg6 arg7 arg8 X_arg2 X_arg3 X_arg6 X_arg7 X_arg8 k X G W R h
  have hq : q.val < 18944 := q.isLt
  unfold tripL_k0_t1 trip_k0_t1
  dsimp only
  rw [View.read_writes_cons_put _ _ _ _ _ (off4_eq i 128 (by omega)), View.read_writes_cons_put _ _ _ _ _ (off4_eq i 0 (by omega)), View.writes_nil,
    put_at, put_at]
  by_cases h1 : 256 * (i 1).val + 128 ≤ q.val ∧ q.val < 256 * (i 1).val + 128 + 128
  · rw [dif_pos h1, if_pos (by omega)]
    unfold trip_k0_t1.sl.r_7 trip_k0_t1.sl.r_9 trip_k0_t1.sl.r_10 trip_k0_t1.sl.r_6 trip_k0_t1.sl.v130
    refine (pay2_at (View.readAt (Elt Ideal) arg6.view (Rect.unit (s := S4096x256) (k0_off5 k) S512x128.size (k0_off5_inb k)).toLoadRect X_arg6) (View.readAt (Elt Ideal) arg8.view (Rect.unit (s := S1x256) ![0, 128] S1x128.size inb_S1x256_S1x128_0_128).toLoadRect X_arg8) (View.readAt (Elt Ideal) arg7.view (Rect.unit (s := S1x256) ![0, 128] S1x128.size inb_S1x256_S1x128_0_128).toLoadRect X_arg7)
      X (R + 512 * k.val) (2 * (i 1).val + 1) G W (trip_k0_t1.sl.r (F := Ideal) arg2 arg3 X_arg2 X_arg3 k) ha1 (fun r l => ?_) _ a _).trans ?_
    · rw [hp]
      congr 1
      show 256 * (i 1).val + (128 + l.val) = 128 * (2 * (i 1).val + 1) + l.val
      omega
    · refine congrArg₂ (fun p q : EReal => p + q) ?_ (congrArg (fold8 (gxx X G W) (R + 512 * k.val + a.val)) ?_)
      · rw [View.readAt_unit _ _ _ (off4_eq i 128 (by omega)) (off4_inb i 128 (by omega))]
        refine congrArg (arg10.view.read (Elt Ideal) g10) (funext fun b => ?_)
        fin_cases b
        · exact Fin.ext (by show 0 + 1 * a.val = a.val; omega)
        · exact Fin.ext (by show 256 * (i 1).val + 128 + 1 * (q.val - (256 * (i 1).val + 128)) = q.val; omega)
      · show 128 * (2 * (i 1).val + 1) + (q.val - (256 * (i 1).val + 128)) = q.val
        omega
  rw [dif_neg h1]
  by_cases h0 : 256 * (i 1).val + 0 ≤ q.val ∧ q.val < 256 * (i 1).val + 0 + 128
  · rw [dif_pos h0, if_pos (by omega)]
    unfold trip_k0_t1.sl.r_2 trip_k0_t1.sl.r_3
    refine (pay25_at (View.readAt (Elt Ideal) arg6.view (Rect.unit (s := S4096x256) (k0_off3 k) S512x128.size (k0_off3_inb k)).toLoadRect X_arg6) (View.readAt (Elt Ideal) arg8.view (Rect.unit (s := S1x256) ![0, 0] S1x128.size inb_S1x256_S1x128_0_0).toLoadRect X_arg8) (View.readAt (Elt Ideal) arg7.view (Rect.unit (s := S1x256) ![0, 0] S1x128.size inb_S1x256_S1x128_0_0).toLoadRect X_arg7)
      X (R + 512 * k.val) (2 * (i 1).val) G W (trip_k0_t1.sl.r (F := Ideal) arg2 arg3 X_arg2 X_arg3 k) ha0 (fun r l => ?_) _ a _).trans ?_
    · rw [hp]
      congr 1
      show 256 * (i 1).val + l.val = 128 * (2 * (i 1).val) + l.val
      omega
    · refine congrArg₂ (fun p q : EReal => p + q) ?_ (congrArg (fold8 (gxx X G W) (R + 512 * k.val + a.val)) ?_)
      · rw [View.readAt_unit _ _ _ (off4_eq i 0 (by omega)) (off4_inb i 0 (by omega))]
        refine congrArg (arg10.view.read (Elt Ideal) g10) (funext fun b => ?_)
        fin_cases b
        · exact Fin.ext (by show 0 + 1 * a.val = a.val; omega)
        · exact Fin.ext (by show 256 * (i 1).val + 0 + 1 * (q.val - (256 * (i 1).val + 0)) = q.val; omega)
      · show 128 * (2 * (i 1).val) + (q.val - (256 * (i 1).val + 0)) = q.val
        omega
  rw [dif_neg h0, if_neg (by omega)]

/-- The second result after the trip. -/
theorem trip_read11 (a : Fin 8) (q : Fin 18944) :
    arg11.view.read (Elt Ideal) (arg11.view.writes (Elt Ideal) g11 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 X_arg2 X_arg3 X_arg4 X_arg6 X_arg7 X_arg8 k g10 g11 g12).2.1) (ix2 a q)
      = if q.val / 256 = (i 1).val then arg11.view.read (Elt Ideal) g11 (ix2 a q) + fold8 (gxs X G W) (R + 512 * k.val + a.val) q.val
        else arg11.view.read (Elt Ideal) g11 (ix2 a q) := by
  have hp := trip_prod i arg2 arg3 arg6 arg7 arg8 X_arg2 X_arg3 X_arg6 X_arg7 X_arg8 k X G W R h
  have ha0 := trip_act0 i arg2 arg3 arg6 arg7 arg8 X_arg2 X_arg3 X_arg6 X_arg7 X_arg8 k X G W R h
  have ha1 := trip_act1 i arg2 arg3 arg6 arg7 arg8 X_arg2 X_arg3 X_arg6 X_arg7 X_arg8 k X G W R h
  have hq : q.val < 18944 := q.isLt
  unfold tripL_k0_t1 trip_k0_t1
  dsimp only
  rw [View.read_writes_cons_put _ _ _ _ _ (off4_eq i 128 (by omega)), View.read_writes_cons_put _ _ _ _ _ (off4_eq i 0 (by omega)), View.writes_nil,
    put_at, put_at]
  by_cases h1 : 256 * (i 1).val + 128 ≤ q.val ∧ q.val < 256 * (i 1).val + 128 + 128
  · rw [dif_pos h1, if_pos (by omega)]
    unfold trip_k0_t1.sl.r_9 trip_k0_t1.sl.r_6 trip_k0_t1.sl.v139
    refine (pay3_at (View.readAt (Elt Ideal) arg6.view (Rect.unit (s := S4096x256) (k0_off5 k) S512x128.size (k0_off5_inb k)).toLoadRect X_arg6) (View.readAt (Elt Ideal) arg8.view (Rect.unit (s := S1x256) ![0, 128] S1x128.size inb_S1x256_S1x128_0_128).toLoadRect X_arg8) (View.readAt (Elt Ideal) arg7.view (Rect.unit (s := S1x256) ![0, 128] S1x128.size inb_S1x256_S1x128_0_128).toLoadRect X_arg7)
      X (R + 512 * k.val) (2 * (i 1).val + 1) G W (trip_k0_t1.sl.r (F := Ideal) arg2 arg3 X_arg2 X_arg3 k) ha1 (fun r l => ?_) _ a _).trans ?_
    · rw [hp]
      congr 1
      show 256 * (i 1).val + (128 + l.val) = 128 * (2 * (i 1).val + 1) + l.val
      omega
    · refine congrArg₂ (fun p q : EReal => p + q) ?_ (congrArg (fold8 (gxs X G W) (R + 512 * k.val + a.val)) ?_)
      · rw [View.readAt_unit _ _ _ (off4_eq i 128 (by omega)) (off4_inb i 128 (by omega))]
        refine congrArg (arg11.view.read (Elt Ideal) g11) (funext fun b => ?_)
        fin_cases b
        · exact Fin.ext (by show 0 + 1 * a.val = a.val; omega)
        · exact Fin.ext (by show 256 * (i 1).val + 128 + 1 * (q.val - (256 * (i 1).val + 128)) = q.val; omega)
      · show 128 * (2 * (i 1).val + 1) + (q.val - (256 * (i 1).val + 128)) = q.val
        omega
  rw [dif_neg h1]
  by_cases h0 : 256 * (i 1).val + 0 ≤ q.val ∧ q.val < 256 * (i 1).val + 0 + 128
  · rw [dif_pos h0, if_pos (by omega)]
    unfold trip_k0_t1.sl.r_3
    refine (pay26_at (View.readAt (Elt Ideal) arg6.view (Rect.unit (s := S4096x256) (k0_off3 k) S512x128.size (k0_off3_inb k)).toLoadRect X_arg6) (View.readAt (Elt Ideal) arg8.view (Rect.unit (s := S1x256) ![0, 0] S1x128.size inb_S1x256_S1x128_0_0).toLoadRect X_arg8) (View.readAt (Elt Ideal) arg7.view (Rect.unit (s := S1x256) ![0, 0] S1x128.size inb_S1x256_S1x128_0_0).toLoadRect X_arg7)
      X (R + 512 * k.val) (2 * (i 1).val) G W (trip_k0_t1.sl.r (F := Ideal) arg2 arg3 X_arg2 X_arg3 k) ha0 (fun r l => ?_) _ a _).trans ?_
    · rw [hp]
      congr 1
      show 256 * (i 1).val + l.val = 128 * (2 * (i 1).val) + l.val
      omega
    · refine congrArg₂ (fun p q : EReal => p + q) ?_ (congrArg (fold8 (gxs X G W) (R + 512 * k.val + a.val)) ?_)
      · rw [View.readAt_unit _ _ _ (off4_eq i 0 (by omega)) (off4_inb i 0 (by omega))]
        refine congrArg (arg11.view.read (Elt Ideal) g11) (funext fun b => ?_)
        fin_cases b
        · exact Fin.ext (by show 0 + 1 * a.val = a.val; omega)
        · exact Fin.ext (by show 256 * (i 1).val + 0 + 1 * (q.val - (256 * (i 1).val + 0)) = q.val; omega)
      · show 128 * (2 * (i 1).val) + (q.val - (256 * (i 1).val + 0)) = q.val
        omega
  rw [dif_neg h0, if_neg (by omega)]

omit h in
/-- The trip's second product, with `W` the weights masked by their clipping. -/
theorem trip_prod12 (hM : Reads X G W R (i 1).val (arg2.view.read (Elt Ideal) X_arg2) (arg4.view.read (Elt Ideal) X_arg4)
    (arg6.view.read (Elt Ideal) X_arg6) (arg7.view.read (Elt Ideal) X_arg7) (arg8.view.read (Elt Ideal) X_arg8))
    (r : Fin 512) (l : Fin 256) :
    trip_k0_t1.sl.r_1 (F := Ideal) arg2 arg4 X_arg2 X_arg4 k (ix2 r l) = bprod G W (R + 512 * k.val + r.val) (256 * (i 1).val + l.val) := by
  have e := trip_prod i arg2 arg4 arg6 arg7 arg8 X_arg2 X_arg4 X_arg6 X_arg7 X_arg8 k X G W R hM r l
  rw [← e]
  unfold trip_k0_t1.sl.r trip_k0_t1.sl.r_1
  rw [pay18_at, pay17_at]

omit h in
/-- The third result after the trip. -/
theorem trip_read12 (hM : Reads X G W R (i 1).val (arg2.view.read (Elt Ideal) X_arg2) (arg4.view.read (Elt Ideal) X_arg4)
    (arg6.view.read (Elt Ideal) X_arg6) (arg7.view.read (Elt Ideal) X_arg7) (arg8.view.read (Elt Ideal) X_arg8))
    (a : Fin 8) (q : Fin 18944) :
    arg12.view.read (Elt Ideal) (arg12.view.writes (Elt Ideal) g12 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 X_arg2 X_arg3 X_arg4 X_arg6 X_arg7 X_arg8 k g10 g11 g12).2.2) (ix2 a q)
      = if q.val / 256 = (i 1).val then arg12.view.read (Elt Ideal) g12 (ix2 a q) + fold8 (gxw X G W) (R + 512 * k.val + a.val) q.val
        else arg12.view.read (Elt Ideal) g12 (ix2 a q) := by
  have hp := trip_prod12 i arg2 arg4 arg6 arg7 arg8 X_arg2 X_arg4 X_arg6 X_arg7 X_arg8 k X G W R hM
  have ha0 := trip_act0 i arg2 arg4 arg6 arg7 arg8 X_arg2 X_arg4 X_arg6 X_arg7 X_arg8 k X G W R hM
  have ha1 := trip_act1 i arg2 arg4 arg6 arg7 arg8 X_arg2 X_arg4 X_arg6 X_arg7 X_arg8 k X G W R hM
  have hq : q.val < 18944 := q.isLt
  unfold tripL_k0_t1 trip_k0_t1
  dsimp only
  rw [View.read_writes_cons_put _ _ _ _ _ (off4_eq i 128 (by omega)), View.read_writes_cons_put _ _ _ _ _ (off4_eq i 0 (by omega)), View.writes_nil,
    put_at, put_at]
  by_cases h1 : 256 * (i 1).val + 128 ≤ q.val ∧ q.val < 256 * (i 1).val + 128 + 128
  · rw [dif_pos h1, if_pos (by omega)]
    unfold trip_k0_t1.sl.r_8 trip_k0_t1.sl.r_6 trip_k0_t1.sl.v147
    refine (pay4_at (View.readAt (Elt Ideal) arg6.view (Rect.unit (s := S4096x256) (k0_off5 k) S512x128.size (k0_off5_inb k)).toLoadRect X_arg6) (View.readAt (Elt Ideal) arg8.view (Rect.unit (s := S1x256) ![0, 128] S1x128.size inb_S1x256_S1x128_0_128).toLoadRect X_arg8) (View.readAt (Elt Ideal) arg7.view (Rect.unit (s := S1x256) ![0, 128] S1x128.size inb_S1x256_S1x128_0_128).toLoadRect X_arg7)
      X (R + 512 * k.val) (2 * (i 1).val + 1) G W (trip_k0_t1.sl.r_1 (F := Ideal) arg2 arg4 X_arg2 X_arg4 k) ha1 (fun r l => ?_) _ a _).trans ?_
    · rw [hp]
      congr 1
      show 256 * (i 1).val + (128 + l.val) = 128 * (2 * (i 1).val + 1) + l.val
      omega
    · refine congrArg₂ (fun p q : EReal => p + q) ?_ (congrArg (fold8 (gxw X G W) (R + 512 * k.val + a.val)) ?_)
      · rw [View.readAt_unit _ _ _ (off4_eq i 128 (by omega)) (off4_inb i 128 (by omega))]
        refine congrArg (arg12.view.read (Elt Ideal) g12) (funext fun b => ?_)
        fin_cases b
        · exact Fin.ext (by show 0 + 1 * a.val = a.val; omega)
        · exact Fin.ext (by show 256 * (i 1).val + 128 + 1 * (q.val - (256 * (i 1).val + 128)) = q.val; omega)
      · show 128 * (2 * (i 1).val + 1) + (q.val - (256 * (i 1).val + 128)) = q.val
        omega
  rw [dif_neg h1]
  by_cases h0 : 256 * (i 1).val + 0 ≤ q.val ∧ q.val < 256 * (i 1).val + 0 + 128
  · rw [dif_pos h0, if_pos (by omega)]
    unfold trip_k0_t1.sl.r_4 trip_k0_t1.sl.r_5
    refine (pay27_at (View.readAt (Elt Ideal) arg6.view (Rect.unit (s := S4096x256) (k0_off3 k) S512x128.size (k0_off3_inb k)).toLoadRect X_arg6) (View.readAt (Elt Ideal) arg8.view (Rect.unit (s := S1x256) ![0, 0] S1x128.size inb_S1x256_S1x128_0_0).toLoadRect X_arg8) (View.readAt (Elt Ideal) arg7.view (Rect.unit (s := S1x256) ![0, 0] S1x128.size inb_S1x256_S1x128_0_0).toLoadRect X_arg7)
      X (R + 512 * k.val) (2 * (i 1).val) G W (trip_k0_t1.sl.r_1 (F := Ideal) arg2 arg4 X_arg2 X_arg4 k) ha0 (fun r l => ?_) _ a _).trans ?_
    · rw [hp]
      congr 1
      show 256 * (i 1).val + l.val = 128 * (2 * (i 1).val) + l.val
      omega
    · refine congrArg₂ (fun p q : EReal => p + q) ?_ (congrArg (fold8 (gxw X G W) (R + 512 * k.val + a.val)) ?_)
      · rw [View.readAt_unit _ _ _ (off4_eq i 0 (by omega)) (off4_inb i 0 (by omega))]
        refine congrArg (arg12.view.read (Elt Ideal) g12) (funext fun b => ?_)
        fin_cases b
        · exact Fin.ext (by show 0 + 1 * a.val = a.val; omega)
        · exact Fin.ext (by show 256 * (i 1).val + 0 + 1 * (q.val - (256 * (i 1).val + 0)) = q.val; omega)
      · show 128 * (2 * (i 1).val) + (q.val - (256 * (i 1).val + 0)) = q.val
        omega
  rw [dif_neg h0, if_neg (by omega)]

/-- The first result after the first `n` trips. -/
theorem trips_read10 (n : ℕ) (hn : n ≤ k0_t1_loop.trips) (a : Fin 8) (q : Fin 18944) :
    arg10.view.read (Elt Ideal) (arg10.view.writes (Elt Ideal) g10 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 X_arg2 X_arg3 X_arg4 X_arg6 X_arg7 X_arg8 g10 g11 g12 n).1) (ix2 a q)
      = if q.val / 256 = (i 1).val then arg10.view.read (Elt Ideal) g10 (ix2 a q) + ∑ c ∈ Finset.range n, fold8 (gxx X G W) (R + 512 * c + a.val) q.val
        else arg10.view.read (Elt Ideal) g10 (ix2 a q) := by
  induction n with
  | zero =>
    rw [show pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 X_arg2 X_arg3 X_arg4 X_arg6 X_arg7 X_arg8 g10 g11 g12 0 = ([], [], []) from rfl, View.writes_nil, Finset.range_zero, Finset.sum_empty, add_zero, ite_self]
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 X_arg2 X_arg3 X_arg4 X_arg6 X_arg7 X_arg8 g10 g11 g12 ⟨n, hn⟩
    dsimp only at e
    rw [e]
    dsimp only
    rw [View.writes_append, trip_read10 (h := h), ih (Nat.le_of_lt hn)]
    by_cases hj : q.val / 256 = (i 1).val
    · rw [if_pos hj, if_pos hj, if_pos hj, Finset.sum_range_succ, add_assoc]
    · rw [if_neg hj, if_neg hj, if_neg hj]

/-- The second result after the first `n` trips. -/
theorem trips_read11 (n : ℕ) (hn : n ≤ k0_t1_loop.trips) (a : Fin 8) (q : Fin 18944) :
    arg11.view.read (Elt Ideal) (arg11.view.writes (Elt Ideal) g11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 X_arg2 X_arg3 X_arg4 X_arg6 X_arg7 X_arg8 g10 g11 g12 n).2.1) (ix2 a q)
      = if q.val / 256 = (i 1).val then arg11.view.read (Elt Ideal) g11 (ix2 a q) + ∑ c ∈ Finset.range n, fold8 (gxs X G W) (R + 512 * c + a.val) q.val
        else arg11.view.read (Elt Ideal) g11 (ix2 a q) := by
  induction n with
  | zero =>
    rw [show pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 X_arg2 X_arg3 X_arg4 X_arg6 X_arg7 X_arg8 g10 g11 g12 0 = ([], [], []) from rfl, View.writes_nil, Finset.range_zero, Finset.sum_empty, add_zero, ite_self]
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 X_arg2 X_arg3 X_arg4 X_arg6 X_arg7 X_arg8 g10 g11 g12 ⟨n, hn⟩
    dsimp only at e
    rw [e]
    dsimp only
    rw [View.writes_append, trip_read11 (h := h), ih (Nat.le_of_lt hn)]
    by_cases hj : q.val / 256 = (i 1).val
    · rw [if_pos hj, if_pos hj, if_pos hj, Finset.sum_range_succ, add_assoc]
    · rw [if_neg hj, if_neg hj, if_neg hj]

omit h in
/-- The third result after the first `n` trips. -/
theorem trips_read12 (n : ℕ) (hn : n ≤ k0_t1_loop.trips) (hM : Reads X G W R (i 1).val (arg2.view.read (Elt Ideal) X_arg2) (arg4.view.read (Elt Ideal) X_arg4)
    (arg6.view.read (Elt Ideal) X_arg6) (arg7.view.read (Elt Ideal) X_arg7) (arg8.view.read (Elt Ideal) X_arg8))
    (a : Fin 8) (q : Fin 18944) :
    arg12.view.read (Elt Ideal) (arg12.view.writes (Elt Ideal) g12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 X_arg2 X_arg3 X_arg4 X_arg6 X_arg7 X_arg8 g10 g11 g12 n).2.2) (ix2 a q)
      = if q.val / 256 = (i 1).val then arg12.view.read (Elt Ideal) g12 (ix2 a q) + ∑ c ∈ Finset.range n, fold8 (gxw X G W) (R + 512 * c + a.val) q.val
        else arg12.view.read (Elt Ideal) g12 (ix2 a q) := by
  induction n with
  | zero =>
    rw [show pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 X_arg2 X_arg3 X_arg4 X_arg6 X_arg7 X_arg8 g10 g11 g12 0 = ([], [], []) from rfl, View.writes_nil, Finset.range_zero, Finset.sum_empty, add_zero, ite_self]
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 X_arg2 X_arg3 X_arg4 X_arg6 X_arg7 X_arg8 g10 g11 g12 ⟨n, hn⟩
    dsimp only at e
    rw [e]
    dsimp only
    rw [View.writes_append, trip_read12 (hM := hM), ih (Nat.le_of_lt hn)]
    by_cases hj : q.val / 256 = (i 1).val
    · rw [if_pos hj, if_pos hj, if_pos hj, Finset.sum_range_succ, add_assoc]
    · rw [if_neg hj, if_neg hj, if_neg hj]

end Trip

end Cert.BackwardIdeal.Gen
-- ==== Proof.BackBias.lean ====
module
public import proofs.«01_k».proof.Proof.BackTrip
public import Idealize.ShloMosaic.Lib.Pointwise.Tactic
public import Idealize.ShloMosaic.Lib.Pointwise.Reshape
public import Idealize.ShloMosaic.Lib.Pointwise.Reduce
public import Idealize.ShloMosaic.Lib.Pointwise.ShapeOps
public import Idealize.ShloMosaic.Lib.Pointwise.SelectCore

/-!
  What a point of the first half leaves in the fourth result: in the columns of its block the sums over every eighth row
  of the weights times the bias gradient.  The body adds up 28 chunks of 128 rows; each is one instance of the chunk
  lemma here.
-/

@[expose] public section

set_option maxRecDepth 16384

noncomputable section

namespace Cert.BackwardIdeal.Gen

open Idealize.ShloMosaic Idealize.ShloMosaic.TcCoe Idealize.ShloMosaic.Tactic
open Idealize.SL.Sem
open Cert.Spec

/-- A bias gradient, twice side by side. -/
def twice (g : FVec Ideal S128x128 .f32) : FVec Ideal S128x256 .f32 :=
  concatenate S128x256 1 [⟨S128x128, g⟩, ⟨S128x128, g⟩] concatenates_S128x128_S128x128_S128x256_d1

/-- A chunk of weights times its bias gradients. -/
def times (w : Vec Ideal S128x256 .bf16) (g : Vec Ideal S128x128 .f32) : FVec Ideal S128x256 .f32 :=
  mulf (F := Ideal) (extf .f32 w bitsLt_bf16_f32) (twice (shapeCast S128x128 g shapeCasts_S128x128_S128x128))

/-- The sums so far with a chunk's added. -/
def chunk (acc : FVec Ideal S8x256 .f32) (p : FVec Ideal S128x256 .f32) : FVec Ideal S8x256 .f32 :=
  addf acc (multiReduction .add [0] S8x256 (shapeCast S16x8x256 p shapeCasts_S128x256_S16x8x256) 0x00000000#32 reduces_S16x8x256_S8x256 (.inl rfl) rfl)

theorem twice_at (g : FVec Ideal S128x128 .f32) (r : Fin 128) (q : Fin 256) :
    twice g (ix2 r q) = g (ix2 r ⟨q.val % 128, Nat.mod_lt _ (by omega)⟩) := by
  have hq : q.val < 256 := q.isLt
  unfold twice
  by_cases h : q.val < 128
  · have e : (⟨q.val % 128, Nat.mod_lt _ (by omega)⟩ : Fin 128) = ⟨q.val, h⟩ := Fin.ext (Nat.mod_eq_of_lt h)
    rw [e]
    pointwise
    simp [h]
  · have e : (⟨q.val % 128, Nat.mod_lt _ (by omega)⟩ : Fin 128) = ⟨q.val - 128, by omega⟩ := Fin.ext (by show q.val % 128 = q.val - 128; omega)
    rw [e]
    pointwise
    simp [h]

theorem times_at (w : Vec Ideal S128x256 .bf16) (g : Vec Ideal S128x128 .f32) (r : Fin 128) (q : Fin 256) :
    times w g (ix2 r q) = w (ix2 r q) * g (ix2 r ⟨q.val % 128, Nat.mod_lt _ (by omega)⟩) := by
  have e := twice_at (shapeCast S128x128 g shapeCasts_S128x128_S128x128) r q
  unfold times
  generalize twice (shapeCast S128x128 g shapeCasts_S128x128_S128x128) = u at e ⊢
  have e0 : mulf (F := Ideal) (extf .f32 w bitsLt_bf16_f32) u (ix2 r q) = w (ix2 r q) * u (ix2 r q) := by pointwise
  rw [e0, e]
  refine congrArg (fun z : EReal => w (ix2 r q) * z) ?_
  pointwise

theorem sum16_at (p : FVec Ideal S128x256 .f32) (h1 h2) (a : Fin 8) (q : Fin 256) :
    multiReduction .add [0] S8x256 (shapeCast S16x8x256 p shapeCasts_S128x256_S16x8x256) 0x00000000#32 reduces_S16x8x256_S8x256 h1 h2 (ix2 a q)
      = ∑ b : Fin 16, p (ix2 ⟨8 * b.val + a.val, by have := a.isLt; have := b.isLt; omega⟩ q) := by
  pointwise
  exact Finset.sum_congr rfl fun b _ => congrArg (fun n => p (ix2 n q)) (Fin.ext (by show b.val * 8 + a.val = 8 * b.val + a.val; omega))

/-- The sums of the first `n` chunks of `f`. -/
def Upto (f : ℕ → ℕ → EReal) (n : ℕ) (acc : FVec Ideal S8x256 .f32) : Prop :=
  ∀ (a : Fin 8) (q : Fin 256), acc (ix2 a q) = ∑ k ∈ Finset.range n, ∑ b : Fin 16, f (128 * k + (8 * b.val + a.val)) q.val

/-- No chunk yet. -/
theorem upto_zero (f : ℕ → ℕ → EReal) : Upto f 0 (broadcast S8x256 (Scalar.ofBits (F := Ideal) .f32 0x00000000#32)) := by
  intro a q
  rw [Finset.range_zero, Finset.sum_empty]
  exact Ideal.ofBits_zero_f32

/-- One chunk more. -/
theorem upto_chunk (f : ℕ → ℕ → EReal) (n : ℕ) {acc : FVec Ideal S8x256 .f32} {p : FVec Ideal S128x256 .f32} (ha : Upto f n acc)
    (hp : ∀ (r : Fin 128) (q : Fin 256), p (ix2 r q) = f (128 * n + r.val) q.val) : Upto f (n + 1) (chunk acc p) := by
  intro a q
  rw [Finset.sum_range_succ (fun k => ∑ b : Fin 16, f (128 * k + (8 * b.val + a.val)) q.val) n, ← ha a q]
  unfold chunk
  refine congrArg (fun z : EReal => acc (ix2 a q) + z) ((sum16_at p _ _ a q).trans (Finset.sum_congr rfl fun b _ => ?_))
  rw [hp]

/-! ## The body's values as chunks -/

/-- The sums after chunks 0 to 2. -/
theorem pay6_eq (v14 : Vec Ideal S128x256 .bf16) (v16 : Vec Ideal S128x128 .f32) (v23 : Vec Ideal S128x256 .bf16) (v25 : Vec Ideal S128x128 .f32) (v32 : Vec Ideal S128x256 .bf16) (v34 : Vec Ideal S128x128 .f32) :
    k0_pay6 (F := Ideal) v14 v16 v23 v25 v32 v34
      = chunk (chunk (chunk (broadcast S8x256 (Scalar.ofBits (F := Ideal) .f32 0x00000000#32)) (times v14 v16)) (times v23 v25)) (times v32 v34) := rfl

/-- The sums after chunks 3 to 6. -/
theorem pay7_eq (v40 : FVec Ideal S8x256 .f32) (v41 : Vec Ideal S128x256 .bf16) (v43 : Vec Ideal S128x128 .f32) (v50 : Vec Ideal S128x256 .bf16) (v52 : Vec Ideal S128x128 .f32) (v59 : Vec Ideal S128x256 .bf16) (v61 : Vec Ideal S128x128 .f32) (v68 : Vec Ideal S128x256 .bf16) (v70 : Vec Ideal S128x128 .f32) :
    k0_pay7 (F := Ideal) v40 v41 v43 v50 v52 v59 v61 v68 v70
      = chunk (chunk (chunk (chunk v40 (times v41 v43)) (times v50 v52)) (times v59 v61)) (times v68 v70) := rfl

/-- The sums after chunks 7 to 10. -/
theorem pay9_eq (v76 : FVec Ideal S8x256 .f32) (v78 : FVec Ideal S128x256 .f32) (v79 : Vec Ideal S128x128 .f32) (v86 : Vec Ideal S128x256 .bf16) (v88 : Vec Ideal S128x128 .f32) (v95 : Vec Ideal S128x256 .bf16) (v97 : Vec Ideal S128x128 .f32) (v104 : Vec Ideal S128x256 .bf16) (v106 : Vec Ideal S128x128 .f32) :
    k0_pay9 (F := Ideal) v76 v78 v79 v86 v88 v95 v97 v104 v106
      = chunk (chunk (chunk (chunk v76 (mulf (F := Ideal) v78 (twice (shapeCast S128x128 v79 shapeCasts_S128x128_S128x128)))) (times v86 v88)) (times v95 v97)) (times v104 v106) := rfl

/-- The sums after chunks 11 to 15. -/
theorem pay11_eq (v112 : FVec Ideal S8x256 .f32) (v118 : FVec Ideal S128x256 .f32) (v122 : Vec Ideal S128x256 .bf16) (v124 : Vec Ideal S128x128 .f32) (v131 : Vec Ideal S128x256 .bf16) (v133 : Vec Ideal S128x128 .f32) (v140 : Vec Ideal S128x256 .bf16) (v142 : Vec Ideal S128x128 .f32) (v149 : Vec Ideal S128x256 .bf16) (v151 : Vec Ideal S128x128 .f32) :
    k0_pay11 (F := Ideal) v112 v118 v122 v124 v131 v133 v140 v142 v149 v151
      = chunk (chunk (chunk (chunk (chunk v112 v118) (times v122 v124)) (times v131 v133)) (times v140 v142)) (times v149 v151) := rfl

/-- The sums after chunks 16 to 19. -/
theorem pay12_eq (v157 : FVec Ideal S8x256 .f32) (v158 : Vec Ideal S128x256 .bf16) (v160 : Vec Ideal S128x128 .f32) (v167 : Vec Ideal S128x256 .bf16) (v169 : Vec Ideal S128x128 .f32) (v176 : Vec Ideal S128x256 .bf16) (v178 : Vec Ideal S128x128 .f32) (v185 : Vec Ideal S128x256 .bf16) (v187 : Vec Ideal S128x128 .f32) :
    k0_pay12 (F := Ideal) v157 v158 v160 v167 v169 v176 v178 v185 v187
      = chunk (chunk (chunk (chunk v157 (times v158 v160)) (times v167 v169)) (times v176 v178)) (times v185 v187) := rfl

/-- The sums after chunks 20 to 23. -/
theorem pay14_eq (v193 : FVec Ideal S8x256 .f32) (v195 : FVec Ideal S128x256 .f32) (v196 : Vec Ideal S128x128 .f32) (v203 : Vec Ideal S128x256 .bf16) (v205 : Vec Ideal S128x128 .f32) (v212 : Vec Ideal S128x256 .bf16) (v214 : Vec Ideal S128x128 .f32) (v221 : Vec Ideal S128x256 .bf16) (v223 : Vec Ideal S128x128 .f32) :
    k0_pay14 (F := Ideal) v193 v195 v196 v203 v205 v212 v214 v221 v223
      = chunk (chunk (chunk (chunk v193 (mulf (F := Ideal) v195 (twice (shapeCast S128x128 v196 shapeCasts_S128x128_S128x128)))) (times v203 v205)) (times v212 v214)) (times v221 v223) := rfl

/-- The sums after chunks 24 to 27. -/
theorem pay1_eq (v229 : FVec Ideal S8x256 .f32) (v231 : FVec Ideal S128x256 .f32) (v233 : FVec Ideal S128x128 .f32) (v239 : Vec Ideal S128x256 .bf16) (v241 : Vec Ideal S128x128 .f32) (v248 : Vec Ideal S128x256 .bf16) (v250 : Vec Ideal S128x128 .f32) (v257 : Vec Ideal S128x256 .bf16) (v259 : Vec Ideal S128x128 .f32) :
    k0_pay1 (F := Ideal) v229 v231 v233 v239 v241 v248 v250 v257 v259
      = chunk (chunk (chunk (chunk v229 (mulf (F := Ideal) v231 (twice v233))) (times v239 v241)) (times v248 v250)) (times v257 v259) := rfl

/-! ## What a point reads, and what it leaves -/

/-- What the sums read: the weights of the block's columns and the bias gradient, the same in every column. -/
structure ReadsBias (W : ℕ → ℕ → EReal) (gb : ℕ → EReal) (j : ℕ) (w : Vec Ideal S3584x256 .bf16) (g : Vec Ideal S3584x128 .f32) : Prop where
  weight : ∀ (o : Fin 3584) (l : Fin 256), w (ix2 o l) = W o.val (256 * j + l.val)
  grad : ∀ (o : Fin 3584) (l : Fin 128), g (ix2 o l) = gb o.val

/-- What the point leaves: in the columns of its block the sums, elsewhere what was there. -/
def Puts (f : ℕ → ℕ → EReal) (j : ℕ) (Y D : Vec Ideal S8x18944 .f32) : Prop :=
  ∀ (a : Fin 8) (q : Fin 18944), D (ix2 a q) = if q.val / 256 = j then wrows f a.val q.val else Y (ix2 a q)

variable {W : ℕ → ℕ → EReal} {gb : ℕ → EReal} {j : ℕ} {arg5 : Memref sig .tc .vmem S3584x256 .bf16} {arg9 : Memref sig .tc .vmem S3584x128 .f32}
  {X5 : BufTy.Contents (Elt Ideal) arg5.view.ty} {X9 : BufTy.Contents (Elt Ideal) arg9.view.ty}

/-- The weights of a chunk times its bias gradients. -/
theorem times_read (h : ReadsBias W gb j (arg5.view.read (Elt Ideal) X5) (arg9.view.read (Elt Ideal) X9)) (n : ℕ) (hn : n < 28) (i5 i9)
    (r : Fin 128) (q : Fin 256) :
    times (arg5.view.readAt (Elt Ideal) (Rect.unit (s := S3584x256) ![128 * n, 0] S128x256.size i5).toLoadRect X5)
      (arg9.view.readAt (Elt Ideal) (Rect.unit (s := S3584x128) ![128 * n, 0] S128x128.size i9).toLoadRect X9) (ix2 r q)
      = biasw W gb (128 * n + r.val) (256 * j + q.val) := by
  have hr : r.val < 128 := r.isLt
  rw [times_at]
  unfold biasw
  have e5 := h.weight ⟨128 * n + r.val, by omega⟩ q
  have e9 := h.grad ⟨128 * n + r.val, by omega⟩ ⟨q.val % 128, Nat.mod_lt _ (by omega)⟩
  rw [← e5, ← e9]
  refine congrArg₂ (fun u v : EReal => u * v) (congrArg (arg5.view.read (Elt Ideal) X5) (funext fun a => ?_))
    (congrArg (arg9.view.read (Elt Ideal) X9) (funext fun a => ?_))
  · match a with
    | ⟨0, _⟩ => exact Fin.ext (by show 128 * n + 1 * r.val = 128 * n + r.val; omega)
    | ⟨1, _⟩ => exact Fin.ext (by show 0 + 1 * q.val = q.val; omega)
  · match a with
    | ⟨0, _⟩ => exact Fin.ext (by show 128 * n + 1 * r.val = 128 * n + r.val; omega)
    | ⟨1, _⟩ => exact Fin.ext (by show 0 + 1 * (q.val % 128) = q.val % 128; omega)

/-- One chunk more, of what the point reads. -/
theorem upto_read (h : ReadsBias W gb j (arg5.view.read (Elt Ideal) X5) (arg9.view.read (Elt Ideal) X9)) (n : ℕ) (hn : n < 28) (i5 i9)
    {acc : FVec Ideal S8x256 .f32} (ha : Upto (fun o q => biasw W gb o (256 * j + q)) n acc) :
    Upto (fun o q => biasw W gb o (256 * j + q)) (n + 1) (chunk acc
      (times (arg5.view.readAt (Elt Ideal) (Rect.unit (s := S3584x256) ![128 * n, 0] S128x256.size i5).toLoadRect X5)
        (arg9.view.readAt (Elt Ideal) (Rect.unit (s := S3584x128) ![128 * n, 0] S128x128.size i9).toLoadRect X9))) :=
  upto_chunk _ n ha fun r q => times_read h n hn i5 i9 r q

/-- All 28 chunks, written to the columns of the block. -/
theorem put_read (v : Memref sig .tc .vmem S8x18944 .f32) (i : grid0.Coords) (f : BufTy.Contents (Elt Ideal) v.view.ty) (inb : _)
    (p : FVec Ideal S8x256 .f32) (hp : Upto (fun o q => biasw W gb o (256 * (i 1).val + q)) 28 p) :
    Puts (biasw W gb) (i 1).val (v.view.read (Elt Ideal) f)
      (v.view.read (Elt Ideal) (v.view.writes (Elt Ideal) f [⟨Rect.unit (s := S8x18944) (k0_off1 i) S8x256.size inb, p⟩])) := by
  intro a q
  rw [block_read]
  by_cases h : q.val / 256 = (i 1).val
  · rw [dif_pos h, if_pos h, hp, ← wrows_eq]
    refine Finset.sum_congr rfl fun k _ => Finset.sum_congr rfl fun b _ => ?_
    show biasw W gb _ (256 * (i 1).val + (q.val - 256 * (i 1).val)) = _
    rw [show 256 * (i 1).val + (q.val - 256 * (i 1).val) = q.val by omega]
  · rw [dif_neg h, if_neg h]

end Cert.BackwardIdeal.Gen

end
-- ==== Proof.BackRun.RunA.lean ====
/-
  One execution of the backward body at the points that first zero their columns: it ends, its inputs as they were.
-/
module

public import proofs.«01_k».proof.Proof.BackRun.Runs
public import proofs.«01_k».proof.Proof.BackBias

@[expose] public section

-- membership in a rectangle of production extents (`View.cover_of_tiled`): the elaborator's structural look
-- recurses once per coordinate of the long axes
set_option maxRecDepth 16384

noncomputable section

namespace Cert.BackwardIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 1000000 in
/-- The body's triple IN CASE A (`scf.if` 0 taken: points 0, 1, … 73: 74 of 148): on whole staging memrefs — the inputs' at their contents,
    the FORGOTTEN outputs' (8, 9, 10, 11) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S4096x3584 .bf16) (harg2 : arg2.IsWhole) (arg3 : Memref sig .tc .vmem S3584x256 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S4096x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S3584x128 .f32) (harg9 : arg9.IsWhole) (arg10 : Memref sig .tc .vmem S8x18944 .f32) (harg10 : arg10.IsWhole) (arg11 : Memref sig .tc .vmem S8x18944 .f32) (harg11 : arg11.IsWhole) (arg12 : Memref sig .tc .vmem S8x18944 .f32) (harg12 : arg12.IsWhole) (arg13 : Memref sig .tc .vmem S8x18944 .f32) (harg13 : arg13.IsWhole) (hc0 : cond0_0 i)
    (x0 : Vec Ideal S4096x3584 .bf16) (x1 : Vec Ideal S3584x256 .bf16) (x2 : Vec Ideal S3584x256 .bf16) (x3 : Vec Ideal S3584x256 .bf16) (x4 : Vec Ideal S4096x256 .bf16) (x5 : Vec Ideal S1x256 .f32) (x6 : Vec Ideal S1x256 .f32) (x7 : Vec Ideal S3584x128 .f32) (y0 y1 y2 y3 : Vec Ideal S8x18944 .f32)
    (X G W : ℕ → ℕ → EReal) (R : ℕ) (h : Reads X G W R (i 1).val x0 x1 x4 x5 x6)
    (M : ℕ → ℕ → EReal) (hm : Reads X G M R (i 1).val x0 x2 x4 x5 x6)
    (Wt : ℕ → ℕ → EReal) (gb : ℕ → EReal) (hb : ReadsBias Wt gb (i 1).val x3 x7) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y0 ∗ owns (c : Thread nD τ) arg11 fullShare y1 ∗ owns (c : Thread nD τ) arg12 fullShare y2 ∗ owns (c : Thread nD τ) arg13 fullShare y3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, ⌜Adds (gxx X G W) R (i 1).val (zeroed (i 1).val y0) d⌝ ∗ owns (c : Thread nD τ) arg10 fullShare d) ∗ (∃ d, ⌜Adds (gxs X G W) R (i 1).val (zeroed (i 1).val y1) d⌝ ∗ owns (c : Thread nD τ) arg11 fullShare d) ∗ (∃ d, ⌜Adds (gxw X G M) R (i 1).val (zeroed (i 1).val y2) d⌝ ∗ owns (c : Thread nD τ) arg12 fullShare d) ∗ (∃ d, ⌜Puts (biasw Wt gb) (i 1).val y3 d⌝ ∗ owns (c : Thread nD τ) arg13 fullShare d)) -∗ K ⟨⟩))
          ⊢ wp frame (wpE (defs₀ (F := Ideal)) Variants.none c none) E (cc0_backward i arg2 harg2 arg3 harg3 arg4 harg4 arg5 harg5 arg6 harg6 arg7 harg7 arg8 harg8 arg9 harg9 arg10 harg10 arg11 harg11 arg12 harg12 arg13 harg13) K := by
    intro E K
    simp only [cc0_backward_eq_skeleton]; unfold cc0_backward_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap
      · iexists _; isplitr; swap; · iexact H8
        ipureintro; rfl
      ipureintro
      intro a q
      have hr : Reads X G W R (i 1).val (arg2.view.read (Elt Ideal) (harg2.unread x0)) (arg3.view.read (Elt Ideal) (harg3.unread x1))
          (arg6.view.read (Elt Ideal) (harg6.unread x4)) (arg7.view.read (Elt Ideal) (harg7.unread x5)) (arg8.view.read (Elt Ideal) (harg8.unread x6)) := by
        rw [harg2.read_unread, harg3.read_unread, harg6.read_unread, harg7.read_unread, harg8.read_unread]
        exact h
      refine (congrArg (fun z => View.read (Elt Ideal) _ z (ix2 a q)) (View.writes_append _ _ _ _)).trans ?_
      refine (trips_read10 (h := hr) (n := k0_t1_loop.trips) (hn := le_refl _) (a := a) (q := q) ..).trans ?_
      rw [trips_eq]
      rw [zero_read, hf8]
    isplitl [H9]
    · iexists _; isplitr; swap
      · iexists _; isplitr; swap; · iexact H9
        ipureintro; rfl
      ipureintro
      intro a q
      have hr : Reads X G W R (i 1).val (arg2.view.read (Elt Ideal) (harg2.unread x0)) (arg3.view.read (Elt Ideal) (harg3.unread x1))
          (arg6.view.read (Elt Ideal) (harg6.unread x4)) (arg7.view.read (Elt Ideal) (harg7.unread x5)) (arg8.view.read (Elt Ideal) (harg8.unread x6)) := by
        rw [harg2.read_unread, harg3.read_unread, harg6.read_unread, harg7.read_unread, harg8.read_unread]
        exact h
      refine (congrArg (fun z => View.read (Elt Ideal) _ z (ix2 a q)) (View.writes_append _ _ _ _)).trans ?_
      refine (trips_read11 (h := hr) (n := k0_t1_loop.trips) (hn := le_refl _) (a := a) (q := q) ..).trans ?_
      rw [trips_eq]
      rw [zero_read, hf9]
    isplitl [H10]
    · iexists _; isplitr; swap
      · iexists _; isplitr; swap; · iexact H10
        ipureintro; rfl
      ipureintro
      intro a q
      have hr : Reads X G M R (i 1).val (arg2.view.read (Elt Ideal) (harg2.unread x0)) (arg4.view.read (Elt Ideal) (harg4.unread x2))
          (arg6.view.read (Elt Ideal) (harg6.unread x4)) (arg7.view.read (Elt Ideal) (harg7.unread x5)) (arg8.view.read (Elt Ideal) (harg8.unread x6)) := by
        rw [harg2.read_unread, harg4.read_unread, harg6.read_unread, harg7.read_unread, harg8.read_unread]
        exact hm
      refine (congrArg (fun z => View.read (Elt Ideal) _ z (ix2 a q)) (View.writes_append _ _ _ _)).trans ?_
      refine (trips_read12 (hM := hr) (n := k0_t1_loop.trips) (hn := le_refl _) (a := a) (q := q) ..).trans ?_
      rw [trips_eq]
      rw [zero_read, hf10]
    iexists _; isplitr; swap
    · iexists _; isplitr; swap; · iexact H11
      ipureintro; rfl
    ipureintro
    have hr : ReadsBias Wt gb (i 1).val (arg5.view.read (Elt Ideal) (harg5.unread x3)) (arg9.view.read (Elt Ideal) (harg9.unread x7)) := by
      rw [harg5.read_unread, harg9.read_unread]
      exact hb
    rw [← hf11]
    refine put_read _ i f11 _ _ ?_
    unfold kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
    rw [pay1_eq, pay14_eq, pay12_eq, pay11_eq, pay9_eq, pay7_eq, pay6_eq]
    repeat refine upto_read hr _ (by omega) _ _ ?_
    exact upto_zero _

end Cert.BackwardIdeal.Gen

end
-- ==== Proof.BackRun.RunB.lean ====
/-
  One execution of the backward body at the points that add to what is there: it ends, its inputs as they were.
-/
module

public import proofs.«01_k».proof.Proof.BackRun.RunA

@[expose] public section

-- membership in a rectangle of production extents (`View.cover_of_tiled`): the elaborator's structural look
-- recurses once per coordinate of the long axes
set_option maxRecDepth 16384

noncomputable section

namespace Cert.BackwardIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 1000000 in
/-- The body's triple IN CASE B (`scf.if` 0 not taken: points 74, 75, … 147: 74 of 148): on whole staging memrefs — the inputs' at their contents,
    the FORGOTTEN outputs' (8, 9, 10, 11) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S4096x3584 .bf16) (harg2 : arg2.IsWhole) (arg3 : Memref sig .tc .vmem S3584x256 .bf16) (harg3 : arg3.IsWhole) (arg4 : Memref sig .tc .vmem S3584x256 .bf16) (harg4 : arg4.IsWhole) (arg5 : Memref sig .tc .vmem S3584x256 .bf16) (harg5 : arg5.IsWhole) (arg6 : Memref sig .tc .vmem S4096x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S3584x128 .f32) (harg9 : arg9.IsWhole) (arg10 : Memref sig .tc .vmem S8x18944 .f32) (harg10 : arg10.IsWhole) (arg11 : Memref sig .tc .vmem S8x18944 .f32) (harg11 : arg11.IsWhole) (arg12 : Memref sig .tc .vmem S8x18944 .f32) (harg12 : arg12.IsWhole) (arg13 : Memref sig .tc .vmem S8x18944 .f32) (harg13 : arg13.IsWhole) (hc0 : ¬cond0_0 i)
    (x0 : Vec Ideal S4096x3584 .bf16) (x1 : Vec Ideal S3584x256 .bf16) (x2 : Vec Ideal S3584x256 .bf16) (x3 : Vec Ideal S3584x256 .bf16) (x4 : Vec Ideal S4096x256 .bf16) (x5 : Vec Ideal S1x256 .f32) (x6 : Vec Ideal S1x256 .f32) (x7 : Vec Ideal S3584x128 .f32) (y0 y1 y2 y3 : Vec Ideal S8x18944 .f32)
    (X G W : ℕ → ℕ → EReal) (R : ℕ) (h : Reads X G W R (i 1).val x0 x1 x4 x5 x6)
    (M : ℕ → ℕ → EReal) (hm : Reads X G M R (i 1).val x0 x2 x4 x5 x6) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y0 ∗ owns (c : Thread nD τ) arg11 fullShare y1 ∗ owns (c : Thread nD τ) arg12 fullShare y2 ∗ owns (c : Thread nD τ) arg13 fullShare y3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, ⌜Adds (gxx X G W) R (i 1).val y0 d⌝ ∗ owns (c : Thread nD τ) arg10 fullShare d) ∗ (∃ d, ⌜Adds (gxs X G W) R (i 1).val y1 d⌝ ∗ owns (c : Thread nD τ) arg11 fullShare d) ∗ (∃ d, ⌜Adds (gxw X G M) R (i 1).val y2 d⌝ ∗ owns (c : Thread nD τ) arg12 fullShare d) ∗ owns (c : Thread nD τ) arg13 fullShare y3) -∗ K ⟨⟩))
          ⊢ wp frame (wpE (defs₀ (F := Ideal)) Variants.none c none) E (cc0_backward i arg2 harg2 arg3 harg3 arg4 harg4 arg5 harg5 arg6 harg6 arg7 harg7 arg8 harg8 arg9 harg9 arg10 harg10 arg11 harg11 arg12 harg12 arg13 harg13) K := by
    intro E K
    simp only [cc0_backward_eq_skeleton]; unfold cc0_backward_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap
      · iexists _; isplitr; swap; · iexact H8
        ipureintro; rfl
      ipureintro
      intro a q
      have hr : Reads X G W R (i 1).val (arg2.view.read (Elt Ideal) (harg2.unread x0)) (arg3.view.read (Elt Ideal) (harg3.unread x1))
          (arg6.view.read (Elt Ideal) (harg6.unread x4)) (arg7.view.read (Elt Ideal) (harg7.unread x5)) (arg8.view.read (Elt Ideal) (harg8.unread x6)) := by
        rw [harg2.read_unread, harg3.read_unread, harg6.read_unread, harg7.read_unread, harg8.read_unread]
        exact h
      refine (trips_read10 (h := hr) (n := k0_t1_loop.trips) (hn := le_refl _) (a := a) (q := q) ..).trans ?_
      rw [trips_eq]
      rw [hf8]
    isplitl [H9]
    · iexists _; isplitr; swap
      · iexists _; isplitr; swap; · iexact H9
        ipureintro; rfl
      ipureintro
      intro a q
      have hr : Reads X G W R (i 1).val (arg2.view.read (Elt Ideal) (harg2.unread x0)) (arg3.view.read (Elt Ideal) (harg3.unread x1))
          (arg6.view.read (Elt Ideal) (harg6.unread x4)) (arg7.view.read (Elt Ideal) (harg7.unread x5)) (arg8.view.read (Elt Ideal) (harg8.unread x6)) := by
        rw [harg2.read_unread, harg3.read_unread, harg6.read_unread, harg7.read_unread, harg8.read_unread]
        exact h
      refine (trips_read11 (h := hr) (n := k0_t1_loop.trips) (hn := le_refl _) (a := a) (q := q) ..).trans ?_
      rw [trips_eq]
      rw [hf9]
    isplitl [H10]
    · iexists _; isplitr; swap
      · iexists _; isplitr; swap; · iexact H10
        ipureintro; rfl
      ipureintro
      intro a q
      have hr : Reads X G M R (i 1).val (arg2.view.read (Elt Ideal) (harg2.unread x0)) (arg4.view.read (Elt Ideal) (harg4.unread x2))
          (arg6.view.read (Elt Ideal) (harg6.unread x4)) (arg7.view.read (Elt Ideal) (harg7.unread x5)) (arg8.view.read (Elt Ideal) (harg8.unread x6)) := by
        rw [harg2.read_unread, harg4.read_unread, harg6.read_unread, harg7.read_unread, harg8.read_unread]
        exact hm
      refine (trips_read12 (hM := hr) (n := k0_t1_loop.trips) (hn := le_refl _) (a := a) (q := q) ..).trans ?_
      rw [trips_eq]
      rw [hf10]
    iexists _; isplitr; swap; · iexact H11
    ipureintro; exact hf11

end Cert.BackwardIdeal.Gen

end
-- ==== Proof.BackRun.Blocks.lean ====
module
public import proofs.«01_k».proof.Proof.BackRun.RunB
public import Idealize.ShloMosaic.Lib.Claim

/-!
  The blocks the backward body reads at each point, as parts of the arguments.
-/

@[expose] public section

set_option maxRecDepth 16384

noncomputable section

namespace Cert.BackwardIdeal.Gen

open Idealize.ShloMosaic Idealize.ShloMosaic.TcCoe Idealize.ShloMosaic.Tactic
open Idealize.SL.Sem
open Idealize.ShloMosaic.Pipeline
open Cert.Spec

variable (m : (ℓ : Loc nD τ sig) → Buf (Elt Ideal) ℓ) (c : Dev nD)

/-- The normalised activations. -/
def bX : ℕ → ℕ → EReal :=
  norm (ext2 (n := 8192) (m := 18944) (V m c main_arg4)) (ext2 (n := 1) (m := 18944) (V m c main_v0))
    (ext2 (n := 1) (m := 18944) (V m c main_v1))

/-- The gradients of the output. -/
def bG : ℕ → ℕ → EReal := ext2 (n := 8192) (m := 3584) (V m c main_arg0)

/-- The dequantised weights. -/
def bW : ℕ → ℕ → EReal := ext2 (n := 3584) (m := 18944) (V m c main_arg1)

/-- The point's coordinates. -/
theorem coord1 (t : Fin cfg0.N) : ((grid0.coords t) 1).val = t.val % 74 :=
  (by decide +kernel : ∀ t : Fin grid0.N, ((grid0.coords t) 1).val = t.val % 74) t

theorem in0_at (t : Fin cfg0.N) (r : Fin 4096) (l : Fin 3584) : (iblk m c 0 t : Vec Ideal S4096x3584 .bf16) (ix2 r l)
    = ext2 (n := 8192) (m := 3584) (V m c main_arg0) (4096 * (t.val / 74) + r.val) (l.val) := by
  have e0 : win0_0.index t (0 : Fin 2) = t.val / 74 := (by decide +kernel : ∀ t : Fin grid0.N, win0_0.index t (0 : Fin 2) = t.val / 74) t
  have e1 : win0_0.index t (1 : Fin 2) = 0 := (by decide +kernel : ∀ t : Fin grid0.N, win0_0.index t (1 : Fin 2) = 0) t
  have ht : t.val < 148 := lt_of_lt_of_eq t.isLt N_0
  have hr : r.val < 4096 := r.isLt
  have hl : l.val < 3584 := l.isLt
  rw [ext2_of_lt _ (by omega) (by omega)]
  unfold iblk
  rw [View.read_apply]
  show V m c main_arg0 _ = V m c main_arg0 _
  congr 1
  funext a
  apply Fin.ext
  match a with
  | ⟨0, _⟩ => show win0_0.index t (0 : Fin 2) * 4096 + 1 * r.val = 4096 * (t.val / 74) + r.val; rw [e0]; omega
  | ⟨1, _⟩ => show win0_0.index t (1 : Fin 2) * 3584 + 1 * l.val = l.val; rw [e1]; omega

theorem in1_at (t : Fin cfg0.N) (r : Fin 3584) (l : Fin 256) : (iblk m c 1 t : Vec Ideal S3584x256 .bf16) (ix2 r l)
    = ext2 (n := 3584) (m := 18944) (V m c main_arg1) (r.val) (256 * (t.val % 74) + l.val) := by
  have e0 : win0_1.index t (0 : Fin 2) = 0 := (by decide +kernel : ∀ t : Fin grid0.N, win0_1.index t (0 : Fin 2) = 0) t
  have e1 : win0_1.index t (1 : Fin 2) = t.val % 74 := (by decide +kernel : ∀ t : Fin grid0.N, win0_1.index t (1 : Fin 2) = t.val % 74) t
  have ht : t.val < 148 := lt_of_lt_of_eq t.isLt N_0
  have hr : r.val < 3584 := r.isLt
  have hl : l.val < 256 := l.isLt
  rw [ext2_of_lt _ (by omega) (by omega)]
  unfold iblk
  rw [View.read_apply]
  show V m c main_arg1 _ = V m c main_arg1 _
  congr 1
  funext a
  apply Fin.ext
  match a with
  | ⟨0, _⟩ => show win0_1.index t (0 : Fin 2) * 3584 + 1 * r.val = r.val; rw [e0]; omega
  | ⟨1, _⟩ => show win0_1.index t (1 : Fin 2) * 256 + 1 * l.val = 256 * (t.val % 74) + l.val; rw [e1]; omega

theorem in2_at (t : Fin cfg0.N) (r : Fin 3584) (l : Fin 256) : (iblk m c 2 t : Vec Ideal S3584x256 .bf16) (ix2 r l)
    = ext2 (n := 3584) (m := 18944) (V m c main_arg2) (r.val) (256 * (t.val % 74) + l.val) := by
  have e0 : win0_2.index t (0 : Fin 2) = 0 := (by decide +kernel : ∀ t : Fin grid0.N, win0_2.index t (0 : Fin 2) = 0) t
  have e1 : win0_2.index t (1 : Fin 2) = t.val % 74 := (by decide +kernel : ∀ t : Fin grid0.N, win0_2.index t (1 : Fin 2) = t.val % 74) t
  have ht : t.val < 148 := lt_of_lt_of_eq t.isLt N_0
  have hr : r.val < 3584 := r.isLt
  have hl : l.val < 256 := l.isLt
  rw [ext2_of_lt _ (by omega) (by omega)]
  unfold iblk
  rw [View.read_apply]
  show V m c main_arg2 _ = V m c main_arg2 _
  congr 1
  funext a
  apply Fin.ext
  match a with
  | ⟨0, _⟩ => show win0_2.index t (0 : Fin 2) * 3584 + 1 * r.val = r.val; rw [e0]; omega
  | ⟨1, _⟩ => show win0_2.index t (1 : Fin 2) * 256 + 1 * l.val = 256 * (t.val % 74) + l.val; rw [e1]; omega

theorem in4_at (t : Fin cfg0.N) (r : Fin 4096) (l : Fin 256) : (iblk m c 4 t : Vec Ideal S4096x256 .bf16) (ix2 r l)
    = ext2 (n := 8192) (m := 18944) (V m c main_arg4) (4096 * (t.val / 74) + r.val) (256 * (t.val % 74) + l.val) := by
  have e0 : win0_4.index t (0 : Fin 2) = t.val / 74 := (by decide +kernel : ∀ t : Fin grid0.N, win0_4.index t (0 : Fin 2) = t.val / 74) t
  have e1 : win0_4.index t (1 : Fin 2) = t.val % 74 := (by decide +kernel : ∀ t : Fin grid0.N, win0_4.index t (1 : Fin 2) = t.val % 74) t
  have ht : t.val < 148 := lt_of_lt_of_eq t.isLt N_0
  have hr : r.val < 4096 := r.isLt
  have hl : l.val < 256 := l.isLt
  rw [ext2_of_lt _ (by omega) (by omega)]
  unfold iblk
  rw [View.read_apply]
  show V m c main_arg4 _ = V m c main_arg4 _
  congr 1
  funext a
  apply Fin.ext
  match a with
  | ⟨0, _⟩ => show win0_4.index t (0 : Fin 2) * 4096 + 1 * r.val = 4096 * (t.val / 74) + r.val; rw [e0]; omega
  | ⟨1, _⟩ => show win0_4.index t (1 : Fin 2) * 256 + 1 * l.val = 256 * (t.val % 74) + l.val; rw [e1]; omega

theorem in5_at (t : Fin cfg0.N) (r : Fin 1) (l : Fin 256) : (iblk m c 5 t : Vec Ideal S1x256 .f32) (ix2 r l)
    = ext2 (n := 1) (m := 18944) (V m c main_v0) (r.val) (256 * (t.val % 74) + l.val) := by
  have e0 : win0_5.index t (0 : Fin 2) = 0 := (by decide +kernel : ∀ t : Fin grid0.N, win0_5.index t (0 : Fin 2) = 0) t
  have e1 : win0_5.index t (1 : Fin 2) = t.val % 74 := (by decide +kernel : ∀ t : Fin grid0.N, win0_5.index t (1 : Fin 2) = t.val % 74) t
  have ht : t.val < 148 := lt_of_lt_of_eq t.isLt N_0
  have hr : r.val < 1 := r.isLt
  have hl : l.val < 256 := l.isLt
  rw [ext2_of_lt _ (by omega) (by omega)]
  unfold iblk
  rw [View.read_apply]
  show V m c main_v0 _ = V m c main_v0 _
  congr 1
  funext a
  apply Fin.ext
  match a with
  | ⟨0, _⟩ => show win0_5.index t (0 : Fin 2) * 1 + 1 * r.val = r.val; rw [e0]; omega
  | ⟨1, _⟩ => show win0_5.index t (1 : Fin 2) * 256 + 1 * l.val = 256 * (t.val % 74) + l.val; rw [e1]; omega

theorem in6_at (t : Fin cfg0.N) (r : Fin 1) (l : Fin 256) : (iblk m c 6 t : Vec Ideal S1x256 .f32) (ix2 r l)
    = ext2 (n := 1) (m := 18944) (V m c main_v1) (r.val) (256 * (t.val % 74) + l.val) := by
  have e0 : win0_6.index t (0 : Fin 2) = 0 := (by decide +kernel : ∀ t : Fin grid0.N, win0_6.index t (0 : Fin 2) = 0) t
  have e1 : win0_6.index t (1 : Fin 2) = t.val % 74 := (by decide +kernel : ∀ t : Fin grid0.N, win0_6.index t (1 : Fin 2) = t.val % 74) t
  have ht : t.val < 148 := lt_of_lt_of_eq t.isLt N_0
  have hr : r.val < 1 := r.isLt
  have hl : l.val < 256 := l.isLt
  rw [ext2_of_lt _ (by omega) (by omega)]
  unfold iblk
  rw [View.read_apply]
  show V m c main_v1 _ = V m c main_v1 _
  congr 1
  funext a
  apply Fin.ext
  match a with
  | ⟨0, _⟩ => show win0_6.index t (0 : Fin 2) * 1 + 1 * r.val = r.val; rw [e0]; omega
  | ⟨1, _⟩ => show win0_6.index t (1 : Fin 2) * 256 + 1 * l.val = 256 * (t.val % 74) + l.val; rw [e1]; omega

theorem in3_at (t : Fin cfg0.N) (h0 : t.val < 74) (r : Fin 3584) (l : Fin 256) : (iblk m c 3 t : Vec Ideal S3584x256 .bf16) (ix2 r l)
    = ext2 (n := 3584) (m := 18944) (V m c main_arg3) (r.val) (256 * (t.val % 74) + l.val) := by
  have e0 : win0_3.index t (0 : Fin 2) = 0 := (by decide +kernel : ∀ t : Fin grid0.N, win0_3.index t (0 : Fin 2) = 0) t
  have e1 : win0_3.index t (1 : Fin 2) = t.val % 74 := (by decide +kernel : ∀ t : Fin grid0.N, t.val < 74 → win0_3.index t (1 : Fin 2) = t.val % 74) t h0
  have ht : t.val < 148 := lt_of_lt_of_eq t.isLt N_0
  have hr : r.val < 3584 := r.isLt
  have hl : l.val < 256 := l.isLt
  rw [ext2_of_lt _ (by omega) (by omega)]
  unfold iblk
  rw [View.read_apply]
  show V m c main_arg3 _ = V m c main_arg3 _
  congr 1
  funext a
  apply Fin.ext
  match a with
  | ⟨0, _⟩ => show win0_3.index t (0 : Fin 2) * 3584 + 1 * r.val = r.val; rw [e0]; omega
  | ⟨1, _⟩ => show win0_3.index t (1 : Fin 2) * 256 + 1 * l.val = 256 * (t.val % 74) + l.val; rw [e1]; omega

/-- The bias gradients as the call finds them: the argument, repeated along the columns. -/
theorem V_v3 : V m c main_v3 = broadcastInDim S3584x128 ![0, 1] bcast_S3584x1_S3584x128_0_1
    (broadcastInDim S3584x1 ![0] bcast_S3584_S3584x1_0 (m ((c : Thread nD τ).loc main_arg7))) := by
  unfold_abbrev_sides
  after_results

/-- The gradients of the outputs' biases. -/
def bB : ℕ → EReal := fun o =>
  ext2 (n := 3584) (m := 1) (broadcastInDim S3584x1 ![0] bcast_S3584_S3584x1_0 (m ((c : Thread nD τ).loc main_arg7))) o 0

theorem in7_at (t : Fin cfg0.N) (r : Fin 3584) (l : Fin 128) : (iblk m c 7 t : Vec Ideal S3584x128 .f32) (ix2 r l) = bB m c r.val := by
  have e0 : win0_7.index t (0 : Fin 2) = 0 := (by decide +kernel : ∀ t : Fin grid0.N, win0_7.index t (0 : Fin 2) = 0) t
  have e1 : win0_7.index t (1 : Fin 2) = 0 := (by decide +kernel : ∀ t : Fin grid0.N, win0_7.index t (1 : Fin 2) = 0) t
  have e : (iblk m c 7 t : Vec Ideal S3584x128 .f32) (ix2 r l) = (V m c main_v3 : Vec Ideal S3584x128 .f32) (ix2 r l) := by
    unfold iblk
    rw [View.read_apply]
    show V m c main_v3 _ = V m c main_v3 _
    congr 1
    funext a
    apply Fin.ext
    match a with
    | ⟨0, _⟩ => show win0_7.index t (0 : Fin 2) * 3584 + 1 * r.val = r.val; rw [e0]; omega
    | ⟨1, _⟩ => show win0_7.index t (1 : Fin 2) * 128 + 1 * l.val = l.val; rw [e1]; omega
  rw [e, V_v3]
  unfold bB
  rw [ext2_of_lt _ r.isLt (by omega)]
  generalize broadcastInDim S3584x1 ![0] bcast_S3584_S3584x1_0 (m ((c : Thread nD τ).loc main_arg7)) = u
  refine congrArg u (funext fun a => ?_)
  match a with
  | ⟨0, _⟩ => rfl
  | ⟨1, _⟩ => rfl

/-- What a point reads. -/
theorem reads (t : Fin cfg0.N) : Reads (bX m c) (bG m c) (bW m c) (4096 * (t.val / 74)) ((grid0.coords t) 1).val
    (iblk m c 0 t) (iblk m c 1 t) (iblk m c 4 t) (iblk m c 5 t) (iblk m c 6 t) := by
  rw [coord1]
  constructor
  · intro r l
    rw [in4_at, in5_at, in6_at]
    rfl
  · intro r l
    refine Finset.sum_congr rfl fun o _ => ?_
    rw [in0_at, in1_at]
    rfl

/-- The weights, `0` where their quantisation clipped. -/
def bM : ℕ → ℕ → EReal := ext2 (n := 3584) (m := 18944) (V m c main_arg2)

/-- What a point reads for the third result. -/
theorem reads_weight (t : Fin cfg0.N) : Reads (bX m c) (bG m c) (bM m c) (4096 * (t.val / 74)) ((grid0.coords t) 1).val
    (iblk m c 0 t) (iblk m c 2 t) (iblk m c 4 t) (iblk m c 5 t) (iblk m c 6 t) := by
  refine ⟨(reads m c t).act, ?_⟩
  rw [coord1]
  intro r l
  refine Finset.sum_congr rfl fun o _ => ?_
  rw [in0_at, in2_at]
  rfl

/-- The weights, before their quantisation. -/
def bWt : ℕ → ℕ → EReal := ext2 (n := 3584) (m := 18944) (V m c main_arg3)

/-- What a point of the first half reads for the fourth result. -/
theorem reads_bias (t : Fin cfg0.N) (h0 : t.val < 74) : ReadsBias (bWt m c) (bB m c) ((grid0.coords t) 1).val (iblk m c 3 t) (iblk m c 7 t) := by
  rw [coord1]
  exact ⟨fun o l => in3_at m c t h0 o l, fun o l => in7_at m c t o l⟩

end Cert.BackwardIdeal.Gen

end
-- ==== Proof.BackRun.Frame.lean ====
/-
  The run of the backward call over the extended reals: the program ends, leaves its arguments as they were, and its
  first two results are what the points leave one after the other.
-/
module

public import proofs.«01_k».proof.Proof.BackRun.Blocks
public import Idealize.ShloMosaic.Lib.Claim

@[expose] public section

-- membership in a rectangle of production extents (`View.cover_of_tiled`): the elaborator's structural look
-- recurses once per coordinate of the long axes
set_option maxRecDepth 16384

noncomputable section

namespace Cert.BackwardIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What a point leaves in the first (`f` the gradient times the activation), the second and the third result: over the first half of
    the tokens its columns are zeroed before the sums are added. -/
def leftAt (f : ℕ → ℕ → EReal) (t : ℕ) (Y X : Vec Ideal S8x18944 .f32) : Prop :=
  Adds f (4096 * (t / 74)) (t % 74) (if t < 74 then zeroed (t % 74) Y else Y) X

/-- What a point leaves in the fourth result: over the first half of the tokens the sums in its columns, later what was there. -/
def biasAt (f : ℕ → ℕ → EReal) (t : ℕ) (Y X : Vec Ideal S8x18944 .f32) : Prop :=
  if t < 74 then Puts f (t % 74) Y X else X = Y

/-- The relations of the results: the first three as `leftAt` says, the fourth as `biasAt` says. -/
def ovr (c : Dev nD) : (w : Fin cfg0.W) → Option (Fin cfg0.N → (Y X : (cfg0.win w).block.Idx → Elt Ideal (cfg0.win w).elt) → Prop) := fun w =>
  match w with
  | ⟨8, _⟩ => some fun t Y X => leftAt (gxx (bX m c) (bG m c) (bW m c)) t.val Y X
  | ⟨9, _⟩ => some fun t Y X => leftAt (gxs (bX m c) (bG m c) (bW m c)) t.val Y X
  | ⟨10, _⟩ => some fun t Y X => leftAt (gxw (bX m c) (bG m c) (bM m c)) t.val Y X
  | ⟨11, _⟩ => some fun t Y X => biasAt (biasw (bWt m c) (bB m c)) t.val Y X
  | ⟨_, _⟩ => none

/-- The relational proof data. -/
def rdat (c : Dev nD) : RDat τ (Elt Ideal) Unit ℕ (UR sig nD τ) ℕ cfg0 c := (dats m 0 c).toR.override (ovr m c)

/-- An input is left at its block. -/
theorem left_in (c : Dev nD) (w : Fin cfg0.W) (h : ovr m c w = none) (t : Fin cfg0.N) (Y X) (hX : (dats m 0 c).Leaves w t X) :
    (rdat m c).after w t Y X := by
  unfold rdat
  rw [RDat.override_after_of_eq_none _ h]
  exact hX

/-! ## The body obligation, at a generic point -/

/-- What the body is called with at point `t`, -/
def bodyPre (c : Dev nD) (t : Fin cfg0.N) (Y : (w : Fin cfg0.W) → (cfg0.win w).block.Idx → Elt Ideal (cfg0.win w).elt) : sProp 𝕄 :=
  iprop((rdat m c).Φ t.castSucc ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8)
    ∗ owns (c : Thread nD τ) (ms0_9 t) fullShare (Y 9)
    ∗ owns (c : Thread nD τ) (ms0_10 t) fullShare (Y 10)
    ∗ owns (c : Thread nD τ) (ms0_11 t) fullShare (Y 11))

/-- and what it returns. -/
def bodyPost (c : Dev nD) (t : Fin cfg0.N) (Y : (w : Fin cfg0.W) → (cfg0.win w).block.Idx → Elt Ideal (cfg0.win w).elt) : sProp 𝕄 :=
  iprop((rdat m c).Φ t.succ ∗ (rdat m c).owesAt () t.succ
    ∗ (∃ X, ⌜(rdat m c).after 0 t (Y 0) X⌝ ∗ owns (c : Thread nD τ) (ms0_0 t) fullShare X)
    ∗ (∃ X, ⌜(rdat m c).after 1 t (Y 1) X⌝ ∗ owns (c : Thread nD τ) (ms0_1 t) fullShare X)
    ∗ (∃ X, ⌜(rdat m c).after 2 t (Y 2) X⌝ ∗ owns (c : Thread nD τ) (ms0_2 t) fullShare X)
    ∗ (∃ X, ⌜(rdat m c).after 3 t (Y 3) X⌝ ∗ owns (c : Thread nD τ) (ms0_3 t) fullShare X)
    ∗ (∃ X, ⌜(rdat m c).after 4 t (Y 4) X⌝ ∗ owns (c : Thread nD τ) (ms0_4 t) fullShare X)
    ∗ (∃ X, ⌜(rdat m c).after 5 t (Y 5) X⌝ ∗ owns (c : Thread nD τ) (ms0_5 t) fullShare X)
    ∗ (∃ X, ⌜(rdat m c).after 6 t (Y 6) X⌝ ∗ owns (c : Thread nD τ) (ms0_6 t) fullShare X)
    ∗ (∃ X, ⌜(rdat m c).after 7 t (Y 7) X⌝ ∗ owns (c : Thread nD τ) (ms0_7 t) fullShare X)
    ∗ (∃ X, ⌜(rdat m c).after 8 t (Y 8) X⌝ ∗ owns (c : Thread nD τ) (ms0_8 t) fullShare X)
    ∗ (∃ X, ⌜(rdat m c).after 9 t (Y 9) X⌝ ∗ owns (c : Thread nD τ) (ms0_9 t) fullShare X)
    ∗ (∃ X, ⌜(rdat m c).after 10 t (Y 10) X⌝ ∗ owns (c : Thread nD τ) (ms0_10 t) fullShare X)
    ∗ (∃ X, ⌜(rdat m c).after 11 t (Y 11) X⌝ ∗ owns (c : Thread nD τ) (ms0_11 t) fullShare X))

set_option maxHeartbeats 2400000 in
/-- The body at any point: the inputs' buffers hold their blocks, the first three results are left as `leftAt` says, the fourth as `biasAt`. -/
theorem sound_body (c : Dev nD) (t : Fin cfg0.N) (Y : (w : Fin cfg0.W) → (cfg0.win w).block.Idx → Elt Ideal (cfg0.win w).elt)
    (hY : ∀ w, (rdat m c).Finds w t (Y w)) :
    bodyPre m c t Y ⊢ wp frame (wpE (defs₀ (F := Ideal)) Variants.none c none) Set.univ (bodyAt0 t) (fun _ => bodyPost m c t Y) := by
  have hY0 : Y 0 = iblk m c 0 t := by
    obtain ⟨d, hd⟩ := (dats m 0 c).toR_finds 0 t _ (((dats m 0 c).toR.override_finds (ovr := ovr m c) rfl t _).mp (hY 0))
    rw [hd, before0_0]
  have hY1 : Y 1 = iblk m c 1 t := by
    obtain ⟨d, hd⟩ := (dats m 0 c).toR_finds 1 t _ (((dats m 0 c).toR.override_finds (ovr := ovr m c) rfl t _).mp (hY 1))
    rw [hd, before0_1]
  have hY2 : Y 2 = iblk m c 2 t := by
    obtain ⟨d, hd⟩ := (dats m 0 c).toR_finds 2 t _ (((dats m 0 c).toR.override_finds (ovr := ovr m c) rfl t _).mp (hY 2))
    rw [hd, before0_2]
  have hY3 : Y 3 = iblk m c 3 t := by
    obtain ⟨d, hd⟩ := (dats m 0 c).toR_finds 3 t _ (((dats m 0 c).toR.override_finds (ovr := ovr m c) rfl t _).mp (hY 3))
    rw [hd, before0_3]
  have hY4 : Y 4 = iblk m c 4 t := by
    obtain ⟨d, hd⟩ := (dats m 0 c).toR_finds 4 t _ (((dats m 0 c).toR.override_finds (ovr := ovr m c) rfl t _).mp (hY 4))
    rw [hd, before0_4]
  have hY5 : Y 5 = iblk m c 5 t := by
    obtain ⟨d, hd⟩ := (dats m 0 c).toR_finds 5 t _ (((dats m 0 c).toR.override_finds (ovr := ovr m c) rfl t _).mp (hY 5))
    rw [hd, before0_5]
  have hY6 : Y 6 = iblk m c 6 t := by
    obtain ⟨d, hd⟩ := (dats m 0 c).toR_finds 6 t _ (((dats m 0 c).toR.override_finds (ovr := ovr m c) rfl t _).mp (hY 6))
    rw [hd, before0_6]
  have hY7 : Y 7 = iblk m c 7 t := by
    obtain ⟨d, hd⟩ := (dats m 0 c).toR_finds 7 t _ (((dats m 0 c).toR.override_finds (ovr := ovr m c) rfl t _).mp (hY 7))
    rw [hd, before0_7]
  have hL0 : (rdat m c).after 0 t (Y 0) (iblk m c 0 t) := by
    refine left_in m c 0 rfl t _ _ ?_
    unfold Dat.Leaves
    rw [liveAt0_0 t]
    exact (after0_0 m c t).symm
  have hL1 : (rdat m c).after 1 t (Y 1) (iblk m c 1 t) := by
    refine left_in m c 1 rfl t _ _ ?_
    unfold Dat.Leaves
    rw [liveAt0_1 t]
    exact (after0_1 m c t).symm
  have hL2 : (rdat m c).after 2 t (Y 2) (iblk m c 2 t) := by
    refine left_in m c 2 rfl t _ _ ?_
    unfold Dat.Leaves
    rw [liveAt0_2 t]
    exact (after0_2 m c t).symm
  have hL3 : (rdat m c).after 3 t (Y 3) (iblk m c 3 t) := by
    refine left_in m c 3 rfl t _ _ ?_
    unfold Dat.Leaves
    rw [liveAt0_3 t]
    exact (after0_3 m c t).symm
  have hL4 : (rdat m c).after 4 t (Y 4) (iblk m c 4 t) := by
    refine left_in m c 4 rfl t _ _ ?_
    unfold Dat.Leaves
    rw [liveAt0_4 t]
    exact (after0_4 m c t).symm
  have hL5 : (rdat m c).after 5 t (Y 5) (iblk m c 5 t) := by
    refine left_in m c 5 rfl t _ _ ?_
    unfold Dat.Leaves
    rw [liveAt0_5 t]
    exact (after0_5 m c t).symm
  have hL6 : (rdat m c).after 6 t (Y 6) (iblk m c 6 t) := by
    refine left_in m c 6 rfl t _ _ ?_
    unfold Dat.Leaves
    rw [liveAt0_6 t]
    exact (after0_6 m c t).symm
  have hL7 : (rdat m c).after 7 t (Y 7) (iblk m c 7 t) := by
    refine left_in m c 7 rfl t _ _ ?_
    unfold Dat.Leaves
    rw [liveAt0_7 t]
    exact (after0_7 m c t).symm
  have hr := reads m c t
  have hm := reads_weight m c t
  have hj := coord1 t
  unfold bodyPre bodyPost bodyAt0
  rw [hY0, hY1, hY2, hY3, hY4, hY5, hY6, hY7] at *
  rw [show (rdat m c).Φ t.succ = (rdat m c).Φ t.castSucc from rfl,
    show (rdat m c).owesAt () t.succ = (rdat m c).owesAt () t.castSucc from rfl]
  have hN : t.val < 148 := lt_of_lt_of_eq t.isLt (show cfg0.N = 148 from N_0)
  by_cases h0 : t.val < 74
  · iintro ⟨HΦ, Ho, H0, H1, H2, H3, H4, H5, H6, H7, H8, H9, H10, H11⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (Y 8) (Y 9) (Y 10) (Y 11) (bX m c) (bG m c) (bW m c) (4096 * (t.val / 74)) hr (bM m c) hm (bWt m c) (bB m c) (reads_bias m c t h0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, ⟨%d8, %e8, H8⟩, ⟨%d9, %e9, H9⟩, ⟨%d10, %e10, H10⟩, ⟨%d11, %e11, H11⟩⟩
    isplitl [HΦ]; · iexact HΦ
    isplitl [Ho]; · iexact Ho
    isplitl [H0]
    · iexists _; isplitr; swap; · iexact H0
      ipureintro
      exact hL0
    isplitl [H1]
    · iexists _; isplitr; swap; · iexact H1
      ipureintro
      exact hL1
    isplitl [H2]
    · iexists _; isplitr; swap; · iexact H2
      ipureintro
      exact hL2
    isplitl [H3]
    · iexists _; isplitr; swap; · iexact H3
      ipureintro
      exact hL3
    isplitl [H4]
    · iexists _; isplitr; swap; · iexact H4
      ipureintro
      exact hL4
    isplitl [H5]
    · iexists _; isplitr; swap; · iexact H5
      ipureintro
      exact hL5
    isplitl [H6]
    · iexists _; isplitr; swap; · iexact H6
      ipureintro
      exact hL6
    isplitl [H7]
    · iexists _; isplitr; swap; · iexact H7
      ipureintro
      exact hL7
    isplitl [H8]
    · iexists _; isplitr; swap; · iexact H8
      ipureintro
      show leftAt _ t.val _ _
      unfold leftAt
      rw [if_pos h0, ← hj]
      exact e8
    isplitl [H9]
    · iexists _; isplitr; swap; · iexact H9
      ipureintro
      show leftAt _ t.val _ _
      unfold leftAt
      rw [if_pos h0, ← hj]
      exact e9
    isplitl [H10]
    · iexists _; isplitr; swap; · iexact H10
      ipureintro
      show leftAt _ t.val _ _
      unfold leftAt
      rw [if_pos h0, ← hj]
      exact e10
    iexists _; isplitr; swap; · iexact H11
    ipureintro
    show biasAt _ t.val _ _
    unfold biasAt
    rw [if_pos h0, ← hj]
    exact e11
  · iintro ⟨HΦ, Ho, H0, H1, H2, H3, H4, H5, H6, H7, H8, H9, H10, H11⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (Y 8) (Y 9) (Y 10) (Y 11) (bX m c) (bG m c) (bW m c) (4096 * (t.val / 74)) hr (bM m c) hm) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, ⟨%d8, %e8, H8⟩, ⟨%d9, %e9, H9⟩, ⟨%d10, %e10, H10⟩, H11⟩
    isplitl [HΦ]; · iexact HΦ
    isplitl [Ho]; · iexact Ho
    isplitl [H0]
    · iexists _; isplitr; swap; · iexact H0
      ipureintro
      exact hL0
    isplitl [H1]
    · iexists _; isplitr; swap; · iexact H1
      ipureintro
      exact hL1
    isplitl [H2]
    · iexists _; isplitr; swap; · iexact H2
      ipureintro
      exact hL2
    isplitl [H3]
    · iexists _; isplitr; swap; · iexact H3
      ipureintro
      exact hL3
    isplitl [H4]
    · iexists _; isplitr; swap; · iexact H4
      ipureintro
      exact hL4
    isplitl [H5]
    · iexists _; isplitr; swap; · iexact H5
      ipureintro
      exact hL5
    isplitl [H6]
    · iexists _; isplitr; swap; · iexact H6
      ipureintro
      exact hL6
    isplitl [H7]
    · iexists _; isplitr; swap; · iexact H7
      ipureintro
      exact hL7
    isplitl [H8]
    · iexists _; isplitr; swap; · iexact H8
      ipureintro
      show leftAt _ t.val _ _
      unfold leftAt
      rw [if_neg h0, ← hj]
      exact e8
    isplitl [H9]
    · iexists _; isplitr; swap; · iexact H9
      ipureintro
      show leftAt _ t.val _ _
      unfold leftAt
      rw [if_neg h0, ← hj]
      exact e9
    isplitl [H10]
    · iexists _; isplitr; swap; · iexact H10
      ipureintro
      show leftAt _ t.val _ _
      unfold leftAt
      rw [if_neg h0, ← hj]
      exact e10
    iexists _; isplitr; swap; · iexact H11
    ipureintro
    show biasAt _ t.val _ _
    unfold biasAt
    rw [if_neg h0]

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : (rdat m c).BodyObligation (defs₀ (F := Ideal)) Variants.none () Set.univ := fun t Y hY => by
  rw [bigSep_W0, bigSep_W0, defs₀_row]
  exact triple_restated (sound_body m c t Y hY) rfl .rfl fun _ => .rfl

/-! ## The run and the frame -/

-- the implicit arguments are found by unifying the conclusion with this one, which takes unfolding plain definitions in a
-- metavariable's type
set_option backward.isDefEq.respectTransparency.types false in
/-- The run: what every final state has in its arrays, and every semaphore counter at zero. -/
theorem run_main_quiescent : θ_run defs (onTc (τ := τ) (main (F := Ideal))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := body_obligation m) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := Ideal))) (s₀ m ρ) (Pipeline.RDat.FramePost (cfgs 0) (rdat m) (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_ofR m ρ (rdat m) (A_eq m) (run_main m ρ)

/-- The program ends and leaves its arguments as they were, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.BackwardIdeal.Gen

end
-- ==== Proof.BackRun.Total.lean ====
module
public import proofs.«01_k».proof.Proof.BackRun.Frame
public import Idealize.ShloMosaic.Lib.Pipeline.ArrRel

/-!
  What the results of the backward call hold at the end: for each column and each of the eight rows, the sum
  over the tokens of that row's residue modulo eight.
-/

@[expose] public section

set_option maxRecDepth 16384

noncomputable section

namespace Cert.BackwardIdeal.Gen

open Idealize.ShloMosaic Idealize.ShloMosaic.TcCoe Idealize.ShloMosaic.Tactic
open Idealize.SL.Sem
open Idealize.ShloMosaic.Pipeline
open Cert.Spec

/-- What a result holds after point `n`: in the blocks of columns seen in this pass over the columns, the sums of all the tokens seen;
in the others, those of the passes before. -/
def Holds (f : ℕ → ℕ → EReal) (n : ℕ) (X : Vec Ideal S8x18944 .f32) : Prop :=
  ∀ (a : Fin 8) (q : Fin 18944),
    (n < 74 → q.val / 256 ≤ n → X (ix2 a q) = half f 0 a.val q.val)
    ∧ (74 ≤ n → q.val / 256 ≤ n - 74 → X (ix2 a q) = half f 0 a.val q.val + half f 1 a.val q.val)
    ∧ (74 ≤ n → n - 74 < q.val / 256 → X (ix2 a q) = half f 0 a.val q.val)

/-- One point keeps the description. -/
theorem holds_step (f : ℕ → ℕ → EReal) (n : ℕ) (hn : n < 148) (Y X : Vec Ideal S8x18944 .f32) (hY : n ≠ 0 → Holds f (n - 1) Y)
    (hX : leftAt f n Y X) : Holds f n X := by
  intro a q
  have hq : q.val / 256 < 74 := by have := q.isLt; omega
  have e := hX a q
  by_cases h0 : n < 74
  · rw [if_pos h0, show n % 74 = n by omega, show n / 74 = 0 by omega] at e
    refine ⟨fun _ hle => ?_, fun h => by omega, fun h => by omega⟩
    have ez : zeroed n Y (ix2 a q) = if q.val / 256 = n then 0 else Y (ix2 a q) := rfl
    rw [ez] at e
    by_cases hj : q.val / 256 = n
    · rw [if_pos hj, if_pos hj, zero_add] at e
      exact e
    · rw [if_neg hj, if_neg hj] at e
      rw [e]
      exact (hY (by omega) a q).1 (by omega) (by omega)
  · rw [if_neg h0, show n % 74 = n - 74 by omega, show n / 74 = 1 by omega] at e
    have hp := hY (by omega) a q
    by_cases hj : q.val / 256 = n - 74
    · rw [if_pos hj] at e
      refine ⟨fun h => by omega, fun _ _ => ?_, fun _ h => by omega⟩
      rw [e]
      refine congrArg (fun p : EReal => p + half f 1 a.val q.val) ?_
      by_cases h1 : n = 74
      · exact hp.1 (by omega) (by omega)
      · exact hp.2.2 (by omega) (by omega)
    · rw [if_neg hj] at e
      refine ⟨fun h => by omega, fun _ hle => ?_, fun _ hlt => ?_⟩
      · rw [e]
        exact hp.2.1 (by omega) (by omega)
      · rw [e]
        by_cases h1 : n = 74
        · exact hp.1 (by omega) (by omega)
        · exact hp.2.2 (by omega) (by omega)

variable (m : (ℓ : Loc nD τ sig) → Buf (Elt Ideal) ℓ) (c : Dev nD)

/-- What the first result's buffer holds after point `n`. -/
theorem leaves8 (n : ℕ) (hn : n < cfg0.N) (X : Vec Ideal S8x18944 .f32) (hX : (rdat m c).Leaves 8 ⟨n, hn⟩ X) : Holds (gxx (bX m c) (bG m c) (bW m c)) n X := by
  induction n generalizing X with
  | zero =>
    obtain ⟨Y, -, hA⟩ := hX
    exact holds_step _ 0 (by omega) Y X (fun h => absurd rfl h) hA
  | succ n ih =>
    have hN : n + 1 < 148 := lt_of_lt_of_eq hn N_0
    obtain ⟨Y, hF, hA⟩ := hX
    refine holds_step _ (n + 1) hN Y X (fun _ => ?_) hA
    have hfe : (cfg0.win 8).fetch ⟨n + 1, hn⟩ = false := (by decide +kernel : ∀ t : Fin cfg0.N, (cfg0.win 8).fetch t = false) ⟨n + 1, hn⟩
    rcases ((rdat m c).finds_of_pos hfe (Nat.succ_ne_zero n) Y).mp hF with h | h
    · have := (flush0_8 _).mp h
      dsimp only at this
      omega
    · exact ih (Nat.lt_of_succ_lt hn) Y h

/-- The first result. -/
theorem result8 (G : Vec Ideal S8x18944 .f32) (hG : (rdat m c).ArrAt 8 cfg0.N G) (a : Fin 8) (q : Fin 18944) :
    G (ix2 a q) = rows (gxx (bX m c) (bG m c) (bW m c)) a.val q.val := by
  have hN : 147 < cfg0.N := lt_of_lt_of_eq (by omega) N_0.symm
  have hw : (cfg0.win 8).WholeAt ⟨147, hN⟩ := (by decide +kernel : ∀ t : Fin cfg0.N, t.val = 147 → (cfg0.win 8).WholeAt t) ⟨147, hN⟩ rfl
  obtain ⟨X, hX, hE⟩ := RDat.ArrAt.emb_eq_of_wholeAt (rd := rdat m c) hG hw
  have hH := leaves8 m c 147 hN X hX a q
  have hq : q.val / 256 < 74 := by have := q.isLt; omega
  rw [← half_add, ← hH.2.1 (by omega) (by omega)]
  exact hE (ix2 a q)

/-- What the second result's buffer holds after point `n`. -/
theorem leaves9 (n : ℕ) (hn : n < cfg0.N) (X : Vec Ideal S8x18944 .f32) (hX : (rdat m c).Leaves 9 ⟨n, hn⟩ X) : Holds (gxs (bX m c) (bG m c) (bW m c)) n X := by
  induction n generalizing X with
  | zero =>
    obtain ⟨Y, -, hA⟩ := hX
    exact holds_step _ 0 (by omega) Y X (fun h => absurd rfl h) hA
  | succ n ih =>
    have hN : n + 1 < 148 := lt_of_lt_of_eq hn N_0
    obtain ⟨Y, hF, hA⟩ := hX
    refine holds_step _ (n + 1) hN Y X (fun _ => ?_) hA
    have hfe : (cfg0.win 9).fetch ⟨n + 1, hn⟩ = false := (by decide +kernel : ∀ t : Fin cfg0.N, (cfg0.win 9).fetch t = false) ⟨n + 1, hn⟩
    rcases ((rdat m c).finds_of_pos hfe (Nat.succ_ne_zero n) Y).mp hF with h | h
    · have := (flush0_9 _).mp h
      dsimp only at this
      omega
    · exact ih (Nat.lt_of_succ_lt hn) Y h

/-- The second result. -/
theorem result9 (G : Vec Ideal S8x18944 .f32) (hG : (rdat m c).ArrAt 9 cfg0.N G) (a : Fin 8) (q : Fin 18944) :
    G (ix2 a q) = rows (gxs (bX m c) (bG m c) (bW m c)) a.val q.val := by
  have hN : 147 < cfg0.N := lt_of_lt_of_eq (by omega) N_0.symm
  have hw : (cfg0.win 9).WholeAt ⟨147, hN⟩ := (by decide +kernel : ∀ t : Fin cfg0.N, t.val = 147 → (cfg0.win 9).WholeAt t) ⟨147, hN⟩ rfl
  obtain ⟨X, hX, hE⟩ := RDat.ArrAt.emb_eq_of_wholeAt (rd := rdat m c) hG hw
  have hH := leaves9 m c 147 hN X hX a q
  have hq : q.val / 256 < 74 := by have := q.isLt; omega
  rw [← half_add, ← hH.2.1 (by omega) (by omega)]
  exact hE (ix2 a q)

/-- What the third result's buffer holds after point `n`. -/
theorem leaves10 (n : ℕ) (hn : n < cfg0.N) (X : Vec Ideal S8x18944 .f32) (hX : (rdat m c).Leaves 10 ⟨n, hn⟩ X) : Holds (gxw (bX m c) (bG m c) (bM m c)) n X := by
  induction n generalizing X with
  | zero =>
    obtain ⟨Y, -, hA⟩ := hX
    exact holds_step _ 0 (by omega) Y X (fun h => absurd rfl h) hA
  | succ n ih =>
    have hN : n + 1 < 148 := lt_of_lt_of_eq hn N_0
    obtain ⟨Y, hF, hA⟩ := hX
    refine holds_step _ (n + 1) hN Y X (fun _ => ?_) hA
    have hfe : (cfg0.win 10).fetch ⟨n + 1, hn⟩ = false := (by decide +kernel : ∀ t : Fin cfg0.N, (cfg0.win 10).fetch t = false) ⟨n + 1, hn⟩
    rcases ((rdat m c).finds_of_pos hfe (Nat.succ_ne_zero n) Y).mp hF with h | h
    · have := (flush0_10 _).mp h
      dsimp only at this
      omega
    · exact ih (Nat.lt_of_succ_lt hn) Y h

/-- The third result. -/
theorem result10 (G : Vec Ideal S8x18944 .f32) (hG : (rdat m c).ArrAt 10 cfg0.N G) (a : Fin 8) (q : Fin 18944) :
    G (ix2 a q) = rows (gxw (bX m c) (bG m c) (bM m c)) a.val q.val := by
  have hN : 147 < cfg0.N := lt_of_lt_of_eq (by omega) N_0.symm
  have hw : (cfg0.win 10).WholeAt ⟨147, hN⟩ := (by decide +kernel : ∀ t : Fin cfg0.N, t.val = 147 → (cfg0.win 10).WholeAt t) ⟨147, hN⟩ rfl
  obtain ⟨X, hX, hE⟩ := RDat.ArrAt.emb_eq_of_wholeAt (rd := rdat m c) hG hw
  have hH := leaves10 m c 147 hN X hX a q
  have hq : q.val / 256 < 74 := by have := q.isLt; omega
  rw [← half_add, ← hH.2.1 (by omega) (by omega)]
  exact hE (ix2 a q)

/-- What the fourth result holds after point `n`: the sums, in the blocks of columns seen. -/
def HoldsBias (f : ℕ → ℕ → EReal) (n : ℕ) (X : Vec Ideal S8x18944 .f32) : Prop :=
  ∀ (a : Fin 8) (q : Fin 18944), q.val / 256 ≤ n → X (ix2 a q) = wrows f a.val q.val

/-- One point keeps the description. -/
theorem holds_bias_step (f : ℕ → ℕ → EReal) (n : ℕ) (Y X : Vec Ideal S8x18944 .f32) (hY : n ≠ 0 → HoldsBias f (n - 1) Y)
    (hX : biasAt f n Y X) : HoldsBias f n X := by
  intro a q hle
  have hq : q.val / 256 < 74 := by have := q.isLt; omega
  unfold biasAt at hX
  by_cases h0 : n < 74
  · rw [if_pos h0] at hX
    have e := hX a q
    rw [show n % 74 = n by omega] at e
    by_cases hj : q.val / 256 = n
    · rw [if_pos hj] at e
      exact e
    · rw [if_neg hj] at e
      rw [e]
      exact hY (by omega) a q (by omega)
  · rw [if_neg h0] at hX
    rw [hX]
    exact hY (by omega) a q (by omega)

/-- What the fourth result's buffer holds after point `n`. -/
theorem leaves11 (n : ℕ) (hn : n < cfg0.N) (X : Vec Ideal S8x18944 .f32) (hX : (rdat m c).Leaves 11 ⟨n, hn⟩ X) :
    HoldsBias (biasw (bWt m c) (bB m c)) n X := by
  induction n generalizing X with
  | zero =>
    obtain ⟨Y, -, hA⟩ := hX
    exact holds_bias_step _ 0 Y X (fun h => absurd rfl h) hA
  | succ n ih =>
    have hN : n + 1 < 148 := lt_of_lt_of_eq hn N_0
    obtain ⟨Y, hF, hA⟩ := hX
    refine holds_bias_step _ (n + 1) Y X (fun _ => ?_) hA
    have hfe : (cfg0.win 11).fetch ⟨n + 1, hn⟩ = false := (by decide +kernel : ∀ t : Fin cfg0.N, (cfg0.win 11).fetch t = false) ⟨n + 1, hn⟩
    rcases ((rdat m c).finds_of_pos hfe (Nat.succ_ne_zero n) Y).mp hF with h | h
    · have := (flush0_11 _).mp h
      dsimp only at this
      omega
    · exact ih (Nat.lt_of_succ_lt hn) Y h

/-- The fourth result. -/
theorem result11 (G : Vec Ideal S8x18944 .f32) (hG : (rdat m c).ArrAt 11 cfg0.N G) (a : Fin 8) (q : Fin 18944) :
    G (ix2 a q) = wrows (biasw (bWt m c) (bB m c)) a.val q.val := by
  have hN : 147 < cfg0.N := lt_of_lt_of_eq (by omega) N_0.symm
  have hw : (cfg0.win 11).WholeAt ⟨147, hN⟩ := (by decide +kernel : ∀ t : Fin cfg0.N, t.val = 147 → (cfg0.win 11).WholeAt t) ⟨147, hN⟩ rfl
  obtain ⟨X, hX, hE⟩ := RDat.ArrAt.emb_eq_of_wholeAt (rd := rdat m c) hG hw
  have hH := leaves11 m c 147 hN X hX a q
  have hq : q.val / 256 < 74 := by have := q.isLt; omega
  rw [← hH (by omega)]
  exact hE (ix2 a q)

end Cert.BackwardIdeal.Gen

end
-- ==== Proof.RefBack.lean ====
module
public import proofs.«01_k».proof.Proof.Gen.BackwardReferenceIdeal.Value
public import Idealize.ShloMosaic.Lib.Pipeline.ValueKit.Geometry
public import Idealize.ShloMosaic.Lib.Pipeline.ValueKit.Acc
public import proofs.«01_k».proof.Proof.BackSpec
public import Idealize.ShloMosaic.Lib.Pipeline.Value
public import Idealize.ShloMosaic.Lib.Pointwise.Tactic
public import Idealize.ShloMosaic.Lib.Pointwise.Reshape
public import Idealize.ShloMosaic.Lib.Pointwise.Reduce
public import Idealize.ShloMosaic.Lib.Pointwise.ShapeOps
public import Idealize.ShloMosaic.Lib.Pointwise.Contract

/-!
  What the four results of the backward call's reference are at an index.  Its call has one grid point, whose blocks are
  the whole arrays.
-/

@[expose] public section

set_option maxRecDepth 16384

noncomputable section

namespace Cert.BackwardReferenceIdeal.Gen

open Idealize.ShloMosaic Idealize.ShloMosaic.TcCoe Idealize.ShloMosaic.Tactic
open Idealize.SL.Sem
open Idealize.ShloMosaic.Pipeline
open Cert.Spec Cert.BackwardReferenceIdeal.Value

/-! ## The body's values -/

/-- The largest magnitude of a group. -/
theorem max_at (v : FVec Ideal S8192x148x128 .f32) (h1 h2) (t : Fin 8192) (g : Fin 148) :
    multiReduction .maximumf [2] S8192x148 (absf v) 0xFF800000#32 reduces_S8192x148x128_S8192x148 h1 h2 (ix2 t g)
      = (Finset.univ : Finset (Fin 128)).fold max (Ideal.ofBits .f32 0xFF800000#32)
          (fun l => max (v (ix3 t g l)) (-v (ix3 t g l))) := by
  pointwise
  rfl

/-- The choice of the scale from the largest magnitude. -/
theorem select_at (a : FVec Ideal S8192x148 .f32) (i : S8192x148.Idx) :
    select (cmpf .oeq a (broadcast S8192x148 (Scalar.ofBits (F := Ideal) .f32 0x00000000#32)))
      (broadcast S8192x148 (Scalar.ofBits (F := Ideal) .f32 0x3F800000#32))
      (divf (mulf (broadcast S8192x148 (Scalar.ofBits (F := Ideal) .f32 0x3F333333#32)) a)
        (broadcast S8192x148 (Scalar.ofBits (F := Ideal) .f32 0x42FE0000#32))) i
    = Scalar.select (Ideal.cmp .oeq (a i) 0) 1
        (Ideal.div (Ideal.ofBits .f32 0x3F333333#32 * a i) (Ideal.ofBits .f32 0x42FE0000#32)) := by
  pointwise
  rfl

/-- A grouped array divided by its groups' scales. -/
theorem quot_at (v : FVec Ideal S8192x148x128 .f32) (a : FVec Ideal S8192x148 .f32) (t : Fin 8192) (g : Fin 148) (l : Fin 128) :
    divf v (broadcastTo S8192x148x128 (shapeCast S8192x148x1 a shapeCasts_S8192x148_S8192x148x1)
        broadcasts_S8192x148x1_S8192x148x128) (ix3 t g l) = Ideal.div (v (ix3 t g l)) (a (ix2 t g)) := by
  pointwise

/-- Whether an activation is not clipped, by groups. -/
theorem mask_at (q : FVec Ideal S8192x148x128 .f32) (t : Fin 8192) (g : Fin 148) (l : Fin 128) :
    cmpf .ole (absf q) (broadcast S8192x148x128 (Scalar.ofBits (F := Ideal) .f32 0x42FE0000#32)) (ix3 t g l)
    = Ideal.cmp .ole (max (q (ix3 t g l)) (-q (ix3 t g l))) (Ideal.ofBits .f32 0x42FE0000#32) := by
  pointwise
  rfl

/-- The code of a quotient. -/
theorem code_at (q : FVec Ideal S8192x148x128 .f32) (t : Fin 8192) (g : Fin 148) (l : Fin 128) :
    fptosi 8 (minimumf (broadcast S8192x148x128 (Scalar.ofBits (F := Ideal) .f32 0x42FE0000#32))
      (maximumf (broadcast S8192x148x128 (Scalar.ofBits (F := Ideal) .f32 0xC2FE0000#32)) (roundeven q))) (ix3 t g l)
    = Ideal.fptosi 8 (min (Ideal.ofBits .f32 0x42FE0000#32) (max (Ideal.ofBits .f32 0xC2FE0000#32)
        (Ideal.liftRound Ideal.roundHalfEven (q (ix3 t g l))))) := by
  pointwise
  rfl

/-- A code times its group's scale. -/
theorem dq_at (q : IVec S8192x148x128 8) (a : FVec Ideal S8192x148 .f32) (t : Fin 8192) (g : Fin 148) (l : Fin 128) :
    mulf (sitofp (F := Ideal) .bf16 q) (broadcastTo S8192x148x128
      (shapeCast S8192x148x1 (truncf .bf16 a bitsLt_bf16_f32) shapeCasts_S8192x148_S8192x148x1)
        broadcasts_S8192x148x1_S8192x148x128) (ix3 t g l)
    = (((q (ix3 t g l)).toInt : ℝ) : EReal) * a (ix2 t g) := by
  pointwise
  rfl

/-- A grouped array laid out by residues of its rows modulo eight. -/
theorem eighth_at (v : FVec Ideal S8192x148x128 .bf16) (b : Fin 1024) (a : Fin 8) (j : Fin 18944) :
    shapeCast S1024x8x18944 v shapeCasts_S8192x148x128_S1024x8x18944 (ix3 b a j)
      = v (ix3 ⟨b.val * 8 + a.val, by have := a.isLt; have := b.isLt; omega⟩ ⟨j.val / 128, by have := j.isLt; omega⟩
          ⟨j.val % 128, Nat.mod_lt _ (by omega)⟩) := by
  pointwise

/-- The gradients laid out by residues of their rows modulo eight. -/
theorem eighthG_at (v : FVec Ideal S8192x3584 .bf16) (b : Fin 1024) (a : Fin 8) (o : Fin 3584) :
    shapeCast S1024x8x3584 v shapeCasts_S8192x3584_S1024x8x3584 (ix3 b a o)
      = v (ix2 ⟨b.val * 8 + a.val, by have := a.isLt; have := b.isLt; omega⟩ o) := by
  pointwise

/-- The product over the tokens of one residue. -/
theorem mm3_at (u : FVec Ideal S1024x8x3584 .bf16) (v : FVec Ideal S1024x8x18944 .bf16) (a : Fin 8) (o : Fin 3584) (j : Fin 18944) :
    matmul (F := Ideal) dot_S1024x8x3584_S1024x8x18944_S8x3584x18944_0_0_2_2_1_1 none u v (constant S8x3584x18944 .f32 0x00000000#32) (ix3 a o j)
      = ∑ b : Fin 1024, u (ix3 b a o) * v (ix3 b a j) := by
  pointwise

/-- The sum over the outputs of an array times the mask. -/
theorem masked_at (M : FVec Ideal S8x3584x18944 .f32) (w : FVec Ideal S3584x18944 .bf16) (h1 h2) (a : Fin 8) (j : Fin 18944) :
    multiReduction .add [1] S8x18944 (mulf M (broadcastTo S8x3584x18944
        (shapeCast S1x3584x18944 (extf .f32 w bitsLt_bf16_f32) shapeCasts_S3584x18944_S1x3584x18944)
        broadcasts_S1x3584x18944_S8x3584x18944)) 0x00000000#32 reduces_S8x3584x18944_S8x18944 h1 h2 (ix2 a j)
      = ∑ o : Fin 3584, M (ix3 a o j) * w (ix2 o j) := by
  pointwise

/-- A grouped array laid out flat. -/
theorem flat_at (v : IVec S8192x148x128 1) (t : Fin 8192) (j : Fin 18944) :
    shapeCast S8192x18944 v shapeCasts_S8192x148x128_S8192x18944 (ix2 t j)
      = v (ix3 t ⟨j.val / 128, by have := j.isLt; omega⟩ ⟨j.val % 128, Nat.mod_lt _ (by omega)⟩) := by
  pointwise

/-- A flat array laid out by groups. -/
theorem group_at (v : FVec Ideal S8192x18944 .f32) (t : Fin 8192) (g : Fin 148) (l : Fin 128) :
    shapeCast S8192x148x128 v shapeCasts_S8192x18944_S8192x148x128 (ix3 t g l)
      = v (ix2 t ⟨g.val * 128 + l.val, by have := g.isLt; have := l.isLt; omega⟩) := by
  pointwise

/-- A pointwise product. -/
theorem mul_at (u v : FVec Ideal S8192x18944 .f32) (i : S8192x18944.Idx) : mulf u v i = u i * v i := by
  pointwise

/-- The product. -/
theorem mm_at (g : FVec Ideal S8192x3584 .bf16) (w : FVec Ideal S3584x18944 .bf16) (t : Fin 8192) (j : Fin 18944) :
    matmul (F := Ideal) dot_S8192x3584_S3584x18944_S8192x18944_1_0_0_1_n_n none g w (constant S8192x18944 .f32 0x00000000#32) (ix2 t j)
      = ∑ o : Fin 3584, g (ix2 t o) * w (ix2 o j) := by
  pointwise

/-- The sum over every eighth row. -/
theorem rows_at (v : FVec Ideal S8192x18944 .f32) (h1 h2) (a : Fin 8) (j : Fin 18944) :
    multiReduction .add [0] S8x18944 (shapeCast S1024x8x18944 v shapeCasts_S8192x18944_S1024x8x18944) 0x00000000#32
        reduces_S1024x8x18944_S8x18944 h1 h2 (ix2 a j)
      = ∑ b : Fin 1024, v (ix2 ⟨8 * b.val + a.val, by have := a.isLt; have := b.isLt; omega⟩ j) := by
  pointwise
  exact Finset.sum_congr rfl fun b _ => congrArg (fun n => v (ix2 n j)) (Fin.ext (by show b.val * 8 + a.val = 8 * b.val + a.val; omega))

section Layer

variable (x : Vec Ideal S8192x18944 .bf16) (d s : Vec Ideal S1x18944 .f32)

/-- The normalised activations, at natural-number coordinates. -/
def refX : ℕ → ℕ → EReal :=
  Spec.norm (ext2 (n := 8192) (m := 18944) x) (ext2 (n := 1) (m := 18944) s) (ext2 (n := 1) (m := 18944) d)

theorem pay4_at (t : Fin 8192) (j : Fin 18944) : k0_pay4 (F := Ideal) x d s (ix2 t j) = refX x d s t.val j.val := by
  unfold refX Spec.norm
  rw [ext2_val (n := 8192) (m := 18944) x t j, show ext2 (n := 1) (m := 18944) s 0 j.val = _ from ext2_val (n := 1) (m := 18944) s 0 j,
    show ext2 (n := 1) (m := 18944) d 0 j.val = _ from ext2_val (n := 1) (m := 18944) d 0 j]
  unfold k0_pay4
  pointwise

variable (g : Vec Ideal S8192x3584 .bf16) (w : Vec Ideal S3584x18944 .bf16)

/-- The gradients of the output and the weights, at natural-number coordinates. -/
def refG : ℕ → ℕ → EReal := ext2 (n := 8192) (m := 3584) g
def refW : ℕ → ℕ → EReal := ext2 (n := 3584) (m := 18944) w

theorem prod_at (t : Fin 8192) (j : Fin 18944) :
    ∑ o : Fin 3584, g (ix2 t o) * w (ix2 o j) = bprod (refG g) (refW w) t.val j.val := by
  refine Finset.sum_congr rfl fun o _ => ?_
  unfold refG refW
  rw [ext2_val (n := 8192) (m := 3584) g t o, ext2_val (n := 3584) (m := 18944) w o j]

theorem pay5_at (t : Fin 8192) (g : Fin 148) (l : Fin 128) :
    k0_pay5 (F := Ideal) x d s (ix3 t g l) = refX x d s t.val (128 * g.val + l.val) := by
  rw [Nat.mul_comm]
  exact (group_at (k0_pay4 (F := Ideal) x d s) t g l).trans (pay4_at x d s t _)

/-- The scales. -/
theorem pay6_at (t : Fin 8192) (g : Fin 148) : k0_pay6 (F := Ideal) x d s (ix2 t g) = scl (refX x d s) t.val g.val := by
  unfold scl gmax
  simp only [← pay5_at x d s t g]
  unfold k0_pay6
  rw [← max_at (k0_pay5 (F := Ideal) x d s) (.inl rfl) rfl]
  exact select_at _ (ix2 t g)

/-- The activations over their scales. -/
theorem pay7_at (t : Fin 8192) (g : Fin 148) (l : Fin 128) : k0_pay7 (F := Ideal) x d s (ix3 t g l)
    = Ideal.div (refX x d s t.val (128 * g.val + l.val)) (scl (refX x d s) t.val g.val) := by
  rw [← pay5_at x d s t g l, ← pay6_at x d s t g]
  exact quot_at _ _ t g l

/-- The masked gradient. -/
theorem pay8_at (t : Fin 8192) (j : Fin 18944) :
    k0_pay8 (F := Ideal) x d s g w (ix2 t j) = gxs (refX x d s) (refG g) (refW w) t.val j.val := by
  have e := pay7_at x d s t ⟨j.val / 128, by have := j.isLt; omega⟩ ⟨j.val % 128, Nat.mod_lt _ (by omega)⟩
  rw [show 128 * (j.val / 128) + j.val % 128 = j.val from Nat.div_add_mod _ _] at e
  have ep := (mm_at g w t j).trans (prod_at g w t j)
  unfold k0_pay8
  generalize k0_pay7 (F := Ideal) x d s = q at e ⊢
  generalize matmul (F := Ideal) dot_S8192x3584_S3584x18944_S8192x18944_1_0_0_1_n_n none (g : FVec Ideal S8192x3584 .bf16) (w : FVec Ideal S3584x18944 .bf16) (constant S8192x18944 .f32 0x00000000#32) = M at ep ⊢
  refine (show _ = Scalar.select (_ : BitVec 1) (_ : EReal) (_ : EReal) from rfl : select _ _ _ (ix2 t j) = _).trans ?_
  unfold gxs
  rw [flat_at, mask_at, e, ep]
  rfl

theorem pay9_at (a : Fin 8) (j : Fin 18944) :
    k0_pay9 (F := Ideal) x d s g w (ix2 a j) = rows (gxx (refX x d s) (refG g) (refW w)) a.val j.val := by
  have e3 := pay8_at x d s g w
  have e2 := pay4_at x d s
  unfold k0_pay9
  dsimp only
  generalize k0_pay8 (F := Ideal) x d s g w = u at e3 ⊢
  generalize k0_pay4 (F := Ideal) x d s = v at e2 ⊢
  refine (rows_at _ _ _ a j).trans (Finset.sum_congr rfl fun b _ => ?_)
  refine (mul_at u v _).trans ?_
  rw [e3, e2]
  unfold gxx
  rfl

theorem pay1_at (a : Fin 8) (j : Fin 18944) :
    k0_pay1 (F := Ideal) (k0_pay10 (F := Ideal) x d s g w) (ix2 a j) = rows (gxs (refX x d s) (refG g) (refW w)) a.val j.val := by
  have e3 := pay8_at x d s g w
  unfold k0_pay1 k0_pay10
  dsimp only
  generalize k0_pay8 (F := Ideal) x d s g w = u at e3 ⊢
  refine (rows_at _ _ _ a j).trans (Finset.sum_congr rfl fun b _ => ?_)
  rw [e3]

/-- A dequantised activation, from any array of quotients and scales that are the layer's there. -/
theorem deq_at (q : FVec Ideal S8192x148x128 .f32) (sc : FVec Ideal S8192x148 .f32) (X : ℕ → ℕ → EReal) (t : Fin 8192) (j : Fin 18944)
    (eq : q (ix3 t ⟨j.val / 128, by have := j.isLt; omega⟩ ⟨j.val % 128, Nat.mod_lt _ (by omega)⟩) = Ideal.div (X t.val j.val) (scl X t.val (j.val / 128)))
    (es : sc (ix2 t ⟨j.val / 128, by have := j.isLt; omega⟩) = scl X t.val (j.val / 128)) :
    mulf (sitofp (F := Ideal) .bf16 (fptosi 8 (minimumf (broadcast S8192x148x128 (Scalar.ofBits (F := Ideal) .f32 0x42FE0000#32))
      (maximumf (broadcast S8192x148x128 (Scalar.ofBits (F := Ideal) .f32 0xC2FE0000#32)) (roundeven q))))) (broadcastTo S8192x148x128
      (shapeCast S8192x148x1 (truncf .bf16 sc bitsLt_bf16_f32) shapeCasts_S8192x148_S8192x148x1)
        broadcasts_S8192x148x1_S8192x148x128) (ix3 t ⟨j.val / 128, by have := j.isLt; omega⟩ ⟨j.val % 128, Nat.mod_lt _ (by omega)⟩)
    = deq X t.val j.val := by
  refine (dq_at _ sc t _ _).trans ?_
  rw [code_at, eq, es]
  unfold deq
  rw [← toInt_cod]
  rfl

theorem pay3_at (a : Fin 8) (j : Fin 18944) :
    k0_pay3 (F := Ideal) (k0_pay6 (F := Ideal) x d s) (k0_pay7 (F := Ideal) x d s) g w (ix2 a j)
      = wsum (refX x d s) (refG g) (refW w) a.val j.val := by
  have ed : ∀ t : Fin 8192, _ := fun t => deq_at (k0_pay7 (F := Ideal) x d s) (k0_pay6 (F := Ideal) x d s) (refX x d s) t j
    ((pay7_at x d s t _ _).trans (by rw [show 128 * (j.val / 128) + j.val % 128 = j.val from Nat.div_add_mod _ _]))
    (pay6_at x d s t _)
  unfold k0_pay3
  dsimp only
  generalize k0_pay7 (F := Ideal) x d s = q at ed ⊢
  generalize k0_pay6 (F := Ideal) x d s = sc at ed ⊢
  refine (masked_at _ w _ _ a j).trans ?_
  unfold wsum
  refine Finset.sum_congr rfl fun o _ => ?_
  refine congrArg₂ (fun p r : EReal => p * r) ((mm3_at _ _ a o j).trans (Finset.sum_congr rfl fun b _ => ?_)) (ext2_val (n := 3584) (m := 18944) w o j).symm
  refine congrArg₂ (fun p r : EReal => p * r) ((eighthG_at g b a o).trans ?_) ((eighth_at _ b a j).trans ((ed _).trans ?_))
  · have h := ext2_val (n := 8192) (m := 3584) g ⟨b.val * 8 + a.val, by have := a.isLt; have := b.isLt; omega⟩ o
    rw [← h]
    show refG g (b.val * 8 + a.val) o.val = _
    rw [Nat.mul_comm]
  · show deq (refX x d s) (b.val * 8 + a.val) j.val = _
    rw [Nat.mul_comm]

/-- The bias gradients, at natural-number coordinates. -/
def refB (b : Vec Ideal S3584x1 .f32) : ℕ → EReal := fun o => ext2 (n := 3584) (m := 1) b o 0

/-- The sum over every eighth output. -/
theorem wrows_at (v : FVec Ideal S3584x18944 .f32) (h1 h2) (a : Fin 8) (j : Fin 18944) :
    multiReduction .add [0] S8x18944 (shapeCast S448x8x18944 v shapeCasts_S3584x18944_S448x8x18944) 0x00000000#32
        reduces_S448x8x18944_S8x18944 h1 h2 (ix2 a j)
      = ∑ b : Fin 448, v (ix2 ⟨8 * b.val + a.val, by have := a.isLt; have := b.isLt; omega⟩ j) := by
  pointwise
  exact Finset.sum_congr rfl fun b _ => congrArg (fun n => v (ix2 n j)) (Fin.ext (by show b.val * 8 + a.val = 8 * b.val + a.val; omega))

/-- The weights times the gradients of their outputs' biases. -/
theorem weighted_at (b : Vec Ideal S3584x1 .f32) (o : Fin 3584) (j : Fin 18944) :
    mulf (broadcastTo S3584x18944 (shapeCast S3584x1 b shapeCasts_S3584x1_S3584x1) broadcasts_S3584x1_S3584x18944)
      (extf (F := Ideal) .f32 w bitsLt_bf16_f32) (ix2 o j) = biasw (refW w) (refB b) o.val j.val := by
  unfold biasw refW refB
  rw [ext2_val (n := 3584) (m := 18944) w o j, show ext2 (n := 3584) (m := 1) b o.val 0 = _ from ext2_val (n := 3584) (m := 1) b o 0, mul_comm]
  pointwise

theorem pay2_at (b : Vec Ideal S3584x1 .f32) (a : Fin 8) (j : Fin 18944) :
    k0_pay2 (F := Ideal) b w (ix2 a j) = wrows (biasw (refW w) (refB b)) a.val j.val := by
  have e := weighted_at w b
  unfold k0_pay2
  dsimp only
  generalize mulf (broadcastTo S3584x18944 (shapeCast S3584x1 b shapeCasts_S3584x1_S3584x1) broadcasts_S3584x1_S3584x18944)
      (extf (F := Ideal) .f32 w bitsLt_bf16_f32) = v at e ⊢
  exact (wrows_at v _ _ a j).trans (Finset.sum_congr rfl fun b _ => e _ j)

end Layer

variable (m : (ℓ : Loc nD τ sig) → Buf (Elt Ideal) ℓ) (c : Dev nD)

/-! ## The arguments' blocks are the arguments -/

theorem in0 (t : Fin cfg0.N) : (iblk m c 0 t : Vec Ideal S8192x3584 .bf16) = V m c main_arg0 := by
  have e0 : win0_0.index t (0 : Fin 2) = 0 := (by decide +kernel : ∀ t : Fin grid0.N, win0_0.index t (0 : Fin 2) = 0) t
  have e1 : win0_0.index t (1 : Fin 2) = 0 := (by decide +kernel : ∀ t : Fin grid0.N, win0_0.index t (1 : Fin 2) = 0) t
  funext y
  unfold iblk
  rw [View.read_apply]
  show V m c main_arg0 _ = V m c main_arg0 _
  congr 1
  funext a
  apply Fin.ext
  match a with
  | ⟨0, _⟩ => show win0_0.index t (0 : Fin 2) * 8192 + 1 * (y 0).val = (y 0).val; rw [e0]; omega
  | ⟨1, _⟩ => show win0_0.index t (1 : Fin 2) * 3584 + 1 * (y 1).val = (y 1).val; rw [e1]; omega

theorem in1 (t : Fin cfg0.N) : (iblk m c 1 t : Vec Ideal S3584x18944 .bf16) = V m c main_arg1 := by
  have e0 : win0_1.index t (0 : Fin 2) = 0 := (by decide +kernel : ∀ t : Fin grid0.N, win0_1.index t (0 : Fin 2) = 0) t
  have e1 : win0_1.index t (1 : Fin 2) = 0 := (by decide +kernel : ∀ t : Fin grid0.N, win0_1.index t (1 : Fin 2) = 0) t
  funext y
  unfold iblk
  rw [View.read_apply]
  show V m c main_arg1 _ = V m c main_arg1 _
  congr 1
  funext a
  apply Fin.ext
  match a with
  | ⟨0, _⟩ => show win0_1.index t (0 : Fin 2) * 3584 + 1 * (y 0).val = (y 0).val; rw [e0]; omega
  | ⟨1, _⟩ => show win0_1.index t (1 : Fin 2) * 18944 + 1 * (y 1).val = (y 1).val; rw [e1]; omega

theorem in2 (t : Fin cfg0.N) : (iblk m c 2 t : Vec Ideal S8192x18944 .bf16) = V m c main_arg4 := by
  have e0 : win0_2.index t (0 : Fin 2) = 0 := (by decide +kernel : ∀ t : Fin grid0.N, win0_2.index t (0 : Fin 2) = 0) t
  have e1 : win0_2.index t (1 : Fin 2) = 0 := (by decide +kernel : ∀ t : Fin grid0.N, win0_2.index t (1 : Fin 2) = 0) t
  funext y
  unfold iblk
  rw [View.read_apply]
  show V m c main_arg4 _ = V m c main_arg4 _
  congr 1
  funext a
  apply Fin.ext
  match a with
  | ⟨0, _⟩ => show win0_2.index t (0 : Fin 2) * 8192 + 1 * (y 0).val = (y 0).val; rw [e0]; omega
  | ⟨1, _⟩ => show win0_2.index t (1 : Fin 2) * 18944 + 1 * (y 1).val = (y 1).val; rw [e1]; omega

theorem in3 (t : Fin cfg0.N) : (iblk m c 3 t : Vec Ideal S1x18944 .f32) = V m c main_v0 := by
  have e0 : win0_3.index t (0 : Fin 2) = 0 := (by decide +kernel : ∀ t : Fin grid0.N, win0_3.index t (0 : Fin 2) = 0) t
  have e1 : win0_3.index t (1 : Fin 2) = 0 := (by decide +kernel : ∀ t : Fin grid0.N, win0_3.index t (1 : Fin 2) = 0) t
  funext y
  unfold iblk
  rw [View.read_apply]
  show V m c main_v0 _ = V m c main_v0 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 18944 + 1 * (y 1).val = (y 1).val; rw [e1]; omega

theorem in4 (t : Fin cfg0.N) : (iblk m c 4 t : Vec Ideal S1x18944 .f32) = V m c main_v1 := by
  have e0 : win0_4.index t (0 : Fin 2) = 0 := (by decide +kernel : ∀ t : Fin grid0.N, win0_4.index t (0 : Fin 2) = 0) t
  have e1 : win0_4.index t (1 : Fin 2) = 0 := (by decide +kernel : ∀ t : Fin grid0.N, win0_4.index t (1 : Fin 2) = 0) t
  funext y
  unfold iblk
  rw [View.read_apply]
  show V m c main_v1 _ = V m c main_v1 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 18944 + 1 * (y 1).val = (y 1).val; rw [e1]; omega

theorem in5 (t : Fin cfg0.N) : (iblk m c 5 t : Vec Ideal S3584x18944 .bf16) = V m c main_arg3 := by
  have e0 : win0_5.index t (0 : Fin 2) = 0 := (by decide +kernel : ∀ t : Fin grid0.N, win0_5.index t (0 : Fin 2) = 0) t
  have e1 : win0_5.index t (1 : Fin 2) = 0 := (by decide +kernel : ∀ t : Fin grid0.N, win0_5.index t (1 : Fin 2) = 0) t
  funext y
  unfold iblk
  rw [View.read_apply]
  show V m c main_arg3 _ = V m c main_arg3 _
  congr 1
  funext a
  apply Fin.ext
  match a with
  | ⟨0, _⟩ => show win0_5.index t (0 : Fin 2) * 3584 + 1 * (y 0).val = (y 0).val; rw [e0]; omega
  | ⟨1, _⟩ => show win0_5.index t (1 : Fin 2) * 18944 + 1 * (y 1).val = (y 1).val; rw [e1]; omega

theorem in6 (t : Fin cfg0.N) : (iblk m c 6 t : Vec Ideal S3584x1 .f32) = V m c main_v2 := by
  have e0 : win0_6.index t (0 : Fin 2) = 0 := (by decide +kernel : ∀ t : Fin grid0.N, win0_6.index t (0 : Fin 2) = 0) t
  have e1 : win0_6.index t (1 : Fin 2) = 0 := (by decide +kernel : ∀ t : Fin grid0.N, win0_6.index t (1 : Fin 2) = 0) t
  funext y
  unfold iblk
  rw [View.read_apply]
  show V m c main_v2 _ = V m c main_v2 _
  congr 1
  funext a
  apply Fin.ext
  match a with
  | ⟨0, _⟩ => show win0_6.index t (0 : Fin 2) * 3584 + 1 * (y 0).val = (y 0).val; rw [e0]; omega
  | ⟨1, _⟩ => show win0_6.index t (1 : Fin 2) * 1 + 1 * (y 1).val = (y 1).val; rw [e1]; omega

theorem in7 (t : Fin cfg0.N) : (iblk m c 7 t : Vec Ideal S3584x18944 .bf16) = V m c main_arg2 := by
  have e0 : win0_7.index t (0 : Fin 2) = 0 := (by decide +kernel : ∀ t : Fin grid0.N, win0_7.index t (0 : Fin 2) = 0) t
  have e1 : win0_7.index t (1 : Fin 2) = 0 := (by decide +kernel : ∀ t : Fin grid0.N, win0_7.index t (1 : Fin 2) = 0) t
  funext y
  unfold iblk
  rw [View.read_apply]
  show V m c main_arg2 _ = V m c main_arg2 _
  congr 1
  funext a
  apply Fin.ext
  match a with
  | ⟨0, _⟩ => show win0_7.index t (0 : Fin 2) * 3584 + 1 * (y 0).val = (y 0).val; rw [e0]; omega
  | ⟨1, _⟩ => show win0_7.index t (1 : Fin 2) * 18944 + 1 * (y 1).val = (y 1).val; rw [e1]; omega

/-- The normalised activations, the gradients of the output and the weights. -/
def rX : ℕ → ℕ → EReal := refX (V m c main_arg4) (V m c main_v1) (V m c main_v0)
def rG : ℕ → ℕ → EReal := refG (V m c main_arg0)
def rW : ℕ → ℕ → EReal := refW (V m c main_arg1)

/-- Where the weights were not clipped. -/
def rM : ℕ → ℕ → EReal := refW (V m c main_arg2)

/-- The weights before their quantisation, and the gradients of the outputs' biases. -/
def rWt : ℕ → ℕ → EReal := refW (V m c main_arg3)
def rB : ℕ → EReal := refB (V m c main_v2)

/-- The one grid point. -/
def p0 : Fin cfg0.N := ⟨0, by decide⟩

theorem out8_at (a : Fin 8) (j : Fin 18944) :
    out0_8 (F := Ideal) (V m c main_arg0) (V m c main_arg1) (V m c main_arg4) (V m c main_v0) (V m c main_v1) (V m c main_arg3) (V m c main_v2) (V m c main_arg2) (ix2 a j) = rows (gxx (rX m c) (rG m c) (rW m c)) a.val j.val := by
  unfold out0_8
  simp (disch := decide) only [View.canon_cons_unit_lit', View.ld_unit_lit']
  exact pay9_at _ _ _ _ _ a j

theorem R8_at (a : Fin 8) (j : Fin 18944) : (dats m 0 c).arrAt 8 cfg0.N (ix2 a j) = rows (gxx (rX m c) (rG m c) (rW m c)) a.val j.val := by
  rw [← out8_at]
  have e0 : win0_8.index p0 (0 : Fin 2) = 0 := by decide +kernel
  have e1 : win0_8.index p0 (1 : Fin 2) = 0 := by decide +kernel
  have hb := blocks8 m c p0 (by decide +kernel)
  rw [flushed8, in0, in1, in2, in3, in4, in5, in6, in7] at hb
  generalize out0_8 (F := Ideal) (V m c main_arg0) (V m c main_arg1) (V m c main_arg4) (V m c main_v0) (V m c main_v1) (V m c main_arg3) (V m c main_v2) (V m c main_arg2) = A at hb ⊢
  generalize (dats m 0 c).arrAt 8 cfg0.N = B at hb ⊢
  have h := congrFun hb (ix2 a j)
  have ey : ((cfg0.win 8).blk p0).view.emb (ix2 a j) = ix2 a j := by
    funext b
    apply Fin.ext
    match b with
    | ⟨0, _⟩ => show win0_8.index p0 (0 : Fin 2) * 8 + 1 * a.val = a.val; rw [e0]; omega
    | ⟨1, _⟩ => show win0_8.index p0 (1 : Fin 2) * 18944 + 1 * j.val = j.val; rw [e1]; omega
  have h2 : B (((cfg0.win 8).blk p0).view.emb (ix2 a j)) = A (ix2 a j) := h
  rw [ey] at h2
  exact h2

theorem out9_at (a : Fin 8) (j : Fin 18944) :
    out0_9 (F := Ideal) (V m c main_arg0) (V m c main_arg1) (V m c main_arg4) (V m c main_v0) (V m c main_v1) (V m c main_arg3) (V m c main_v2) (V m c main_arg2) (ix2 a j) = rows (gxs (rX m c) (rG m c) (rW m c)) a.val j.val := by
  unfold out0_9
  simp (disch := decide) only [View.canon_cons_unit_lit', View.ld_unit_lit']
  exact pay1_at _ _ _ _ _ a j

theorem R9_at (a : Fin 8) (j : Fin 18944) : (dats m 0 c).arrAt 9 cfg0.N (ix2 a j) = rows (gxs (rX m c) (rG m c) (rW m c)) a.val j.val := by
  rw [← out9_at]
  have e0 : win0_9.index p0 (0 : Fin 2) = 0 := by decide +kernel
  have e1 : win0_9.index p0 (1 : Fin 2) = 0 := by decide +kernel
  have hb := blocks9 m c p0 (by decide +kernel)
  rw [flushed9, in0, in1, in2, in3, in4, in5, in6, in7] at hb
  generalize out0_9 (F := Ideal) (V m c main_arg0) (V m c main_arg1) (V m c main_arg4) (V m c main_v0) (V m c main_v1) (V m c main_arg3) (V m c main_v2) (V m c main_arg2) = A at hb ⊢
  generalize (dats m 0 c).arrAt 9 cfg0.N = B at hb ⊢
  have h := congrFun hb (ix2 a j)
  have ey : ((cfg0.win 9).blk p0).view.emb (ix2 a j) = ix2 a j := by
    funext b
    apply Fin.ext
    match b with
    | ⟨0, _⟩ => show win0_9.index p0 (0 : Fin 2) * 8 + 1 * a.val = a.val; rw [e0]; omega
    | ⟨1, _⟩ => show win0_9.index p0 (1 : Fin 2) * 18944 + 1 * j.val = j.val; rw [e1]; omega
  have h2 : B (((cfg0.win 9).blk p0).view.emb (ix2 a j)) = A (ix2 a j) := h
  rw [ey] at h2
  exact h2

theorem out10_at (a : Fin 8) (j : Fin 18944) :
    out0_10 (F := Ideal) (V m c main_arg0) (V m c main_arg1) (V m c main_arg4) (V m c main_v0) (V m c main_v1) (V m c main_arg3) (V m c main_v2) (V m c main_arg2) (ix2 a j) = wsum (rX m c) (rG m c) (rM m c) a.val j.val := by
  unfold out0_10
  simp (disch := decide) only [View.canon_cons_unit_lit', View.ld_unit_lit']
  exact pay3_at _ _ _ _ _ a j

theorem R10_at (a : Fin 8) (j : Fin 18944) : (dats m 0 c).arrAt 10 cfg0.N (ix2 a j) = wsum (rX m c) (rG m c) (rM m c) a.val j.val := by
  rw [← out10_at]
  have e0 : win0_10.index p0 (0 : Fin 2) = 0 := by decide +kernel
  have e1 : win0_10.index p0 (1 : Fin 2) = 0 := by decide +kernel
  have hb := blocks10 m c p0 (by decide +kernel)
  rw [flushed10, in0, in1, in2, in3, in4, in5, in6, in7] at hb
  generalize out0_10 (F := Ideal) (V m c main_arg0) (V m c main_arg1) (V m c main_arg4) (V m c main_v0) (V m c main_v1) (V m c main_arg3) (V m c main_v2) (V m c main_arg2) = A at hb ⊢
  generalize (dats m 0 c).arrAt 10 cfg0.N = B at hb ⊢
  have h := congrFun hb (ix2 a j)
  have ey : ((cfg0.win 10).blk p0).view.emb (ix2 a j) = ix2 a j := by
    funext b
    apply Fin.ext
    match b with
    | ⟨0, _⟩ => show win0_10.index p0 (0 : Fin 2) * 8 + 1 * a.val = a.val; rw [e0]; omega
    | ⟨1, _⟩ => show win0_10.index p0 (1 : Fin 2) * 18944 + 1 * j.val = j.val; rw [e1]; omega
  have h2 : B (((cfg0.win 10).blk p0).view.emb (ix2 a j)) = A (ix2 a j) := h
  rw [ey] at h2
  exact h2

theorem out11_at (a : Fin 8) (j : Fin 18944) :
    out0_11 (F := Ideal) (V m c main_arg0) (V m c main_arg1) (V m c main_arg4) (V m c main_v0) (V m c main_v1) (V m c main_arg3) (V m c main_v2) (V m c main_arg2) (ix2 a j) = wrows (biasw (rWt m c) (rB m c)) a.val j.val := by
  unfold out0_11
  simp (disch := decide) only [View.canon_cons_unit_lit', View.ld_unit_lit']
  exact pay2_at _ _ a j

theorem R11_at (a : Fin 8) (j : Fin 18944) : (dats m 0 c).arrAt 11 cfg0.N (ix2 a j) = wrows (biasw (rWt m c) (rB m c)) a.val j.val := by
  rw [← out11_at]
  have e0 : win0_11.index p0 (0 : Fin 2) = 0 := by decide +kernel
  have e1 : win0_11.index p0 (1 : Fin 2) = 0 := by decide +kernel
  have hb := blocks11 m c p0 (by decide +kernel)
  rw [flushed11, in0, in1, in2, in3, in4, in5, in6, in7] at hb
  generalize out0_11 (F := Ideal) (V m c main_arg0) (V m c main_arg1) (V m c main_arg4) (V m c main_v0) (V m c main_v1) (V m c main_arg3) (V m c main_v2) (V m c main_arg2) = A at hb ⊢
  generalize (dats m 0 c).arrAt 11 cfg0.N = B at hb ⊢
  have h := congrFun hb (ix2 a j)
  have ey : ((cfg0.win 11).blk p0).view.emb (ix2 a j) = ix2 a j := by
    funext b
    apply Fin.ext
    match b with
    | ⟨0, _⟩ => show win0_11.index p0 (0 : Fin 2) * 8 + 1 * a.val = a.val; rw [e0]; omega
    | ⟨1, _⟩ => show win0_11.index p0 (1 : Fin 2) * 18944 + 1 * j.val = j.val; rw [e1]; omega
  have h2 : B (((cfg0.win 11).blk p0).view.emb (ix2 a j)) = A (ix2 a j) := h
  rw [ey] at h2
  exact h2

end Cert.BackwardReferenceIdeal.Gen

end
-- ==== Proof.BackFinite.lean ====
module
public import proofs.«01_k».proof.Proof.BackSpec

/-!
  The dequantised activations are real numbers.  Where the gradients and the masked weights are real too, the sum over
  outputs of a sum over tokens is the sum over tokens of a sum over outputs.
-/

@[expose] public section

noncomputable section

namespace Cert.Spec

open Idealize.ShloMosaic

/-- An extended real that is a real number. -/
def IsReal (x : EReal) : Prop := ∃ r : ℝ, x = r

/-- Neither infinity makes it one. -/
theorem fin_of {x : EReal} (h1 : x ≠ ⊤) (h2 : x ≠ ⊥) : IsReal x := ⟨x.toReal, (EReal.coe_toReal h1 h2).symm⟩

/-- A magnitude below infinity makes it one. -/
theorem fin_of_abs {x : EReal} (h : max x (-x) < ⊤) : IsReal x := by
  refine fin_of (fun e => ?_) (fun e => ?_) <;> subst e <;> simp at h

theorem fin_mul {x y : EReal} (hx : IsReal x) (hy : IsReal y) : IsReal (x * y) := by
  obtain ⟨a, rfl⟩ := hx
  obtain ⟨b, rfl⟩ := hy
  exact ⟨a * b, (EReal.coe_mul a b).symm⟩

/-- A matrix of real numbers, read at natural-number coordinates, is one. -/
theorem fin_ext2 {n m : ℕ} (x : (⟨2, ![n, m]⟩ : Shape).Idx → EReal) (h : ∀ i, IsReal (x i)) (t j : ℕ) : IsReal (ext2 x t j) := by
  unfold ext2
  split
  · exact h _
  · exact ⟨0, rfl⟩

/-- Zero is rounded and clipped to itself. -/
theorem clip_zero : min (Ideal.ofBits .f32 0x42FE0000#32) (max (Ideal.ofBits .f32 0xC2FE0000#32)
    (Ideal.liftRound Ideal.roundHalfEven 0)) = 0 := by
  have e : Ideal.liftRound Ideal.roundHalfEven 0 = 0 := by
    rw [← EReal.coe_zero, Ideal.liftRound_coe]
    simp [Ideal.roundHalfEven]
  rw [e, ofBits_127, ofBits_neg127, ← EReal.coe_zero, max_eq_right (EReal.coe_le_coe_iff.2 (by norm_num : (-127 : ℝ) ≤ 0)),
    min_eq_right (EReal.coe_le_coe_iff.2 (by norm_num : (0 : ℝ) ≤ 127))]

/-- The dequantised activation is real for any activations: an infinite scale makes the code zero. -/
theorem fin_deq (X : ℕ → ℕ → EReal) (t j : ℕ) : IsReal (deq X t j) := by
  obtain ⟨n, -, -, e⟩ := qv_int X t j
  unfold deq
  by_cases h : IsReal (scl X t (j / 128))
  · exact fin_mul ⟨n, e⟩ h
  · have hi : scl X t (j / 128) ≠ 0 ∧ (scl X t (j / 128))⁻¹ = 0 := by
      generalize scl X t (j / 128) = y at h
      induction y with
      | bot => simp
      | top => simp
      | coe r => exact absurd ⟨r, rfl⟩ h
    have hq : qv X t j = 0 := by
      unfold qv Ideal.div
      rw [if_neg hi.1, hi.2, mul_zero]
      exact clip_zero
    rw [hq, zero_mul]
    exact ⟨0, rfl⟩

/-- A sum of real numbers. -/
theorem coe_total {n : ℕ} (f : Fin n → ℝ) : ∑ i, ((f i : ℝ) : EReal) = ((∑ i, f i : ℝ) : EReal) := by
  refine Finset.induction_on (Finset.univ : Finset (Fin n)) (by simp) (fun a s ha ih => ?_)
  rw [Finset.sum_insert ha, Finset.sum_insert ha, ih, EReal.coe_add]

/-- The two orders of summing agree on real numbers. -/
theorem wsum_eq (X G W : ℕ → ℕ → EReal) (a j : ℕ) (hG : ∀ t o, IsReal (G t o)) (hW : ∀ o, IsReal (W o j)) : wsum X G W a j = rows (gxw X G W) a j := by
  choose g hg using hG
  choose w hw using hW
  choose d hd using fin_deq X
  unfold wsum rows gxw bprod
  simp only [hg, hw, hd, ← EReal.coe_mul, coe_total]
  refine congrArg _ ?_
  simp only [Finset.sum_mul]
  rw [Finset.sum_comm]
  exact Finset.sum_congr rfl fun b _ => Finset.sum_congr rfl fun o _ => by ring

end Cert.Spec

end
-- ==== Proof.BackAgree.lean ====
module
public import proofs.«01_k».proof.Proof.BackRun.Total
public import proofs.«01_k».proof.Proof.RefBack
public import proofs.«01_k».proof.Proof.BackFinite
public import proofs.«01_k».proof.Pre_finite

/-!
  The backward call and its reference, run from equal arguments, leave equal results: one of them where the output's
  gradients and the masked weights are real numbers, the others always.
-/

@[expose] public section

set_option maxRecDepth 16384

noncomputable section

namespace Cert.BackwardIdeal.Gen

open Idealize.ShloMosaic Idealize.ShloMosaic.TcCoe Idealize.ShloMosaic.StableHlo Idealize.SL.Sem

variable (m : (ℓ : Loc nD τ sig) → Buf (Elt Ideal) ℓ) (c : Dev nD)

/-- The scales as the call finds them: the argument, as one row. -/
theorem V_v0 : V m c main_v0 = broadcastInDim S1x18944 ![1] bcast_S18944_S1x18944_1 (m ((c : Thread nD τ).loc main_arg5)) := by
  unfold_abbrev_sides
  after_results

/-- The shifts as the call finds them: the argument, as one row. -/
theorem V_v1 : V m c main_v1 = broadcastInDim S1x18944 ![1] bcast_S18944_S1x18944_1 (m ((c : Thread nD τ).loc main_arg6)) := by
  unfold_abbrev_sides
  after_results

end Cert.BackwardIdeal.Gen

namespace Cert.BackwardReferenceIdeal.Gen

open Idealize.ShloMosaic Idealize.ShloMosaic.TcCoe Idealize.ShloMosaic.StableHlo Idealize.SL.Sem

variable (m : (ℓ : Loc nD τ sig) → Buf (Elt Ideal) ℓ) (c : Dev nD)

/-- The scales as the call finds them: the argument, as one row. -/
theorem V_v0 : V m c main_v0 = broadcastInDim S1x18944 ![1] bcast_S18944_S1x18944_1 (m ((c : Thread nD τ).loc main_arg5)) := by
  unfold_abbrev_sides
  after_results

/-- The shifts as the call finds them: the argument, as one row. -/
theorem V_v1 : V m c main_v1 = broadcastInDim S1x18944 ![1] bcast_S18944_S1x18944_1 (m ((c : Thread nD τ).loc main_arg6)) := by
  unfold_abbrev_sides
  after_results

/-- The bias gradients as the call finds them: the argument, as one column. -/
theorem V_v2 : V m c main_v2 = broadcastInDim S3584x1 ![0] bcast_S3584_S3584x1_0 (m ((c : Thread nD τ).loc main_arg7)) := by
  unfold_abbrev_sides
  after_results

end Cert.BackwardReferenceIdeal.Gen

namespace Cert.BackwardIdeal.Gen

open Idealize.ShloMosaic Idealize.ShloMosaic.TcCoe Idealize.SL.Sem
open Cert.Spec

variable (m : (ℓ : Loc nD τ sig) → Buf (Elt Ideal) ℓ) (c : Dev nD)

/-- The results claimed: the gradients' sums over every eighth row. -/
def R8 : Vec Ideal S8x18944 .f32 := fun i => rows (gxx (bX m c) (bG m c) (bW m c)) (i 0).val (i 1).val
def R9 : Vec Ideal S8x18944 .f32 := fun i => rows (gxs (bX m c) (bG m c) (bW m c)) (i 0).val (i 1).val
def R10 : Vec Ideal S8x18944 .f32 := fun i => rows (gxw (bX m c) (bG m c) (bM m c)) (i 0).val (i 1).val
def R11 : Vec Ideal S8x18944 .f32 := fun i => wrows (biasw (bWt m c) (bB m c)) (i 0).val (i 1).val

/-- An index is its two coordinates. -/
theorem eta (i : S8x18944.Idx) : i = ix2 (i 0) (i 1) := by
  funext a
  match a with
  | ⟨0, _⟩ => rfl
  | ⟨1, _⟩ => rfl

/-- The call's results and its arguments after a run. -/
theorem run (ρ : Dev nD → PrngReg) : θ_run defs (onTc (τ := τ) (main (F := Ideal))) ⟨m, fun _ => 0, ρ⟩ (fun r => ∀ c : Dev nD,
      r.2.mem ((c.tc : Thread nD τ).loc main_v4_0) = R8 m c
      ∧ r.2.mem ((c.tc : Thread nD τ).loc main_v4_1) = R9 m c
      ∧ r.2.mem ((c.tc : Thread nD τ).loc main_v4_2) = R10 m c
      ∧ r.2.mem ((c.tc : Thread nD τ).loc main_v4_3) = R11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨?_, ?_, ?_, ?_, h.2 c⟩) (θ_run_and (run_main m ρ) (unchanged m ρ))
  · funext i
    rw [eta i]
    exact result8 m c _ ((h.1 c).1 8) (i 0) (i 1)
  · funext i
    rw [eta i]
    exact result9 m c _ ((h.1 c).1 9) (i 0) (i 1)
  · funext i
    rw [eta i]
    exact result10 m c _ ((h.1 c).1 10) (i 0) (i 1)
  · funext i
    rw [eta i]
    exact result11 m c _ ((h.1 c).1 11) (i 0) (i 1)

/-- The output's gradients and the masked weights are real numbers. -/
structure RealBack : Prop where
  g : ∀ i, IsReal ((m ((c : Thread nD τ).loc main_arg0) : FVec Ideal S8192x3584 .bf16) i)
  w : ∀ i, IsReal ((m ((c : Thread nD τ).loc main_arg2) : FVec Ideal S3584x18944 .bf16) i)

variable {m c}

theorem real_G (h : RealBack m c) (t o : ℕ) : IsReal (bG m c t o) := by
  unfold bG
  rw [V_main_arg0]
  exact fin_ext2 _ h.g t o

theorem real_M (h : RealBack m c) (o j : ℕ) : IsReal (bM m c o j) := by
  unfold bM
  rw [V_main_arg2]
  exact fin_ext2 _ h.w o j

/-- On such arguments the normalised weights' gradients may be summed over the outputs first. -/
theorem wsum_back (h : RealBack m c) (a : Fin 8) (j : Fin 18944) :
    wsum (bX m c) (bG m c) (bM m c) a.val j.val = rows (gxw (bX m c) (bG m c) (bM m c)) a.val j.val :=
  wsum_eq _ _ _ _ _ (real_G h) fun o => real_M h o _

/-- A magnitude found below the word of infinity is a real number's. -/
theorem real_of_olt {s : Shape} {φ : FTy} (x : FVec Ideal s φ) (k : FVec Ideal s φ) (hk : ∀ i, k i = (⊤ : EReal))
    (h : cmpf .olt (Host.absf x) k = fun _ => 1#1) (i : s.Idx) : IsReal (x i) := by
  have e : Ideal.cmp .olt (max (x i : EReal) (-x i)) (k i) = 1#1 := congrFun h i
  rw [hk i] at e
  refine fin_of_abs (by_contra fun hn => ?_)
  simp [Ideal.cmp, hn] at e

end Cert.BackwardIdeal.Gen

namespace Cert.Proof

open Idealize.ShloMosaic Idealize.ShloMosaic.TcCoe Idealize.SL.Sem
open Cert.Spec

variable (m : (ℓ : Loc BackwardIdeal.nD BackwardIdeal.τ BackwardIdeal.sig) → Buf (Elt Ideal) ℓ)
  (m' : (ℓ : Loc BackwardReferenceIdeal.nD BackwardReferenceIdeal.τ BackwardReferenceIdeal.sig) → Buf (Elt Ideal) ℓ)

/-- The two memories hold the same arguments on core `c`, of those the results read. -/
structure SameBack (c : Dev BackwardIdeal.nD) : Prop where
  a0 : m' ((c.tc : Thread BackwardReferenceIdeal.nD BackwardReferenceIdeal.τ).loc BackwardReferenceIdeal.main_arg0)
    = m ((c.tc : Thread BackwardIdeal.nD BackwardIdeal.τ).loc BackwardIdeal.main_arg0)
  a1 : m' ((c.tc : Thread BackwardReferenceIdeal.nD BackwardReferenceIdeal.τ).loc BackwardReferenceIdeal.main_arg1)
    = m ((c.tc : Thread BackwardIdeal.nD BackwardIdeal.τ).loc BackwardIdeal.main_arg1)
  a2 : m' ((c.tc : Thread BackwardReferenceIdeal.nD BackwardReferenceIdeal.τ).loc BackwardReferenceIdeal.main_arg2)
    = m ((c.tc : Thread BackwardIdeal.nD BackwardIdeal.τ).loc BackwardIdeal.main_arg2)
  a3 : m' ((c.tc : Thread BackwardReferenceIdeal.nD BackwardReferenceIdeal.τ).loc BackwardReferenceIdeal.main_arg3)
    = m ((c.tc : Thread BackwardIdeal.nD BackwardIdeal.τ).loc BackwardIdeal.main_arg3)
  a4 : m' ((c.tc : Thread BackwardReferenceIdeal.nD BackwardReferenceIdeal.τ).loc BackwardReferenceIdeal.main_arg4)
    = m ((c.tc : Thread BackwardIdeal.nD BackwardIdeal.τ).loc BackwardIdeal.main_arg4)
  a5 : m' ((c.tc : Thread BackwardReferenceIdeal.nD BackwardReferenceIdeal.τ).loc BackwardReferenceIdeal.main_arg5)
    = m ((c.tc : Thread BackwardIdeal.nD BackwardIdeal.τ).loc BackwardIdeal.main_arg5)
  a6 : m' ((c.tc : Thread BackwardReferenceIdeal.nD BackwardReferenceIdeal.τ).loc BackwardReferenceIdeal.main_arg6)
    = m ((c.tc : Thread BackwardIdeal.nD BackwardIdeal.τ).loc BackwardIdeal.main_arg6)
  a7 : m' ((c.tc : Thread BackwardReferenceIdeal.nD BackwardReferenceIdeal.τ).loc BackwardReferenceIdeal.main_arg7)
    = m ((c.tc : Thread BackwardIdeal.nD BackwardIdeal.τ).loc BackwardIdeal.main_arg7)

variable {m m'} {c : Dev BackwardIdeal.nD} (h : SameBack m m' c)

include h

/-- The normalised activations agree. -/
theorem back_X_eq : BackwardReferenceIdeal.Gen.rX m' c = BackwardIdeal.Gen.bX m c := by
  unfold BackwardReferenceIdeal.Gen.rX BackwardReferenceIdeal.Gen.refX BackwardIdeal.Gen.bX
  rw [BackwardReferenceIdeal.Gen.V_main_arg4, BackwardReferenceIdeal.Gen.V_v0, BackwardReferenceIdeal.Gen.V_v1,
    BackwardIdeal.Gen.V_main_arg4, BackwardIdeal.Gen.V_v0, BackwardIdeal.Gen.V_v1, h.a4, h.a5, h.a6]

/-- The output's gradients agree. -/
theorem back_G_eq : BackwardReferenceIdeal.Gen.rG m' c = BackwardIdeal.Gen.bG m c := by
  unfold BackwardReferenceIdeal.Gen.rG BackwardReferenceIdeal.Gen.refG BackwardIdeal.Gen.bG
  rw [BackwardReferenceIdeal.Gen.V_main_arg0, BackwardIdeal.Gen.V_main_arg0, h.a0]

/-- The weights agree. -/
theorem back_W_eq : BackwardReferenceIdeal.Gen.rW m' c = BackwardIdeal.Gen.bW m c := by
  unfold BackwardReferenceIdeal.Gen.rW BackwardReferenceIdeal.Gen.refW BackwardIdeal.Gen.bW
  rw [BackwardReferenceIdeal.Gen.V_main_arg1, BackwardIdeal.Gen.V_main_arg1, h.a1]

/-- The scales' gradients agree. -/
theorem back8 : (BackwardReferenceIdeal.Gen.dats m' 0 c).arrAt 8 BackwardReferenceIdeal.cfg0.N = BackwardIdeal.Gen.R8 m c := by
  funext i
  rw [BackwardIdeal.Gen.eta i]
  refine (BackwardReferenceIdeal.Gen.R8_at m' c (i 0) (i 1)).trans ?_
  rw [back_X_eq h, back_G_eq h, back_W_eq h]
  rfl

/-- The shifts' gradients agree. -/
theorem back9 : (BackwardReferenceIdeal.Gen.dats m' 0 c).arrAt 9 BackwardReferenceIdeal.cfg0.N = BackwardIdeal.Gen.R9 m c := by
  funext i
  rw [BackwardIdeal.Gen.eta i]
  refine (BackwardReferenceIdeal.Gen.R9_at m' c (i 0) (i 1)).trans ?_
  rw [back_X_eq h, back_G_eq h, back_W_eq h]
  rfl

/-- The weights before their quantisation agree. -/
theorem back_Wt_eq : BackwardReferenceIdeal.Gen.rWt m' c = BackwardIdeal.Gen.bWt m c := by
  unfold BackwardReferenceIdeal.Gen.rWt BackwardReferenceIdeal.Gen.refW BackwardIdeal.Gen.bWt
  rw [BackwardReferenceIdeal.Gen.V_main_arg3, BackwardIdeal.Gen.V_main_arg3, h.a3]

/-- The masked weights agree. -/
theorem back_M_eq : BackwardReferenceIdeal.Gen.rM m' c = BackwardIdeal.Gen.bM m c := by
  unfold BackwardReferenceIdeal.Gen.rM BackwardReferenceIdeal.Gen.refW BackwardIdeal.Gen.bM
  rw [BackwardReferenceIdeal.Gen.V_main_arg2, BackwardIdeal.Gen.V_main_arg2, h.a2]

/-- The normalised weights' gradients agree where those are real. -/
theorem back10 (hr : BackwardIdeal.Gen.RealBack m c) :
    (BackwardReferenceIdeal.Gen.dats m' 0 c).arrAt 10 BackwardReferenceIdeal.cfg0.N = BackwardIdeal.Gen.R10 m c := by
  funext i
  rw [BackwardIdeal.Gen.eta i]
  refine (BackwardReferenceIdeal.Gen.R10_at m' c (i 0) (i 1)).trans ?_
  rw [back_X_eq h, back_G_eq h, back_M_eq h]
  exact BackwardIdeal.Gen.wsum_back hr (i 0) (i 1)

/-- The biases' gradients agree. -/
theorem back_B_eq : BackwardReferenceIdeal.Gen.rB m' c = BackwardIdeal.Gen.bB m c := by
  unfold BackwardReferenceIdeal.Gen.rB BackwardReferenceIdeal.Gen.refB BackwardIdeal.Gen.bB
  rw [BackwardReferenceIdeal.Gen.V_v2, h.a7]

/-- The weights' part of the shifts' gradients agrees. -/
theorem back11 : (BackwardReferenceIdeal.Gen.dats m' 0 c).arrAt 11 BackwardReferenceIdeal.cfg0.N = BackwardIdeal.Gen.R11 m c := by
  funext i
  rw [BackwardIdeal.Gen.eta i]
  refine (BackwardReferenceIdeal.Gen.R11_at m' c (i 0) (i 1)).trans ?_
  rw [back_Wt_eq h, back_B_eq h]
  rfl

end Cert.Proof

end
-- ==== Proof.lean ====
module

public import proofs.«01_k».proof.Defs
public import proofs.«01_k».proof.Proof.Gen.Backward.Skeleton
public import proofs.«01_k».proof.Proof.Gen.Backward.Loops
public import proofs.«01_k».proof.Proof.Gen.Backward.Frame
public import proofs.«01_k».proof.Proof.Gen.BackwardIdeal.Skeleton
public import proofs.«01_k».proof.Proof.Gen.BackwardIdeal.Loops
public import proofs.«01_k».proof.Proof.Gen.BackwardIdeal.Frame
public import proofs.«01_k».proof.Proof.Gen.BackwardReferenceIdeal
public import proofs.«01_k».proof.Proof.Gen.BackwardReferenceIdeal.Value
public import proofs.«01_k».proof.Proof.Gen.KernelIdeal.Value
public import proofs.«01_k».proof.Proof.Gen.ReferenceIdeal.Value
public import proofs.«01_k».proof.Proof.Agree
public import proofs.«01_k».proof.Proof.BackFrame.Frame
public import proofs.«01_k».proof.Proof.BackAgree
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- Kernel and reference, run from equal arguments, leave equal results: the kernel's six arrays, which the reference's
    equal one by one. -/
theorem value : Cert.algebraic_KernelIdeal_ReferenceIdeal (hKernelIdeal := Cert.KernelIdeal.Gen.facts)
    (hReferenceIdeal := Cert.ReferenceIdeal.Gen.facts) := by
  intro m g m' g' _ hargs
  have hs : ∀ c, Same m m' c := fun c =>
    ⟨(hargs c).1, (hargs c).2.1, (hargs c).2.2.1, (hargs c).2.2.2.1, (hargs c).2.2.2.2.1, (hargs c).2.2.2.2.2⟩
  refine ⟨fun c => Cert.KernelIdeal.Value.G6 m c, fun c => Cert.KernelIdeal.Value.G7 m c,
    fun c => Cert.KernelIdeal.Value.G8 m c, fun c => Cert.KernelIdeal.Value.G9 m c,
    fun c => Cert.KernelIdeal.Value.G10 m c, fun c => Cert.KernelIdeal.Value.G11 m c,
    Cert.KernelIdeal.Value.run m g, ?_⟩
  refine (θ_run _ _ _).mono (fun r h c => ?_) (Cert.ReferenceIdeal.Value.run_blocks m' g')
  obtain ⟨h6, h7, h8, h9, h10, h11, hk⟩ := h c
  exact ⟨h6.trans (res6 (hs c)), h7.trans (res7 (hs c)), h8.trans (res8 (hs c)), h9.trans (res9 (hs c)),
    h10.trans (res10 (hs c)), h11.trans (res11 (hs c)), hk⟩

/-- The shapes of the precondition and of the mask agree as they state. -/
theorem finite_facts : Cert.Pre_finite.Facts := ⟨by decide, by decide⟩
theorem unconditional_facts : Cert.On_unconditional.Facts := ⟨by decide⟩

/-- The backward call and its reference, run from equal arguments, leave three results equal. -/
theorem back_value : Cert.algebraic_BackwardIdeal_BackwardReferenceIdeal_on_unconditional (hBackwardIdeal := Cert.BackwardIdeal.Gen.facts)
    (hBackwardReferenceIdeal := Cert.BackwardReferenceIdeal.Gen.facts) (hOn_unconditional := unconditional_facts) := by
  intro m g m' g' _ hargs
  have hs : ∀ c, SameBack m m' c := fun c =>
    ⟨(hargs c).1, (hargs c).2.1, (hargs c).2.2.1, (hargs c).2.2.2.1, (hargs c).2.2.2.2.1, (hargs c).2.2.2.2.2.1, (hargs c).2.2.2.2.2.2.1, (hargs c).2.2.2.2.2.2.2⟩
  refine ⟨fun c => Cert.BackwardIdeal.Gen.R8 m c, fun c => Cert.BackwardIdeal.Gen.R9 m c, fun c => Cert.BackwardIdeal.Gen.R10 m c,
    fun c => Cert.BackwardIdeal.Gen.R11 m c, ?_, ?_⟩
  · refine (θ_run _ _ _).mono (fun r h c => ?_) (Cert.BackwardIdeal.Gen.run m g)
    obtain ⟨h8, h9, h10, h11, hk⟩ := h c
    exact ⟨fun i _ => congrFun h8 i, fun i _ => congrFun h9 i, fun i _ => congrFun h10 i, fun i _ => congrFun h11 i, hk⟩
  · refine (θ_run _ _ _).mono (fun r h c => ?_) (Cert.BackwardReferenceIdeal.Value.run_blocks m' g')
    obtain ⟨h8, h9, h10, h11, hk⟩ := h c
    exact ⟨fun i _ => congrFun (h8.trans (back8 (hs c))) i, fun i _ => congrFun (h9.trans (back9 (hs c))) i,
      fun i hi => absurd (show (0#1 : BitVec 1) = 1#1 from hi) (by decide),
      fun i _ => congrFun (h11.trans (back11 (hs c))) i, hk⟩

/-- What the precondition says of the arguments. -/
theorem real_back (m : (ℓ : Loc Cert.BackwardIdeal.nD Cert.BackwardIdeal.τ Cert.BackwardIdeal.sig) → Buf (Elt Ideal) ℓ)
    (h : Cert.Pre_BackwardIdeal_finite (hPre_finite := finite_facts) m) (c : Dev Cert.BackwardIdeal.nD) :
    Cert.BackwardIdeal.Gen.RealBack m c := by
  obtain ⟨h1, h2⟩ := h c
  have b : Ideal.ofBits .bf16 0x7F80#16 = (⊤ : EReal) := by simp [Ideal.ofBits, Ideal.ieee]
  exact ⟨Cert.BackwardIdeal.Gen.real_of_olt _ _ (fun _ => b) h1, Cert.BackwardIdeal.Gen.real_of_olt _ _ (fun _ => b) h2⟩

/-- Run from equal arguments with real output gradients and masked weights, they leave all four results equal. -/
theorem back_value_finite : Cert.algebraic_BackwardIdeal_BackwardReferenceIdeal_pre_finite (hBackwardIdeal := Cert.BackwardIdeal.Gen.facts)
    (hBackwardReferenceIdeal := Cert.BackwardReferenceIdeal.Gen.facts) (hPre_finite := finite_facts) := by
  intro m g m' g' hpre hargs
  have hs : ∀ c, SameBack m m' c := fun c =>
    ⟨(hargs c).1, (hargs c).2.1, (hargs c).2.2.1, (hargs c).2.2.2.1, (hargs c).2.2.2.2.1, (hargs c).2.2.2.2.2.1, (hargs c).2.2.2.2.2.2.1, (hargs c).2.2.2.2.2.2.2⟩
  refine ⟨fun c => Cert.BackwardIdeal.Gen.R8 m c, fun c => Cert.BackwardIdeal.Gen.R9 m c, fun c => Cert.BackwardIdeal.Gen.R10 m c,
    fun c => Cert.BackwardIdeal.Gen.R11 m c, Cert.BackwardIdeal.Gen.run m g, ?_⟩
  refine (θ_run _ _ _).mono (fun r h c => ?_) (Cert.BackwardReferenceIdeal.Value.run_blocks m' g')
  obtain ⟨h8, h9, h10, h11, hk⟩ := h c
  exact ⟨h8.trans (back8 (hs c)), h9.trans (back9 (hs c)), h10.trans (back10 (hs c) (real_back m hpre c)), h11.trans (back11 (hs c)), hk⟩

/-- All the claims. -/
theorem claim : Cert.Claim := ⟨Cert.Kernel.Gen.facts, Cert.KernelIdeal.Gen.facts, Cert.ReferenceIdeal.Gen.facts,
  Cert.Backward.Gen.facts, Cert.BackwardIdeal.Gen.facts, Cert.BackwardReferenceIdeal.Gen.facts, finite_facts, unconditional_facts,
  fun m ρ _ => Cert.Kernel.Gen.frame m ρ, fun m ρ _ => Cert.KernelIdeal.Gen.frame m ρ,
  fun m ρ _ => Cert.ReferenceIdeal.Gen.frame m ρ, fun m ρ _ => Cert.Backward.Gen.frame m ρ,
  fun m ρ _ => Cert.BackwardIdeal.Gen.frame m ρ, fun m ρ _ => Cert.BackwardIdeal.Gen.frame m ρ,
  fun m ρ _ => Cert.BackwardReferenceIdeal.Gen.frame m ρ, fun m ρ _ => Cert.BackwardReferenceIdeal.Gen.frame m ρ,
  trivial, value, trivial, back_value, back_value_finite⟩

end Cert.Proof

end
